-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2x2048x512 : Shape := ⟨3, ![2, 2048, 512]⟩
abbrev S4x1024x512 : Shape := ⟨3, ![4, 1024, 512]⟩
abbrev S8x1024x256 : Shape := ⟨3, ![8, 1024, 256]⟩
abbrev S4x1024x256 : Shape := ⟨3, ![4, 1024, 256]⟩
abbrev S2x1024x512 : Shape := ⟨3, ![2, 1024, 512]⟩
abbrev S2 : Shape := ⟨1, ![2]⟩
abbrev S4 : Shape := ⟨1, ![4]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S2048x1024 : Shape := ⟨2, ![2048, 1024]⟩
abbrev S1024x512 : Shape := ⟨2, ![1024, 512]⟩
abbrev S1x1024x512 : Shape := ⟨3, ![1, 1024, 512]⟩
abbrev S1024x256 : Shape := ⟨2, ![1024, 256]⟩
abbrev S1x1024x256 : Shape := ⟨3, ![1, 1024, 256]⟩
abbrev S2x1024x256 : Shape := ⟨3, ![2, 1024, 256]⟩

abbrev nBuf : Space → Nat
  | .hbm => 3
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .local _ .vmem, ⟨0, _⟩ => ⟨S2x2048x512, .f32⟩
  | .local _ .vmem, ⟨1, _⟩ => ⟨S2048x2048, .bf16⟩
  | .local _ .vmem, ⟨2, _⟩ => ⟨S2x2048x512, .bf16⟩
  | .local _ .vmem, ⟨3, _⟩ => ⟨S4x1024x512, .f32⟩
  | .local _ .vmem, ⟨4, _⟩ => ⟨S4x1024x512, .bf16⟩
  | .local _ .vmem, ⟨5, _⟩ => ⟨S4x1024x512, .bf16⟩
  | .local _ .vmem, ⟨6, _⟩ => ⟨S8x1024x256, .bf16⟩
  | .local _ .vmem, ⟨7, _⟩ => ⟨S8x1024x256, .bf16⟩
  | .local _ .vmem, ⟨8, _⟩ => ⟨S8x1024x256, .bf16⟩
  | .local _ .vmem, ⟨9, _⟩ => ⟨S4x1024x256, .bf16⟩
  | .local _ .vmem, ⟨10, _⟩ => ⟨S4x1024x256, .bf16⟩
  | .local _ .vmem, ⟨11, _⟩ => ⟨S2x1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 2 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_15 : BitVec 32 := 4#32
  let v25 : BitVec 32 := Scalar.muli v21 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_21 : BitVec 32 := 2#32
  let v33 : BitVec 32 := Scalar.muli v22 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_27 : BitVec 32 := 1#32
  let v41 : BitVec 32 := Scalar.muli v23 c1_i32_27
  let v42 : BitVec 32 := Scalar.addi v40 v41
  v42.toNat
def k0_off1 (d0 : Dev nD) : Fin 2 → Nat :=
  let c0_i32_41 : BitVec 32 := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1024_i32 : BitVec 32 := 1024#32
  let v44 : BitVec 32 := Scalar.muli v43 c1024_i32
  ![0, v44.toNat]
def k0_off2 (d0 : Dev nD) : Fin 2 → Nat :=
  let c0_i32_51 : BitVec 32 := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1024_i32 : BitVec 32 := 1024#32
  let v44 : BitVec 32 := Scalar.muli v43 c1024_i32
  let c512_i32 : BitVec 32 := 512#32
  let v46 : BitVec 32 := Scalar.addi v44 c512_i32
  ![0, v46.toNat]
def k0_off3 (d0 : Dev nD) : Fin 2 → Nat :=
  let c0_54 : Index := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1024_i32 : BitVec 32 := 1024#32
  let v44 : BitVec 32 := Scalar.muli v43 c1024_i32
  let v74 : Index := Scalar.indexCast v44
  ![0, v74.toNat]
def k0_off4 (d0 : Dev nD) : Fin 2 → Nat :=
  let c0_i32_64 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  ![0, v45.toNat]
def k0_off5 (d0 : Dev nD) : Fin 2 → Nat :=
  let c0_67 : Index := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1024_i32 : BitVec 32 := 1024#32
  let v44 : BitVec 32 := Scalar.muli v43 c1024_i32
  let c512_i32 : BitVec 32 := 512#32
  let v46 : BitVec 32 := Scalar.addi v44 c512_i32
  let v91 : Index := Scalar.indexCast v46
  ![0, v91.toNat]
def k0_off6 (d0 : Dev nD) : Fin 2 → Nat :=
  let c0_i32_77 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  let c512_i32_30 : BitVec 32 := 512#32
  let v47 : BitVec 32 := Scalar.addi v45 c512_i32_30
  ![0, v47.toNat]
def k0_off7 (d0 : Dev nD) : Fin 2 → Nat :=
  let c0_81 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  let v108 : Index := Scalar.indexCast v45
  ![0, v108.toNat]
def k0_off8 (d0 : Dev nD) (c0_i32_31 : BitVec 32) : Fin 2 → Nat :=
  let c0_i32_91 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v48 : BitVec 32 := Scalar.muli v10 c2048_i32
  let v49 : BitVec 32 := Scalar.addi v48 c0_i32_31
  ![0, v49.toNat]
def k0_off9 (d0 : Dev nD) : Fin 2 → Nat :=
  let c0_95 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  let c512_i32_30 : BitVec 32 := 512#32
  let v47 : BitVec 32 := Scalar.addi v45 c512_i32_30
  let v125 : Index := Scalar.indexCast v47
  ![0, v125.toNat]
def k0_off10 (d0 : Dev nD) : Fin 2 → Nat :=
  let c0_112 : Index := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1024_i32 : BitVec 32 := 1024#32
  let v44 : BitVec 32 := Scalar.muli v43 c1024_i32
  let v145 : Index := Scalar.indexCast v44
  ![0, v145.toNat]
def k0_dev4 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v154 : BitVec 32 := Scalar.muli v2 c4_i32_123
  let v155 : BitVec 32 := Scalar.addi c0_i32_124 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v156 : BitVec 32 := Scalar.muli v5 c2_i32_125
  let v157 : BitVec 32 := Scalar.addi v155 v156
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_126 : BitVec 32 := 1#32
  let v158 : BitVec 32 := Scalar.muli v23 c1_i32_126
  let v159 : BitVec 32 := Scalar.addi v157 v158
  v159.toNat
def k0_off11 (d0 : Dev nD) : Fin 2 → Nat :=
  let c0_131 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  let v168 : Index := Scalar.indexCast v45
  ![0, v168.toNat]
def k0_dev5 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v201 : BitVec 32 := Scalar.muli v2 c4_i32_167
  let v202 : BitVec 32 := Scalar.addi c0_i32_168 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v203 : BitVec 32 := Scalar.muli v5 c2_i32_169
  let v204 : BitVec 32 := Scalar.addi v202 v203
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_170 : BitVec 32 := 1#32
  let v205 : BitVec 32 := Scalar.muli v23 c1_i32_170
  let v206 : BitVec 32 := Scalar.addi v204 v205
  v206.toNat
def k0_dev6 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v248 : BitVec 32 := Scalar.muli v2 c4_i32_210
  let v249 : BitVec 32 := Scalar.addi c0_i32_211 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v250 : BitVec 32 := Scalar.muli v5 c2_i32_212
  let v251 : BitVec 32 := Scalar.addi v249 v250
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_213 : BitVec 32 := 1#32
  let v252 : BitVec 32 := Scalar.muli v23 c1_i32_213
  let v253 : BitVec 32 := Scalar.addi v251 v252
  v253.toNat
def k0_dev7 (d0 : Dev nD) : Nat :=
  let c0_i32_249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_248 : BitVec 32 := 4#32
  let v290 : BitVec 32 := Scalar.muli v2 c4_i32_248
  let v291 : BitVec 32 := Scalar.addi c0_i32_249 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_250 : BitVec 32 := 2#32
  let v292 : BitVec 32 := Scalar.muli v5 c2_i32_250
  let v293 : BitVec 32 := Scalar.addi v291 v292
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_251 : BitVec 32 := 1#32
  let v294 : BitVec 32 := Scalar.muli v23 c1_i32_251
  let v295 : BitVec 32 := Scalar.addi v293 v294
  v295.toNat
def k0_dev8 (d0 : Dev nD) : Nat :=
  let c0_i32_303 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_302 : BitVec 32 := 4#32
  let v349 : BitVec 32 := Scalar.muli v21 c4_i32_302
  let v350 : BitVec 32 := Scalar.addi c0_i32_303 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_304 : BitVec 32 := 2#32
  let v351 : BitVec 32 := Scalar.muli v5 c2_i32_304
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v353 : BitVec 32 := Scalar.muli v8 c1_i32_305
  let v354 : BitVec 32 := Scalar.addi v352 v353
  v354.toNat
def k0_dev9 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v361 : BitVec 32 := Scalar.muli v2 c4_i32_314
  let v362 : BitVec 32 := Scalar.addi c0_i32_315 v361
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_316 : BitVec 32 := 2#32
  let v363 : BitVec 32 := Scalar.muli v22 c2_i32_316
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v365 : BitVec 32 := Scalar.muli v8 c1_i32_317
  let v366 : BitVec 32 := Scalar.addi v364 v365
  v366.toNat
def k0_off12 (d0 : Dev nD) (c0_i32_325 : BitVec 32) : Fin 2 → Nat :=
  let c0_i32_328 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_324 : BitVec 32 := 2048#32
  let v373 : BitVec 32 := Scalar.muli v10 c2048_i32_324
  let v374 : BitVec 32 := Scalar.addi v373 c0_i32_325
  ![0, v374.toNat]
def k0_dev10 (d0 : Dev nD) : Nat :=
  let c0_i32_370 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_369 : BitVec 32 := 4#32
  let v417 : BitVec 32 := Scalar.muli v21 c4_i32_369
  let v418 : BitVec 32 := Scalar.addi c0_i32_370 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v419 : BitVec 32 := Scalar.muli v5 c2_i32_371
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v421 : BitVec 32 := Scalar.muli v8 c1_i32_372
  let v422 : BitVec 32 := Scalar.addi v420 v421
  v422.toNat
def k0_dev11 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v429 : BitVec 32 := Scalar.muli v2 c4_i32_381
  let v430 : BitVec 32 := Scalar.addi c0_i32_382 v429
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_383 : BitVec 32 := 2#32
  let v431 : BitVec 32 := Scalar.muli v22 c2_i32_383
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v433 : BitVec 32 := Scalar.muli v8 c1_i32_384
  let v434 : BitVec 32 := Scalar.addi v432 v433
  v434.toNat
def k0_dev12 (d0 : Dev nD) : Nat :=
  let c0_i32_435 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_434 : BitVec 32 := 4#32
  let v485 : BitVec 32 := Scalar.muli v21 c4_i32_434
  let v486 : BitVec 32 := Scalar.addi c0_i32_435 v485
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_436 : BitVec 32 := 2#32
  let v487 : BitVec 32 := Scalar.muli v5 c2_i32_436
  let v488 : BitVec 32 := Scalar.addi v486 v487
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_437 : BitVec 32 := 1#32
  let v489 : BitVec 32 := Scalar.muli v8 c1_i32_437
  let v490 : BitVec 32 := Scalar.addi v488 v489
  v490.toNat
def k0_dev13 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v497 : BitVec 32 := Scalar.muli v2 c4_i32_446
  let v498 : BitVec 32 := Scalar.addi c0_i32_447 v497
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_448 : BitVec 32 := 2#32
  let v499 : BitVec 32 := Scalar.muli v22 c2_i32_448
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_449 : BitVec 32 := 1#32
  let v501 : BitVec 32 := Scalar.muli v8 c1_i32_449
  let v502 : BitVec 32 := Scalar.addi v500 v501
  v502.toNat
def k0_dev14 (d0 : Dev nD) : Nat :=
  let c0_i32_500 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_499 : BitVec 32 := 4#32
  let v553 : BitVec 32 := Scalar.muli v21 c4_i32_499
  let v554 : BitVec 32 := Scalar.addi c0_i32_500 v553
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v555 : BitVec 32 := Scalar.muli v5 c2_i32_501
  let v556 : BitVec 32 := Scalar.addi v554 v555
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_502 : BitVec 32 := 1#32
  let v557 : BitVec 32 := Scalar.muli v8 c1_i32_502
  let v558 : BitVec 32 := Scalar.addi v556 v557
  v558.toNat
def k0_dev15 (d0 : Dev nD) : Nat :=
  let c0_i32_511 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_510 : BitVec 32 := 4#32
  let v565 : BitVec 32 := Scalar.muli v2 c4_i32_510
  let v566 : BitVec 32 := Scalar.addi c0_i32_511 v565
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_512 : BitVec 32 := 2#32
  let v567 : BitVec 32 := Scalar.muli v22 c2_i32_512
  let v568 : BitVec 32 := Scalar.addi v566 v567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_513 : BitVec 32 := 1#32
  let v569 : BitVec 32 := Scalar.muli v8 c1_i32_513
  let v570 : BitVec 32 := Scalar.addi v568 v569
  v570.toNat
def k0_dev16 (d0 : Dev nD) : Nat :=
  let c0_i32_553 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_552 : BitVec 32 := 4#32
  let v598 : BitVec 32 := Scalar.muli v2 c4_i32_552
  let v599 : BitVec 32 := Scalar.addi c0_i32_553 v598
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_554 : BitVec 32 := 2#32
  let v600 : BitVec 32 := Scalar.muli v22 c2_i32_554
  let v601 : BitVec 32 := Scalar.addi v599 v600
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_555 : BitVec 32 := 1#32
  let v602 : BitVec 32 := Scalar.muli v8 c1_i32_555
  let v603 : BitVec 32 := Scalar.addi v601 v602
  v603.toNat
def k0_dev17 (d0 : Dev nD) : Nat :=
  let c0_i32_586 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_585 : BitVec 32 := 4#32
  let v626 : BitVec 32 := Scalar.muli v21 c4_i32_585
  let v627 : BitVec 32 := Scalar.addi c0_i32_586 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_587 : BitVec 32 := 2#32
  let v628 : BitVec 32 := Scalar.muli v5 c2_i32_587
  let v629 : BitVec 32 := Scalar.addi v627 v628
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_588 : BitVec 32 := 1#32
  let v630 : BitVec 32 := Scalar.muli v8 c1_i32_588
  let v631 : BitVec 32 := Scalar.addi v629 v630
  v631.toNat
def k0_off13 (d0 : Dev nD) (c0_i32_600 : BitVec 32) : Fin 2 → Nat :=
  let c0_i32_606 : BitVec 32 := 0#32
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32_599 : BitVec 32 := 2048#32
  let v645 : BitVec 32 := Scalar.muli v13 c2048_i32_599
  let v646 : BitVec 32 := Scalar.addi v645 c0_i32_600
  ![0, v646.toNat]
def k0_off14 (d0 : Dev nD) (c0_i32_616 : BitVec 32) : Fin 2 → Nat :=
  let c0_i32_622 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c2048_i32_615 : BitVec 32 := 2048#32
  let v661 : BitVec 32 := Scalar.muli v16 c2048_i32_615
  let v662 : BitVec 32 := Scalar.addi v661 c0_i32_616
  ![0, v662.toNat]
def k0_dev18 (d0 : Dev nD) : Nat :=
  let c0_i32_651 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_650 : BitVec 32 := 4#32
  let v686 : BitVec 32 := Scalar.muli v2 c4_i32_650
  let v687 : BitVec 32 := Scalar.addi c0_i32_651 v686
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_652 : BitVec 32 := 2#32
  let v688 : BitVec 32 := Scalar.muli v22 c2_i32_652
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_653 : BitVec 32 := 1#32
  let v690 : BitVec 32 := Scalar.muli v8 c1_i32_653
  let v691 : BitVec 32 := Scalar.addi v689 v690
  v691.toNat
def k0_dev19 (d0 : Dev nD) : Nat :=
  let c0_i32_684 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_683 : BitVec 32 := 4#32
  let v714 : BitVec 32 := Scalar.muli v21 c4_i32_683
  let v715 : BitVec 32 := Scalar.addi c0_i32_684 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_685 : BitVec 32 := 2#32
  let v716 : BitVec 32 := Scalar.muli v5 c2_i32_685
  let v717 : BitVec 32 := Scalar.addi v715 v716
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_686 : BitVec 32 := 1#32
  let v718 : BitVec 32 := Scalar.muli v8 c1_i32_686
  let v719 : BitVec 32 := Scalar.addi v717 v718
  v719.toNat
def k0_dev20 (d0 : Dev nD) : Nat :=
  let c0_i32_758 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_757 : BitVec 32 := 4#32
  let v784 : BitVec 32 := Scalar.muli v2 c4_i32_757
  let v785 : BitVec 32 := Scalar.addi c0_i32_758 v784
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_759 : BitVec 32 := 2#32
  let v786 : BitVec 32 := Scalar.muli v22 c2_i32_759
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_760 : BitVec 32 := 1#32
  let v788 : BitVec 32 := Scalar.muli v8 c1_i32_760
  let v789 : BitVec 32 := Scalar.addi v787 v788
  v789.toNat
def k0_dev21 (d0 : Dev nD) : Nat :=
  let c0_i32_791 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_790 : BitVec 32 := 4#32
  let v812 : BitVec 32 := Scalar.muli v21 c4_i32_790
  let v813 : BitVec 32 := Scalar.addi c0_i32_791 v812
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_792 : BitVec 32 := 2#32
  let v814 : BitVec 32 := Scalar.muli v5 c2_i32_792
  let v815 : BitVec 32 := Scalar.addi v813 v814
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_793 : BitVec 32 := 1#32
  let v816 : BitVec 32 := Scalar.muli v8 c1_i32_793
  let v817 : BitVec 32 := Scalar.addi v815 v816
  v817.toNat
def k0_dev22 (d0 : Dev nD) : Nat :=
  let c0_i32_865 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_864 : BitVec 32 := 4#32
  let v882 : BitVec 32 := Scalar.muli v2 c4_i32_864
  let v883 : BitVec 32 := Scalar.addi c0_i32_865 v882
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_866 : BitVec 32 := 2#32
  let v884 : BitVec 32 := Scalar.muli v22 c2_i32_866
  let v885 : BitVec 32 := Scalar.addi v883 v884
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_867 : BitVec 32 := 1#32
  let v886 : BitVec 32 := Scalar.muli v8 c1_i32_867
  let v887 : BitVec 32 := Scalar.addi v885 v886
  v887.toNat
def k0_dev23 (d0 : Dev nD) : Nat :=
  let c0_i32_898 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_897 : BitVec 32 := 4#32
  let v910 : BitVec 32 := Scalar.muli v21 c4_i32_897
  let v911 : BitVec 32 := Scalar.addi c0_i32_898 v910
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_899 : BitVec 32 := 2#32
  let v912 : BitVec 32 := Scalar.muli v5 c2_i32_899
  let v913 : BitVec 32 := Scalar.addi v911 v912
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_900 : BitVec 32 := 1#32
  let v914 : BitVec 32 := Scalar.muli v8 c1_i32_900
  let v915 : BitVec 32 := Scalar.addi v913 v914
  v915.toNat
def k0_off15 (d0 : Dev nD) (c0_i32_996 : BitVec 32) : Fin 2 → Nat :=
  let c0_i32_1007 : BitVec 32 := 0#32
  let c2_i32_9 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v18 : BitVec 32 := Scalar.muli c2_i32_9 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v20 : BitVec 32 := Scalar.addi v18 v19
  let c2048_i32_995 : BitVec 32 := 2048#32
  let v1007 : BitVec 32 := Scalar.muli v20 c2048_i32_995
  let v1008 : BitVec 32 := Scalar.addi v1007 c0_i32_996
  ![0, v1008.toNat]
def k0_dev24 (d0 : Dev nD) : Nat :=
  let c0_i32_1231_r0 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_1230_r0 : BitVec 32 := 4#32
  let v1225_r0 : BitVec 32 := Scalar.muli v21 c4_i32_1230_r0
  let v1226_r0 : BitVec 32 := Scalar.addi c0_i32_1231_r0 v1225_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1232_r0 : BitVec 32 := 2#32
  let v1227_r0 : BitVec 32 := Scalar.muli v5 c2_i32_1232_r0
  let v1228_r0 : BitVec 32 := Scalar.addi v1226_r0 v1227_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1233_r0 : BitVec 32 := 1#32
  let v1229_r0 : BitVec 32 := Scalar.muli v8 c1_i32_1233_r0
  let v1230_r0 : BitVec 32 := Scalar.addi v1228_r0 v1229_r0
  v1230_r0.toNat
def k0_dev25 (d0 : Dev nD) : Nat :=
  let c0_i32_1236_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1235_r0 : BitVec 32 := 4#32
  let v1231_r0 : BitVec 32 := Scalar.muli v2 c4_i32_1235_r0
  let v1232_r0 : BitVec 32 := Scalar.addi c0_i32_1236_r0 v1231_r0
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_1237_r0 : BitVec 32 := 2#32
  let v1233_r0 : BitVec 32 := Scalar.muli v22 c2_i32_1237_r0
  let v1234_r0 : BitVec 32 := Scalar.addi v1232_r0 v1233_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1238_r0 : BitVec 32 := 1#32
  let v1235_r0 : BitVec 32 := Scalar.muli v8 c1_i32_1238_r0
  let v1236_r0 : BitVec 32 := Scalar.addi v1234_r0 v1235_r0
  v1236_r0.toNat
def k0_dev26 (d0 : Dev nD) : Nat :=
  let c0_i32_1241_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1240_r0 : BitVec 32 := 4#32
  let v1237_r0 : BitVec 32 := Scalar.muli v2 c4_i32_1240_r0
  let v1238_r0 : BitVec 32 := Scalar.addi c0_i32_1241_r0 v1237_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1242_r0 : BitVec 32 := 2#32
  let v1239_r0 : BitVec 32 := Scalar.muli v5 c2_i32_1242_r0
  let v1240_r0 : BitVec 32 := Scalar.addi v1238_r0 v1239_r0
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_1243_r0 : BitVec 32 := 1#32
  let v1241_r0 : BitVec 32 := Scalar.muli v23 c1_i32_1243_r0
  let v1242_r0 : BitVec 32 := Scalar.addi v1240_r0 v1241_r0
  v1242_r0.toNat
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Kernel.BodyEq.lean ====
/- The printed body of the kernel is the sequence of stages of Prog.lean. -/
module

public import proofs.«01_k».proof.Proof.Kernel.Prog

@[expose] public section

noncomputable section

namespace Cert.Kernel.Stages

open Cert.Kernel Cert.Kernel.Gen
open Idealize.ShloMosaic Idealize.ShloMosaic.TcCoe
open Idealize.SL Idealize.SL.Sem

variable {F : FTy → Type} [FloatOps F]

set_option maxRecDepth 65536 in
set_option maxHeartbeats 4000000 in
/-- The printed body is the sequence of the stages. -/
theorem body_eq : bodyAt0 (F := F) t0_0 = body := rfl

end Cert.Kernel.Stages
end
-- ==== Proof.KernelIdeal.Prog.lean ====
/-
  The kernel's body once more, as a sequence of named stages: each stage that the printed text repeats (for the four
  column blocks of x, the four of dy, the four exchanges along z, …) is one definition with the block as a parameter.
  That the printed body is this sequence is `body_eq` of BodyEq.lean.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Stages

open Cert.KernelIdeal Cert.KernelIdeal.Gen
open Idealize.ShloMosaic Idealize.ShloMosaic.TcCoe
open Idealize.SL Idealize.SL.Sem

variable {F : FTy → Type} [FloatOps F]

/-! ## Evidence at a symbolic slot -/

theorem inb3 {n a b : ℕ} (k m : ℕ) (h : k + m ≤ n) :
    ∀ x, (![k, 0, 0] : Fin 3 → ℕ) x + (⟨3, ![m, a, b]⟩ : Shape).size x ≤ (⟨3, ![n, a, b]⟩ : Shape).size x := by
  intro x; fin_cases x
  · exact h
  · show 0 + a ≤ a; omega
  · show 0 + b ≤ b; omega

theorem inb1 {n : ℕ} (k : ℕ) (h : k < n) :
    ∀ x, (![k] : Fin 1 → ℕ) x + (⟨1, ![1]⟩ : Shape).size x ≤ (⟨1, ![n]⟩ : Shape).size x := by
  intro x; fin_cases x; exact h

/-- Rows `k … k + m` of a buffer of `n` slots. -/
abbrev rows (n a b k m : ℕ) (h : k + m ≤ n) : Rect ⟨3, ![n, a, b]⟩ :=
  Rect.unit (s := ⟨3, ![n, a, b]⟩) ![k, 0, 0] (⟨3, ![m, a, b]⟩ : Shape).size (inb3 k m h)

theorem lt1 {n : ℕ} (t : Fin n) : t.val + 1 ≤ n := t.isLt
theorem pair8 (t : Fin 4) : 2 * t.val + 2 ≤ 8 := by omega
theorem fst8 (t : Fin 4) : 2 * t.val + 1 ≤ 8 := by omega
theorem snd8 (t : Fin 4) : (2 * t.val + 1) + 1 ≤ 8 := by omega

theorem packed_dyb (s : Fin 2) : (rows 2 2048 512 s.val 1 (lt1 s)).PackedRows (EltTy.packing .bf16) := by
  fin_cases s
  · exact packedbf16_S2x2048x512_S1x2048x512_0_0_0
  · exact packedbf16_S2x2048x512_S1x2048x512_1_0_0

theorem packed_zs (t : Fin 4) : (rows 4 1024 512 t.val 1 (lt1 t)).PackedRows (EltTy.packing .bf16) := by
  fin_cases t
  · exact packedbf16_S4x1024x512_S1x1024x512_0_0_0
  · exact packedbf16_S4x1024x512_S1x1024x512_1_0_0
  · exact packedbf16_S4x1024x512_S1x1024x512_2_0_0
  · exact packedbf16_S4x1024x512_S1x1024x512_3_0_0

theorem packed_sb0 (t : Fin 4) : (rows 8 1024 256 (2 * t.val) 1 (fst8 t)).PackedRows (EltTy.packing .bf16) := by
  fin_cases t
  · exact packedbf16_S8x1024x256_S1x1024x256_0_0_0
  · exact packedbf16_S8x1024x256_S1x1024x256_2_0_0
  · exact packedbf16_S8x1024x256_S1x1024x256_4_0_0
  · exact packedbf16_S8x1024x256_S1x1024x256_6_0_0

theorem packed_sb1 (t : Fin 4) : (rows 8 1024 256 (2 * t.val + 1) 1 (snd8 t)).PackedRows (EltTy.packing .bf16) := by
  fin_cases t
  · exact packedbf16_S8x1024x256_S1x1024x256_1_0_0
  · exact packedbf16_S8x1024x256_S1x1024x256_3_0_0
  · exact packedbf16_S8x1024x256_S1x1024x256_5_0_0
  · exact packedbf16_S8x1024x256_S1x1024x256_7_0_0

theorem words_z (t : Fin 4) : (rows 4 1024 512 t.val 1 (lt1 t)).WholeWords (EltTy.packing .bf16) := by
  fin_cases t
  · exact wordsbf16_S4x1024x512_S1x1024x512_0_0_0
  · exact wordsbf16_S4x1024x512_S1x1024x512_1_0_0
  · exact wordsbf16_S4x1024x512_S1x1024x512_2_0_0
  · exact wordsbf16_S4x1024x512_S1x1024x512_3_0_0

theorem words_h (t : Fin 4) : (rows 4 1024 256 t.val 1 (lt1 t)).WholeWords (EltTy.packing .bf16) := by
  fin_cases t
  · exact wordsbf16_S4x1024x256_S1x1024x256_0_0_0
  · exact wordsbf16_S4x1024x256_S1x1024x256_1_0_0
  · exact wordsbf16_S4x1024x256_S1x1024x256_2_0_0
  · exact wordsbf16_S4x1024x256_S1x1024x256_3_0_0

theorem words_pair (t : Fin 4) : (rows 8 1024 256 (2 * t.val) 2 (pair8 t)).WholeWords (EltTy.packing .bf16) := by
  fin_cases t
  · exact wordsbf16_S8x1024x256_S2x1024x256_0_0_0
  · exact wordsbf16_S8x1024x256_S2x1024x256_2_0_0
  · exact wordsbf16_S8x1024x256_S2x1024x256_4_0_0
  · exact wordsbf16_S8x1024x256_S2x1024x256_6_0_0

theorem words_fst (t : Fin 4) : (rows 8 1024 256 (2 * t.val) 1 (fst8 t)).WholeWords (EltTy.packing .bf16) := by
  fin_cases t
  · exact wordsbf16_S8x1024x256_S1x1024x256_0_0_0
  · exact wordsbf16_S8x1024x256_S1x1024x256_2_0_0
  · exact wordsbf16_S8x1024x256_S1x1024x256_4_0_0
  · exact wordsbf16_S8x1024x256_S1x1024x256_6_0_0

theorem words_snd (t : Fin 4) : (rows 8 1024 256 (2 * t.val + 1) 1 (snd8 t)).WholeWords (EltTy.packing .bf16) := by
  fin_cases t
  · exact wordsbf16_S8x1024x256_S1x1024x256_1_0_0
  · exact wordsbf16_S8x1024x256_S1x1024x256_3_0_0
  · exact wordsbf16_S8x1024x256_S1x1024x256_5_0_0
  · exact wordsbf16_S8x1024x256_S1x1024x256_7_0_0

/-! ## The buffers and the slots -/

abbrev xM : Memref sig .tc .hbm S2048x2048 .f32 := Memref.whole main_arg0
abbrev dyM : Memref sig .tc .hbm S2048x8192 .f32 := Memref.whole main_arg1
abbrev outM : Memref sig .tc .hbm S1024x8192 .f32 := Memref.whole main_v1
abbrev ldM : Memref sig .tc .vmem S2x2048x512 .f32 := Memref.whole cc0_scratch0
abbrev xbM : Memref sig .tc .vmem S2048x2048 .bf16 := Memref.whole cc0_scratch1
abbrev dybM : Memref sig .tc .vmem S2x2048x512 .bf16 := Memref.whole cc0_scratch2
abbrev pkM : Memref sig .tc .vmem S4x1024x512 .f32 := Memref.whole cc0_scratch3
abbrev zsM : Memref sig .tc .vmem S4x1024x512 .bf16 := Memref.whole cc0_scratch4
abbrev zrM : Memref sig .tc .vmem S4x1024x512 .bf16 := Memref.whole cc0_scratch5
abbrev sbM : Memref sig .tc .vmem S8x1024x256 .bf16 := Memref.whole cc0_scratch6
abbrev gxM : Memref sig .tc .vmem S8x1024x256 .bf16 := Memref.whole cc0_scratch7
abbrev gyM : Memref sig .tc .vmem S8x1024x256 .bf16 := Memref.whole cc0_scratch8
abbrev hxM : Memref sig .tc .vmem S4x1024x256 .bf16 := Memref.whole cc0_scratch9
abbrev hyM : Memref sig .tc .vmem S4x1024x256 .bf16 := Memref.whole cc0_scratch10
abbrev cbM : Memref sig .tc .vmem S2x1024x512 .f32 := Memref.whole cc0_scratch11

/-- Semaphore `t` of an array of `n`. -/
abbrev dsem {n : ℕ} (a : DmaSems sig ⟨1, ![n]⟩) (t : Fin n) : DmaSem sig :=
  ((a.slice (Rect.unit (s := ⟨1, ![n]⟩) ![t.val] (⟨1, ![1]⟩ : Shape).size (inb1 t.val t.isLt))).squeeze S_ squeezes_S1_S_).sem

abbrev barS : Sem sig := (SemArray.scalar (sig.barrier 0 rfl) : Sems sig S_).sem
abbrev finS : Sem sig := (cc0_scoped0 : Sems sig S_).sem

abbrev ldR (s : Fin 2) : Rect S2x2048x512 := rows 2 2048 512 s.val 1 (lt1 s)
abbrev cbR (s : Fin 2) : Rect S2x1024x512 := rows 2 1024 512 s.val 1 (lt1 s)
abbrev zR (t : Fin 4) : Rect S4x1024x512 := rows 4 1024 512 t.val 1 (lt1 t)
abbrev hR (t : Fin 4) : Rect S4x1024x256 := rows 4 1024 256 t.val 1 (lt1 t)
abbrev pR (t : Fin 4) : Rect S8x1024x256 := rows 8 1024 256 (2 * t.val) 2 (pair8 t)
abbrev fR (t : Fin 4) : Rect S8x1024x256 := rows 8 1024 256 (2 * t.val) 1 (fst8 t)
abbrev sR (t : Fin 4) : Rect S8x1024x256 := rows 8 1024 256 (2 * t.val + 1) 1 (snd8 t)

abbrev ldV (s : Fin 2) : Memref sig .tc .vmem S2048x512 .f32 :=
  (ldM.slice (ldR s) (fun _ => rfl)).squeeze S2048x512 squeezes_S1x2048x512_S2048x512
abbrev cbV (s : Fin 2) : Memref sig .tc .vmem S1024x512 .f32 :=
  (cbM.slice (cbR s) (fun _ => rfl)).squeeze S1024x512 squeezes_S1x1024x512_S1024x512
abbrev pkV (t : Fin 4) : Memref sig .tc .vmem S1024x512 .f32 :=
  (pkM.slice (zR t) (fun _ => rfl)).squeeze S1024x512 squeezes_S1x1024x512_S1024x512
abbrev zsV (t : Fin 4) : Memref sig .tc .vmem S1024x512 .bf16 :=
  (zsM.slice (zR t) (fun _ => rfl)).squeeze S1024x512 squeezes_S1x1024x512_S1024x512
abbrev zrV (t : Fin 4) : Memref sig .tc .vmem S1024x512 .bf16 :=
  (zrM.slice (zR t) (fun _ => rfl)).squeeze S1024x512 squeezes_S1x1024x512_S1024x512
abbrev sbP (t : Fin 4) : Memref sig .tc .vmem S2x1024x256 .bf16 := sbM.slice (pR t) (fun _ => rfl)
abbrev gxP (t : Fin 4) : Memref sig .tc .vmem S2x1024x256 .bf16 := gxM.slice (pR t) (fun _ => rfl)
abbrev gyP (t : Fin 4) : Memref sig .tc .vmem S2x1024x256 .bf16 := gyM.slice (pR t) (fun _ => rfl)
abbrev gxV (t : Fin 4) : Memref sig .tc .vmem S1024x256 .bf16 :=
  (gxM.slice (sR t) (fun _ => rfl)).squeeze S1024x256 squeezes_S1x1024x256_S1024x256
abbrev gyV (t : Fin 4) : Memref sig .tc .vmem S1024x256 .bf16 :=
  (gyM.slice (fR t) (fun _ => rfl)).squeeze S1024x256 squeezes_S1x1024x256_S1024x256
abbrev hxV (t : Fin 4) : Memref sig .tc .vmem S1024x256 .bf16 :=
  (hxM.slice (hR t) (fun _ => rfl)).squeeze S1024x256 squeezes_S1x1024x256_S1024x256
abbrev hyV (t : Fin 4) : Memref sig .tc .vmem S1024x256 .bf16 :=
  (hyM.slice (hR t) (fun _ => rfl)).squeeze S1024x256 squeezes_S1x1024x256_S1024x256

/-- A block of 512 columns of the staged dy, and of x, and of the result. -/
abbrev xR (off : Fin 2 → ℕ) (h : ∀ a, off a + S2048x512.size a ≤ S2048x2048.size a) : Rect S2048x2048 :=
  Rect.unit (s := S2048x2048) off S2048x512.size h
abbrev xhR (off : Fin 2 → ℕ) (h : ∀ a, off a + S2048x1024.size a ≤ S2048x2048.size a) : Rect S2048x2048 :=
  Rect.unit (s := S2048x2048) off S2048x1024.size h
abbrev dyR (off : Fin 2 → ℕ) (h : ∀ a, off a + S2048x512.size a ≤ S2048x8192.size a) : Rect S2048x8192 :=
  Rect.unit (s := S2048x8192) off S2048x512.size h
abbrev outR (off : Fin 2 → ℕ) (h : ∀ a, off a + S1024x512.size a ≤ S1024x8192.size a) : Rect S1024x8192 :=
  Rect.unit (s := S1024x8192) off S1024x512.size h

/-! ## What is stored -/

abbrev payX (v : Vec F S1x2048x512 .f32) : FVec F S2048x512 .bf16 := k0_pay1 v
abbrev payDy (v : Vec F S1x2048x512 .f32) : FVec F S1x2048x512 .bf16 := k0_pay6 v
abbrev payZs (x : Vec F S2048x1024 .bf16) (d : Vec F S1x2048x512 .bf16) : FVec F S1x1024x512 .bf16 := k0_pay11 x d
abbrev payPk (x : Vec F S2048x1024 .bf16) (d : Vec F S1x2048x512 .bf16) : FVec F S1x1024x512 .f32 := k0_pay9 x d
abbrev paySum (p : Vec F S1x1024x512 .f32) (z : Vec F S1x1024x512 .bf16) : FVec F S1x1024x512 .f32 := k0_pay22 p z
abbrev payFst (p : Vec F S1x1024x512 .f32) (z : Vec F S1x1024x512 .bf16) : FVec F S1x1024x256 .bf16 := k0_pay23 p z
abbrev paySnd (p : Vec F S1x1024x512 .f32) (z : Vec F S1x1024x512 .bf16) : FVec F S1x1024x256 .bf16 := k0_pay24 p z
abbrev payCb (a b : Vec F S1x1024x256 .bf16) : FVec F S1x1024x512 .f32 := k0_pay38 a b

/-! ## The stages -/

variable (F) in
/-- A TensorCore program of this module. -/
abbrev Pg := Prog (TpuEff nD τ sig (Elt F) Λ₀ .tc) PUnit

/-- Start the load of a block of columns of an argument into slot `s`. -/
def startLd (s : Fin 2) (src : Memref sig .tc .hbm S2048x512 .f32) : Pg F :=
  Prog.lift (.enqueueDma src (.here (ldV s)) (.dma (dsem cc0_scratch12 s)) (View.wordExact_bits rfl) ((View.wordExact_bits rfl).reshape _ _) ⟨Or.inl rfl, trivial⟩)

/-- Wait for the load in slot `s`. -/
def waitLd (s : Fin 2) (src : Memref sig .tc .hbm S2048x512 .f32) : Pg F :=
  Prog.lift (.waitDma2 (dsem cc0_scratch12 s) src (ldV s) (View.wordExact_bits rfl) ((View.wordExact_bits rfl).reshape _ _))

/-- Signal the three neighbours on semaphore `b`, then wait for their three signals. -/
def rendezvous (b : Sem sig) (d₁ d₂ d₃ : Dev nD) : Pg F := do
  semSignalWord d₁ b 1#32
  semSignalWord d₂ b 1#32
  semSignalWord d₃ b 1#32
  semWaitWord b 3#32

/-- Cast the block of x in slot `s` into its columns of the narrow copy. -/
def castX (s : Fin 2) (off : Fin 2 → ℕ) (h : ∀ a, off a + S2048x512.size a ≤ S2048x2048.size a)
    (hp : (xR off h).PackedRows (EltTy.packing .bf16)) : Pg F := do
  let v : Vec F S1x2048x512 .f32 ← Prog.lift (.load ldM (ldR s).toLoadRect (View.loadsAt_vmem h_S1x2048x512))
  let _ : Vec F S2048x512 .bf16 ← Prog.lift (.load xbM (xR off h).toLoadRect (View.loadsAt_vmem h_S2048x512))
  Prog.lift (.store xbM (xR off h) (payX v) Finset.univ (View.stores_vmem h_S2048x512 ((Memref.isWhole_whole cc0_scratch1).storeExact_slice rfl _ hp) (fun _ => rfl)) (.inl rfl))

/-- Cast the block of dy in slot `s`, multiply it by both halves of x, send the half that the z neighbour keeps. -/
def mulDy (t : Fin 4) (s : Fin 2) (d : Dev nD) (off₀ off₁ : Fin 2 → ℕ)
    (h₀ : ∀ a, off₀ a + S2048x1024.size a ≤ S2048x2048.size a) (h₁ : ∀ a, off₁ a + S2048x1024.size a ≤ S2048x2048.size a) : Pg F := do
  let v : Vec F S1x2048x512 .f32 ← Prog.lift (.load ldM (ldR s).toLoadRect (View.loadsAt_vmem h_S1x2048x512))
  let _ : Vec F S1x2048x512 .bf16 ← Prog.lift (.load dybM (ldR s).toLoadRect (View.loadsAt_vmem h_S1x2048x512))
  Prog.lift (.store dybM (ldR s) (payDy v) Finset.univ (View.stores_vmem h_S1x2048x512 ((Memref.isWhole_whole cc0_scratch2).storeExact_slice rfl _ (packed_dyb s)) (fun _ => rfl)) (.inl rfl))
  let x₀ : Vec F S2048x1024 .bf16 ← Prog.lift (.load xbM (xhR off₀ h₀).toLoadRect (View.loadsAt_vmem h_S2048x1024))
  let d₀ : Vec F S1x2048x512 .bf16 ← Prog.lift (.load dybM (ldR s).toLoadRect (View.loadsAt_vmem h_S1x2048x512))
  let _ : Vec F S1x1024x512 .bf16 ← Prog.lift (.load zsM (zR t).toLoadRect (View.loadsAt_vmem h_S1x1024x512))
  Prog.lift (.store zsM (zR t) (payZs x₀ d₀) Finset.univ (View.stores_vmem h_S1x1024x512 ((Memref.isWhole_whole cc0_scratch4).storeExact_slice rfl _ (packed_zs t)) (fun _ => rfl)) (.inl rfl))
  Prog.lift (.enqueueDma (zsV t) (.remote (Dev.tc d) (zrV t) (.dma (dsem cc0_scratch13 t))) (.dma (dsem cc0_scratch14 t))
    (((Memref.isWhole_whole cc0_scratch4).wordExact_slice rfl _ (words_z t)).reshape _ _)
    (((Memref.isWhole_whole cc0_scratch5).wordExact_slice rfl _ (words_z t)).reshape _ _) ⟨⟨rfl, Or.inl rfl⟩, trivial⟩)
  let x₁ : Vec F S2048x1024 .bf16 ← Prog.lift (.load xbM (xhR off₁ h₁).toLoadRect (View.loadsAt_vmem h_S2048x1024))
  let d₁ : Vec F S1x2048x512 .bf16 ← Prog.lift (.load dybM (ldR s).toLoadRect (View.loadsAt_vmem h_S1x2048x512))
  let _ : Vec F S1x1024x512 .f32 ← Prog.lift (.load pkM (zR t).toLoadRect (View.loadsAt_vmem h_S1x1024x512))
  Prog.lift (.store pkM (zR t) (payPk x₁ d₁) Finset.univ (View.stores_vmem_bits_univ h_S1x1024x512 rfl) (.inl rfl))

/-- Add what the z neighbour sent, send the sum to the x and y neighbours, start its copy into the result. -/
def sumZ (t : Fin 4) (dx dy : Dev nD) (off : Fin 2 → ℕ) (h : ∀ a, off a + S1024x512.size a ≤ S1024x8192.size a) : Pg F := do
  Prog.lift (.waitDma2 (dsem cc0_scratch13 t) (zrV t) (zsV t)
    (((Memref.isWhole_whole cc0_scratch5).wordExact_slice rfl _ (words_z t)).reshape _ _)
    (((Memref.isWhole_whole cc0_scratch4).wordExact_slice rfl _ (words_z t)).reshape _ _))
  Prog.lift (.waitDma2 (dsem cc0_scratch14 t) (zsV t) (zrV t)
    (((Memref.isWhole_whole cc0_scratch4).wordExact_slice rfl _ (words_z t)).reshape _ _)
    (((Memref.isWhole_whole cc0_scratch5).wordExact_slice rfl _ (words_z t)).reshape _ _))
  let p : Vec F S1x1024x512 .f32 ← Prog.lift (.load pkM (zR t).toLoadRect (View.loadsAt_vmem h_S1x1024x512))
  let z : Vec F S1x1024x512 .bf16 ← Prog.lift (.load zrM (zR t).toLoadRect (View.loadsAt_vmem h_S1x1024x512))
  let _ : Vec F S1x1024x512 .f32 ← Prog.lift (.load pkM (zR t).toLoadRect (View.loadsAt_vmem h_S1x1024x512))
  Prog.lift (.store pkM (zR t) (paySum p z) Finset.univ (View.stores_vmem_bits_univ h_S1x1024x512 rfl) (.inl rfl))
  let _ : Vec F S1x1024x256 .bf16 ← Prog.lift (.load sbM (fR t).toLoadRect (View.loadsAt_vmem h_S1x1024x256))
  Prog.lift (.store sbM (fR t) (payFst p z) Finset.univ (View.stores_vmem h_S1x1024x256 ((Memref.isWhole_whole cc0_scratch6).storeExact_slice rfl _ (packed_sb0 t)) (fun _ => rfl)) (.inl rfl))
  let _ : Vec F S1x1024x256 .bf16 ← Prog.lift (.load sbM (sR t).toLoadRect (View.loadsAt_vmem h_S1x1024x256))
  Prog.lift (.store sbM (sR t) (paySnd p z) Finset.univ (View.stores_vmem h_S1x1024x256 ((Memref.isWhole_whole cc0_scratch6).storeExact_slice rfl _ (packed_sb1 t)) (fun _ => rfl)) (.inl rfl))
  Prog.lift (.enqueueDma (sbP t) (.remote (Dev.tc dx) (gxP t) (.dma (dsem cc0_scratch15 t))) (.dma (dsem cc0_scratch16 t))
    ((Memref.isWhole_whole cc0_scratch6).wordExact_slice rfl _ (words_pair t))
    ((Memref.isWhole_whole cc0_scratch7).wordExact_slice rfl _ (words_pair t)) ⟨⟨rfl, Or.inl rfl⟩, trivial⟩)
  Prog.lift (.enqueueDma (sbP t) (.remote (Dev.tc dy) (gyP t) (.dma (dsem cc0_scratch17 t))) (.dma (dsem cc0_scratch18 t))
    ((Memref.isWhole_whole cc0_scratch6).wordExact_slice rfl _ (words_pair t))
    ((Memref.isWhole_whole cc0_scratch8).wordExact_slice rfl _ (words_pair t)) ⟨⟨rfl, Or.inl rfl⟩, trivial⟩)
  Prog.lift (.enqueueDma (pkV t) (.here (outM.slice (outR off h) (fun _ => rfl))) (.dma (dsem cc0_scratch23 t)) ((View.wordExact_bits rfl).reshape _ _) (View.wordExact_bits rfl) ⟨Or.inl rfl, trivial⟩)

/-- Receive the x neighbour's sum, pass its second half on along y; receive the y neighbour's, pass its first half on along x. -/
def relay (t : Fin 4) (dy dx : Dev nD) : Pg F := do
  Prog.lift (.waitDma2 (dsem cc0_scratch15 t) (gxP t) (sbP t)
    ((Memref.isWhole_whole cc0_scratch7).wordExact_slice rfl _ (words_pair t))
    ((Memref.isWhole_whole cc0_scratch6).wordExact_slice rfl _ (words_pair t)))
  Prog.lift (.waitDma2 (dsem cc0_scratch16 t) (sbP t) (gxP t)
    ((Memref.isWhole_whole cc0_scratch6).wordExact_slice rfl _ (words_pair t))
    ((Memref.isWhole_whole cc0_scratch7).wordExact_slice rfl _ (words_pair t)))
  Prog.lift (.enqueueDma (gxV t) (.remote (Dev.tc dy) (hyV t) (.dma (dsem cc0_scratch21 t))) (.dma (dsem cc0_scratch22 t))
    (((Memref.isWhole_whole cc0_scratch7).wordExact_slice rfl _ (words_snd t)).reshape _ _)
    (((Memref.isWhole_whole cc0_scratch10).wordExact_slice rfl _ (words_h t)).reshape _ _) ⟨⟨rfl, Or.inl rfl⟩, trivial⟩)
  Prog.lift (.waitDma2 (dsem cc0_scratch17 t) (gyP t) (sbP t)
    ((Memref.isWhole_whole cc0_scratch8).wordExact_slice rfl _ (words_pair t))
    ((Memref.isWhole_whole cc0_scratch6).wordExact_slice rfl _ (words_pair t)))
  Prog.lift (.waitDma2 (dsem cc0_scratch18 t) (sbP t) (gyP t)
    ((Memref.isWhole_whole cc0_scratch6).wordExact_slice rfl _ (words_pair t))
    ((Memref.isWhole_whole cc0_scratch8).wordExact_slice rfl _ (words_pair t)))
  Prog.lift (.enqueueDma (gyV t) (.remote (Dev.tc dx) (hxV t) (.dma (dsem cc0_scratch19 t))) (.dma (dsem cc0_scratch20 t))
    (((Memref.isWhole_whole cc0_scratch8).wordExact_slice rfl _ (words_fst t)).reshape _ _)
    (((Memref.isWhole_whole cc0_scratch9).wordExact_slice rfl _ (words_h t)).reshape _ _) ⟨⟨rfl, Or.inl rfl⟩, trivial⟩)

/-- Wait for the copy of slot `s` of the result buffer into a block of the result. -/
def waitCb (s : Fin 2) (off : Fin 2 → ℕ) (h : ∀ a, off a + S1024x512.size a ≤ S1024x8192.size a) : Pg F :=
  Prog.lift (.waitDma2 (dsem cc0_scratch24 s) (cbV s) (outM.slice (outR off h) (fun _ => rfl)) ((View.wordExact_bits rfl).reshape _ _) (View.wordExact_bits rfl))

/-- Fill slot `s` of the result buffer, start its copy into a block of the result. -/
def fillCb (s : Fin 2) (off : Fin 2 → ℕ) (h : ∀ a, off a + S1024x512.size a ≤ S1024x8192.size a) (v : FVec F S1x1024x512 .f32) : Pg F := do
  let _ : Vec F S1x1024x512 .f32 ← Prog.lift (.load cbM (cbR s).toLoadRect (View.loadsAt_vmem h_S1x1024x512))
  Prog.lift (.store cbM (cbR s) v Finset.univ (View.stores_vmem_bits_univ h_S1x1024x512 rfl) (.inl rfl))
  Prog.lift (.enqueueDma (cbV s) (.here (outM.slice (outR off h) (fun _ => rfl))) (.dma (dsem cc0_scratch24 s)) ((View.wordExact_bits rfl).reshape _ _) (View.wordExact_bits rfl) ⟨Or.inl rfl, trivial⟩)

/-- Store the x neighbour's sum `t` into the result; `w` waits for slot `s` to be free. -/
def outX (t : Fin 4) (s : Fin 2) (w : Pg F) (off : Fin 2 → ℕ) (h : ∀ a, off a + S1024x512.size a ≤ S1024x8192.size a) : Pg F := do
  let a : Vec F S1x1024x256 .bf16 ← Prog.lift (.load gxM (fR t).toLoadRect (View.loadsAt_vmem h_S1x1024x256))
  let b : Vec F S1x1024x256 .bf16 ← Prog.lift (.load gxM (sR t).toLoadRect (View.loadsAt_vmem h_S1x1024x256))
  w
  fillCb s off h (payCb a b)

/-- Store the y neighbour's sum `t` into the result. -/
def outY (t : Fin 4) (s : Fin 2) (w : Pg F) (off : Fin 2 → ℕ) (h : ∀ a, off a + S1024x512.size a ≤ S1024x8192.size a) : Pg F := do
  let a : Vec F S1x1024x256 .bf16 ← Prog.lift (.load gyM (fR t).toLoadRect (View.loadsAt_vmem h_S1x1024x256))
  let b : Vec F S1x1024x256 .bf16 ← Prog.lift (.load gyM (sR t).toLoadRect (View.loadsAt_vmem h_S1x1024x256))
  w
  fillCb s off h (payCb a b)

/-- Wait for both halves of the diagonal device's sum `t`, and for the two copies that were passed on. -/
def waitRelay (t : Fin 4) : Pg F := do
  Prog.lift (.waitDma2 (dsem cc0_scratch19 t) (hxV t) (gyV t)
    (((Memref.isWhole_whole cc0_scratch9).wordExact_slice rfl _ (words_h t)).reshape _ _)
    (((Memref.isWhole_whole cc0_scratch8).wordExact_slice rfl _ (words_fst t)).reshape _ _))
  Prog.lift (.waitDma2 (dsem cc0_scratch20 t) (gyV t) (hxV t)
    (((Memref.isWhole_whole cc0_scratch8).wordExact_slice rfl _ (words_fst t)).reshape _ _)
    (((Memref.isWhole_whole cc0_scratch9).wordExact_slice rfl _ (words_h t)).reshape _ _))
  Prog.lift (.waitDma2 (dsem cc0_scratch21 t) (hyV t) (gxV t)
    (((Memref.isWhole_whole cc0_scratch10).wordExact_slice rfl _ (words_h t)).reshape _ _)
    (((Memref.isWhole_whole cc0_scratch7).wordExact_slice rfl _ (words_snd t)).reshape _ _))
  Prog.lift (.waitDma2 (dsem cc0_scratch22 t) (gxV t) (hyV t)
    (((Memref.isWhole_whole cc0_scratch7).wordExact_slice rfl _ (words_snd t)).reshape _ _)
    (((Memref.isWhole_whole cc0_scratch10).wordExact_slice rfl _ (words_h t)).reshape _ _))

/-- Store the diagonal device's sum `t` into the result. -/
def outD (t : Fin 4) (s : Fin 2) (w : Pg F) (off : Fin 2 → ℕ) (h : ∀ a, off a + S1024x512.size a ≤ S1024x8192.size a) : Pg F := do
  let a : Vec F S1x1024x256 .bf16 ← Prog.lift (.load hxM (hR t).toLoadRect (View.loadsAt_vmem h_S1x1024x256))
  let b : Vec F S1x1024x256 .bf16 ← Prog.lift (.load hyM (hR t).toLoadRect (View.loadsAt_vmem h_S1x1024x256))
  w
  fillCb s off h (payCb a b)

/-- Wait for the copy of this device's own sum `t` into the result. -/
def waitSt (t : Fin 4) (off : Fin 2 → ℕ) (h : ∀ a, off a + S1024x512.size a ≤ S1024x8192.size a) : Pg F :=
  Prog.lift (.waitDma2 (dsem cc0_scratch23 t) (pkV t) (outM.slice (outR off h) (fun _ => rfl)) ((View.wordExact_bits rfl).reshape _ _) (View.wordExact_bits rfl))

/-! ## The body -/

abbrev xS (off : Fin 2 → ℕ) (h : ∀ a, off a + S2048x512.size a ≤ S2048x2048.size a) : Memref sig .tc .hbm S2048x512 .f32 :=
  xM.slice (xR off h) (fun _ => rfl)
/-- Block `r` of this device's group of columns of dy. -/
abbrev dyS (c : Dev nD) (r : Fin 4) : Memref sig .tc .hbm S2048x512 .f32 :=
  dyM.slice (dyR (k0_off8 c (BitVec.ofNat 32 (512 * r.val))) (k0_off8_inb c r)) (fun _ => rfl)

abbrev dv (n : Dev nD → ℕ) (h : ∀ c, n c < nD) (c : Dev nD) : Dev nD := ⟨n c, h c⟩
abbrev w512 (r : Fin 4) : BitVec 32 := BitVec.ofNat 32 (512 * r.val)

/-- The body on device `c`, in five phases. -/
def phaseX (c : Dev nD) : Pg F := do
  rendezvous barS (dv k0_dev1 k0_dev1_lt c) (dv k0_dev2 k0_dev2_lt c) (dv k0_dev3 k0_dev3_lt c)
  startLd 0 (xS (k0_off1 c) (k0_off1_inb c))
  waitLd 0 (xS (k0_off1 c) (k0_off1_inb c)); startLd 1 (xS (k0_off2 c) (k0_off2_inb c))
  castX 0 (k0_off3 c) (k0_off3_inb c) (k0_off3_packedbf16 c)
  waitLd 1 (xS (k0_off2 c) (k0_off2_inb c)); startLd 0 (xS (k0_off4 c) (k0_off4_inb c))
  castX 1 (k0_off5 c) (k0_off5_inb c) (k0_off5_packedbf16 c)
  waitLd 0 (xS (k0_off4 c) (k0_off4_inb c)); startLd 1 (xS (k0_off6 c) (k0_off6_inb c))
  castX 0 (k0_off7 c) (k0_off7_inb c) (k0_off7_packedbf16 c)
  waitLd 1 (xS (k0_off6 c) (k0_off6_inb c)); startLd 0 (dyS c 0)
  castX 1 (k0_off9 c) (k0_off9_inb c) (k0_off9_packedbf16 c)

def phaseDy (c : Dev nD) : Pg F := do
  waitLd 0 (dyS c 0); startLd 1 (dyS c 1)
  mulDy 0 0 (dv k0_dev4 k0_dev4_lt c) (k0_off10 c) (k0_off11 c) (k0_off10_inb c) (k0_off11_inb c)
  waitLd 1 (dyS c 1); startLd 0 (dyS c 2)
  mulDy 1 1 (dv k0_dev5 k0_dev5_lt c) (k0_off10 c) (k0_off11 c) (k0_off10_inb c) (k0_off11_inb c)
  waitLd 0 (dyS c 2); startLd 1 (dyS c 3)
  mulDy 2 0 (dv k0_dev6 k0_dev6_lt c) (k0_off10 c) (k0_off11 c) (k0_off10_inb c) (k0_off11_inb c)
  waitLd 1 (dyS c 3)
  mulDy 3 1 (dv k0_dev7 k0_dev7_lt c) (k0_off10 c) (k0_off11 c) (k0_off10_inb c) (k0_off11_inb c)

def phaseZ (c : Dev nD) : Pg F := do
  sumZ 0 (dv k0_dev8 k0_dev8_lt c) (dv k0_dev9 k0_dev9_lt c) (k0_off12 c (w512 0)) (k0_off12_inb c 0)
  sumZ 1 (dv k0_dev10 k0_dev10_lt c) (dv k0_dev11 k0_dev11_lt c) (k0_off12 c (w512 1)) (k0_off12_inb c 1)
  sumZ 2 (dv k0_dev12 k0_dev12_lt c) (dv k0_dev13 k0_dev13_lt c) (k0_off12 c (w512 2)) (k0_off12_inb c 2)
  sumZ 3 (dv k0_dev14 k0_dev14_lt c) (dv k0_dev15 k0_dev15_lt c) (k0_off12 c (w512 3)) (k0_off12_inb c 3)

def phaseG (c : Dev nD) : Pg F := do
  relay 0 (dv k0_dev16 k0_dev16_lt c) (dv k0_dev17 k0_dev17_lt c)
  outX 0 0 (pure ⟨⟩) (k0_off13 c (w512 0)) (k0_off13_inb c 0)
  outY 0 1 (pure ⟨⟩) (k0_off14 c (w512 0)) (k0_off14_inb c 0)
  relay 1 (dv k0_dev18 k0_dev18_lt c) (dv k0_dev19 k0_dev19_lt c)
  outX 1 0 (waitCb 0 (k0_off13 c (w512 0)) (k0_off13_inb c 0)) (k0_off13 c (w512 1)) (k0_off13_inb c 1)
  outY 1 1 (waitCb 1 (k0_off14 c (w512 0)) (k0_off14_inb c 0)) (k0_off14 c (w512 1)) (k0_off14_inb c 1)
  relay 2 (dv k0_dev20 k0_dev20_lt c) (dv k0_dev21 k0_dev21_lt c)
  outX 2 0 (waitCb 0 (k0_off13 c (w512 1)) (k0_off13_inb c 1)) (k0_off13 c (w512 2)) (k0_off13_inb c 2)
  outY 2 1 (waitCb 1 (k0_off14 c (w512 1)) (k0_off14_inb c 1)) (k0_off14 c (w512 2)) (k0_off14_inb c 2)
  relay 3 (dv k0_dev22 k0_dev22_lt c) (dv k0_dev23 k0_dev23_lt c)
  outX 3 0 (waitCb 0 (k0_off13 c (w512 2)) (k0_off13_inb c 2)) (k0_off13 c (w512 3)) (k0_off13_inb c 3)
  outY 3 1 (waitCb 1 (k0_off14 c (w512 2)) (k0_off14_inb c 2)) (k0_off14 c (w512 3)) (k0_off14_inb c 3)

def phaseD (c : Dev nD) : Pg F := do
  waitRelay 0
  outD 0 0 (waitCb 0 (k0_off13 c (w512 3)) (k0_off13_inb c 3)) (k0_off15 c (w512 0)) (k0_off15_inb c 0)
  waitRelay 1
  outD 1 1 (waitCb 1 (k0_off14 c (w512 3)) (k0_off14_inb c 3)) (k0_off15 c (w512 1)) (k0_off15_inb c 1)
  waitRelay 2
  outD 2 0 (waitCb 0 (k0_off15 c (w512 0)) (k0_off15_inb c 0)) (k0_off15 c (w512 2)) (k0_off15_inb c 2)
  waitRelay 3
  outD 3 1 (waitCb 1 (k0_off15 c (w512 1)) (k0_off15_inb c 1)) (k0_off15 c (w512 3)) (k0_off15_inb c 3)

def phaseE (c : Dev nD) : Pg F := do
  waitSt 0 (k0_off12 c (w512 0)) (k0_off12_inb c 0)
  waitSt 1 (k0_off12 c (w512 1)) (k0_off12_inb c 1)
  waitSt 2 (k0_off12 c (w512 2)) (k0_off12_inb c 2)
  waitSt 3 (k0_off12 c (w512 3)) (k0_off12_inb c 3)
  waitCb 0 (k0_off15 c (w512 2)) (k0_off15_inb c 2)
  waitCb 1 (k0_off15 c (w512 3)) (k0_off15_inb c 3)
  rendezvous finS (dv k0_dev24 k0_dev24_lt c) (dv k0_dev25 k0_dev25_lt c) (dv k0_dev26 k0_dev26_lt c)

def body : Pg F := do
  let c : Dev nD ← Prog.lift .deviceId
  phaseX c
  phaseDy c
  phaseZ c
  phaseG c
  phaseD c
  phaseE c

end Cert.KernelIdeal.Stages
end
-- ==== Proof.KernelIdeal.Own.lean ====
/-
  Ownership of a rectangle of a buffer at named contents, and what one load, one store and one squeeze do to it.
-/
module

public import proofs.«01_k».proof.Proof.KernelIdeal.Prog
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds (there are no windows, so none is used) and the kernel's own. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

/-- The weakest precondition of a program on device `c`'s core. -/
abbrev Wp (c : Dev nD) (p : Pg F) (Q : PUnit → sProp 𝕄) : sProp 𝕄 :=
  wp frame (wpE (defs₀ (F := F)) 𝒱₀ (c : Thread nD τ) none) Set.univ p Q

/-- Device `c` owns memref `M` at share `q`, and reads `X` through it. -/
abbrev own (c : Dev nD) {sp : Space} {s : Shape} {e : EltTy} (M : Memref sig .tc sp s e) (q : PosShare TreeShare) (X : s.Idx → Elt F e) : sProp 𝕄 :=
  owns (c : Thread nD τ) M q X

/-- Device `c` owns memref `M` outright, at some contents. -/
def any (c : Dev nD) {sp : Space} {s : Shape} {e : EltTy} (M : Memref sig .tc sp s e) : sProp 𝕄 :=
  iprop(∃ X : s.Idx → Elt F e, owns (c : Thread nD τ) M fullShare X)

omit [FloatOps F] in
instance any_storable (c : Dev nD) {sp : Space} {s : Shape} {e : EltTy} (M : Memref sig .tc sp s e) :
    BI.Storable (upEmb : UEmb _ 𝕄) (any (F := F) c M) := by unfold any; infer_instance

omit [FloatOps F] in
theorem own_any (c : Dev nD) {sp : Space} {s : Shape} {e : EltTy} (M : Memref sig .tc sp s e) (X : s.Idx → Elt F e) :
    own c M fullShare X ⊢ any (F := F) c M := by
  unfold any; iintro H; iexists X; iexact H

section Steps

variable (c : Dev nD) {cs : CoreSpace} {s : Shape} {e : EltTy} (M : Memref sig .tc cs s e) (r : Rect s) (hr : ∀ a, r.stride a = 1)

/-- A load of a rectangle that is owned at `X` gives `X`. -/
theorem load_own (Q : PUnit → sProp 𝕄) {hl : M.view.LoadsAt r.toLoadRect} (q : PosShare TreeShare) (X : r.shape.Idx → Elt F e) (k : (r.shape.Idx → Elt F e) → Pg F) :
    own c (M.slice r hr) q X ⊢ iprop((own c (M.slice r hr) q X -∗ Wp c (k X) Q) -∗ Wp c (.op (.load M r.toLoadRect hl) k) Q) := by
  unfold own owns
  iintro ⟨%f, %hf, H⟩ Hk
  iapply (wp_load_rect 𝒱₀ (c : Thread nD τ) none Set.univ (m := M) (r := r) (S := (M.slice r hr).view.set) (q := q) (f := f) subset_rfl) $$ H
  iintro H
  rw [show (M.access r).read (Elt F) f = X from hf]
  iapply Hk
  iexists f
  isplitr; · ipureintro; exact hf
  iexact H

/-- A load whose value is not used leaves the rectangle as it is. -/
theorem load_any (Q : PUnit → sProp 𝕄) {hl : M.view.LoadsAt r.toLoadRect} (k : (r.shape.Idx → Elt F e) → Pg F) (p : Pg F) (hk : ∀ v, k v = p) :
    any (F := F) c (M.slice r hr) ⊢ iprop((any (F := F) c (M.slice r hr) -∗ Wp c p Q) -∗ Wp c (.op (.load M r.toLoadRect hl) k) Q) := by
  unfold any
  iintro ⟨%X, H⟩ Hk
  iapply (load_own c M r hr Q fullShare X k) $$ H
  iintro H
  rw [hk]
  iapply Hk
  iexists X
  iexact H

/-- A store of `X` into a rectangle that is owned outright. -/
theorem store_any (Q : PUnit → sProp 𝕄) {w : r.shape.Idx → Elt F e} {hx : (M.access r).Stores Finset.univ} {hm : Finset.univ = Finset.univ ∨ ∀ a, r.stride a = 1} (k : PUnit → Pg F) :
    any (F := F) c (M.slice r hr) ⊢ iprop((own c (M.slice r hr) fullShare w -∗ Wp c (k ⟨⟩) Q) -∗ Wp c (.op (.store M r w Finset.univ hx hm) k) Q) := by
  unfold any own owns
  iintro ⟨%X, %f, -, H⟩ Hk
  iapply (wp_store 𝒱₀ (c : Thread nD τ) none Set.univ (m := M) (r := r) (w := w) (Mk := Finset.univ) (S := (M.slice r hr).view.set) (f := f) (View.setOn_subset_set _ _)) $$ H
  iintro H
  iapply Hk
  iexists _
  isplitr
  · ipureintro; exact View.read_write_univ (v := (M.slice r hr).view) f w
  iexact H

end Steps

/-- Owning a slice with its unit axis dropped, at the contents with that axis dropped, is owning the slice. -/
theorem own_squeeze (c : Dev nD) {sp : Space} {s s' : Shape} {e : EltTy} (M : Memref sig .tc sp s e) (r : Rect s) (hr : ∀ a, r.stride a = 1)
    (hq : r.shape.Squeezes s') (hc : r.shape.ShapeCasts s') (q : PosShare TreeShare) (X : r.shape.Idx → Elt F e) :
    own c ((M.slice r hr).squeeze s' hq) q (shapeCast s' X hc) = own (F := F) c (M.slice r hr) q X := by
  have hset : ((M.slice r hr).squeeze s' hq).view.set = (M.slice r hr).view.set := Memref.set_view_squeeze _ hq
  unfold own owns
  have h₁ : iprop(∃ f, ⌜((M.slice r hr).squeeze s' hq).view.read (Elt F) f = shapeCast s' X hc⌝
        ∗ (((M.slice r hr).squeeze s' hq).view.loc (c : Thread nD τ) ↦[((M.slice r hr).squeeze s' hq).view.set]{q} f))
      ⊢ (iprop(∃ f, ⌜(M.slice r hr).view.read (Elt F) f = X⌝ ∗ ((M.slice r hr).view.loc (c : Thread nD τ) ↦[(M.slice r hr).view.set]{q} f)) : sProp 𝕄) := by
    iintro ⟨%f, %hf, H⟩
    iexists f
    isplitr
    · ipureintro
      have h' : (fun j => (M.slice r hr).view.read (Elt F) f (Shape.reshapeEquiv hc j)) = fun j => X (Shape.reshapeEquiv hc j) := hf
      funext i
      have h2 := congrFun h' ((Shape.reshapeEquiv hc).symm i)
      simpa only [Equiv.apply_symm_apply] using h2
    · rw [hset]; iexact H
  have h₂ : (iprop(∃ f, ⌜(M.slice r hr).view.read (Elt F) f = X⌝ ∗ ((M.slice r hr).view.loc (c : Thread nD τ) ↦[(M.slice r hr).view.set]{q} f)) : sProp 𝕄)
      ⊢ iprop(∃ f, ⌜((M.slice r hr).squeeze s' hq).view.read (Elt F) f = shapeCast s' X hc⌝
        ∗ (((M.slice r hr).squeeze s' hq).view.loc (c : Thread nD τ) ↦[((M.slice r hr).squeeze s' hq).view.set]{q} f)) := by
    iintro ⟨%f, %hf, H⟩
    iexists f
    isplitr
    · ipureintro; rw [← hf]; rfl
    · rw [hset]; iexact H
  exact BI.equiv_iff.mp ⟨h₁, h₂⟩

end Cert.KernelIdeal.Stages
end
-- ==== Proof.KernelIdeal.Proto.lean ====
/-
  The protocol between the devices: what every semaphore counts, in which rounds, who pays, and what is handed over with
  which contents; and the order in which what a device owes is paid.
-/
module

public import proofs.«01_k».proof.Proof.KernelIdeal.Own

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The neighbours -/

/-- The device whose x, y or z coordinate differs from `c`'s. -/
def xp (c : Dev nD) : Dev nD := ⟨(c.val + 4) % 8, Nat.mod_lt _ (by decide)⟩
def yp (c : Dev nD) : Dev nD := ⟨4 * (c.val / 4) + (c.val % 4 + 2) % 4, by have : c.val < 8 := c.isLt; show _ < 8; omega⟩
def zp (c : Dev nD) : Dev nD := ⟨2 * (c.val / 2) + (c.val % 2 + 1) % 2, by have : c.val < 8 := c.isLt; show _ < 8; omega⟩

theorem xp_xp (c : Dev nD) : xp (xp c) = c := by revert c; decide
theorem yp_yp (c : Dev nD) : yp (yp c) = c := by revert c; decide
theorem zp_zp (c : Dev nD) : zp (zp c) = c := by revert c; decide
theorem xp_yp (c : Dev nD) : xp (yp c) = yp (xp c) := by revert c; decide

/-! ## The semaphores by what they count -/

/-- What a semaphore is for: the two rendezvous, the loads into slot `s`, the copies into the result out of slot `t` of
    the own sums and out of slot `s` of the result buffer, the exchange along z (sent, received), the exchanges of the
    sums along x and y, and the passing on along x and y. -/
inductive K where
  | bar | fin
  | ld (s : Fin 2) | st (t : Fin 4) | sc (s : Fin 2)
  | zs (t : Fin 4) | zr (t : Fin 4)
  | axs (t : Fin 4) | axr (t : Fin 4) | ays (t : Fin 4) | ayr (t : Fin 4)
  | bxs (t : Fin 4) | bxr (t : Fin 4) | bys (t : Fin 4) | byr (t : Fin 4)
deriving DecidableEq

def q4 (n : ℕ) : Fin 4 := ⟨n % 4, Nat.mod_lt _ (by decide)⟩
def q2 (n : ℕ) : Fin 2 := ⟨n % 2, Nat.mod_lt _ (by decide)⟩

/-- DMA semaphore `n` by what it counts. -/
def kindDma (n : ℕ) : K :=
  if n < 2 then .ld (q2 n) else if n < 6 then .zs (q4 (n - 2)) else if n < 10 then .zr (q4 (n - 6))
  else if n < 14 then .axs (q4 (n - 10)) else if n < 18 then .axr (q4 (n - 14)) else if n < 22 then .ays (q4 (n - 18))
  else if n < 26 then .ayr (q4 (n - 22)) else if n < 30 then .bxs (q4 (n - 26)) else if n < 34 then .bxr (q4 (n - 30))
  else if n < 38 then .bys (q4 (n - 34)) else if n < 42 then .byr (q4 (n - 38)) else if n < 46 then .st (q4 (n - 42))
  else .sc (q2 (n - 46))

def kindOf : SemLoc sig → K
  | .reg s => if s.val = 0 then .bar else .fin
  | .dma s => kindDma s.val

theorem kind_bar : kindOf (.reg barS) = .bar := rfl
theorem kind_fin : kindOf (.reg finS) = .fin := rfl
theorem kind_ld (s : Fin 2) : kindOf (.dma (dsem cc0_scratch12 s)) = .ld s := by fin_cases s <;> rfl
theorem kind_zs (t : Fin 4) : kindOf (.dma (dsem cc0_scratch13 t)) = .zs t := by fin_cases t <;> rfl
theorem kind_zr (t : Fin 4) : kindOf (.dma (dsem cc0_scratch14 t)) = .zr t := by fin_cases t <;> rfl
theorem kind_axs (t : Fin 4) : kindOf (.dma (dsem cc0_scratch15 t)) = .axs t := by fin_cases t <;> rfl
theorem kind_axr (t : Fin 4) : kindOf (.dma (dsem cc0_scratch16 t)) = .axr t := by fin_cases t <;> rfl
theorem kind_ays (t : Fin 4) : kindOf (.dma (dsem cc0_scratch17 t)) = .ays t := by fin_cases t <;> rfl
theorem kind_ayr (t : Fin 4) : kindOf (.dma (dsem cc0_scratch18 t)) = .ayr t := by fin_cases t <;> rfl
theorem kind_bxs (t : Fin 4) : kindOf (.dma (dsem cc0_scratch19 t)) = .bxs t := by fin_cases t <;> rfl
theorem kind_bxr (t : Fin 4) : kindOf (.dma (dsem cc0_scratch20 t)) = .bxr t := by fin_cases t <;> rfl
theorem kind_bys (t : Fin 4) : kindOf (.dma (dsem cc0_scratch21 t)) = .bys t := by fin_cases t <;> rfl
theorem kind_byr (t : Fin 4) : kindOf (.dma (dsem cc0_scratch22 t)) = .byr t := by fin_cases t <;> rfl
theorem kind_st (t : Fin 4) : kindOf (.dma (dsem cc0_scratch23 t)) = .st t := by fin_cases t <;> rfl
theorem kind_sc (s : Fin 2) : kindOf (.dma (dsem cc0_scratch24 s)) = .sc s := by fin_cases s <;> rfl

/-- The units each duty contributes. -/
def amt : K → ℕ
  | .bar | .fin => 1
  | .ld _ => (ldV 0).view.dmaCredit
  | .st _ | .sc _ => (cbV 0).view.dmaCredit
  | .zs _ | .zr _ => (zrV 0).view.dmaCredit
  | .axs _ | .axr _ | .ays _ | .ayr _ => (gxP 0).view.dmaCredit
  | .bxs _ | .bxr _ | .bys _ | .byr _ => (hxV 0).view.dmaCredit

theorem amt_pos (k : K) : 0 < amt k := by
  cases k <;> first | exact Nat.one_pos | exact View.dmaCredit_pos _ (by decide)

/-- The order in which what is owed is paid: a wait on a semaphore is only reached when all that is owed is above it. -/
def lvl : K → ℕ
  | .bar => 1
  | .zr _ => 2
  | .axr _ | .ayr _ => 3
  | .bxr _ | .byr _ => 4
  | .fin => 5
  | _ => 0

/-- How many rounds a semaphore is used for, and who pays each. -/
def rnds : K → ℕ
  | .ld _ => 4
  | .sc _ => 6
  | _ => 1
def dset : K → Finset (Fin 3)
  | .bar | .fin => Finset.univ
  | _ => {0}

/-! ## The contents -/

variable (m : (ℓ : Loc nD τ sig) → Buf (Elt F) ℓ)

/-- Device `c`'s blocks of the two arguments. -/
def xin (c : Dev nD) : S2048x2048.Idx → Elt F .f32 := m ((c : Thread nD τ).loc main_arg0)
def dyin (c : Dev nD) : S2048x8192.Idx → Elt F .f32 := m ((c : Thread nD τ).loc main_arg1)

theorem casts_ld : S2048x512.ShapeCasts S1x2048x512 := by decide
theorem casts_ld' : S1x2048x512.ShapeCasts S2048x512 := by decide
theorem casts_cb : S1x1024x512.ShapeCasts S1024x512 := by decide
theorem casts_h : S1x1024x256.ShapeCasts S1024x256 := by decide

/-- A block of columns of x, of dy. -/
def xblk (c : Dev nD) (off : Fin 2 → ℕ) (h : ∀ a, off a + S2048x512.size a ≤ S2048x2048.size a) : S2048x512.Idx → Elt F .f32 :=
  fun j => xin m c ((xR off h).emb j)
def dyblk (c : Dev nD) (t : Fin 4) : S2048x512.Idx → Elt F .f32 :=
  fun j => dyin m c ((dyR (k0_off8 c (w512 t)) (k0_off8_inb c t)).emb j)

/-- A block as a slot holds it. -/
def lift1 (v : S2048x512.Idx → Elt F .f32) : S1x2048x512.Idx → Elt F .f32 := shapeCast S1x2048x512 v casts_ld

/-- A block of columns of x cast; two such side by side. -/
def xcast (c : Dev nD) (off : Fin 2 → ℕ) (h : ∀ a, off a + S2048x512.size a ≤ S2048x2048.size a) : S2048x512.Idx → Elt F .bf16 :=
  payX (lift1 (xblk m c off h))
def beside (a b : S2048x512.Idx → Elt F .bf16) : S2048x1024.Idx → Elt F .bf16 :=
  fun j => if h : (j 1).val < 512 then a (fun | 0 => j 0 | 1 => ⟨(j 1).val, h⟩)
    else b (fun | 0 => j 0 | 1 => ⟨(j 1).val - 512, by have : (j 1).val < 1024 := (j 1).isLt; show _ < 512; omega⟩)
/-- The half of x whose product goes to the z neighbour, and the half that is kept. -/
def xh0 (c : Dev nD) : S2048x1024.Idx → Elt F .bf16 :=
  beside (xcast m c (k0_off1 c) (k0_off1_inb c)) (xcast m c (k0_off2 c) (k0_off2_inb c))
def xh1 (c : Dev nD) : S2048x1024.Idx → Elt F .bf16 :=
  beside (xcast m c (k0_off4 c) (k0_off4_inb c)) (xcast m c (k0_off6 c) (k0_off6_inb c))
def dyb (c : Dev nD) (t : Fin 4) : S1x2048x512.Idx → Elt F .bf16 := payDy (lift1 (dyblk m c t))

/-- The partial product that is sent, the one that is kept, their sum, and the sum's two halves as they travel. -/
def zsW (c : Dev nD) (t : Fin 4) : S1x1024x512.Idx → Elt F .bf16 := payZs (xh0 m c) (dyb m c t)
def pkW (c : Dev nD) (t : Fin 4) : S1x1024x512.Idx → Elt F .f32 := payPk (xh1 m c) (dyb m c t)
def sumW (c : Dev nD) (t : Fin 4) : S1x1024x512.Idx → Elt F .f32 := paySum (pkW m c t) (zsW m (zp c) t)
def fstW (c : Dev nD) (t : Fin 4) : S1x1024x256.Idx → Elt F .bf16 := payFst (pkW m c t) (zsW m (zp c) t)
def sndW (c : Dev nD) (t : Fin 4) : S1x1024x256.Idx → Elt F .bf16 := paySnd (pkW m c t) (zsW m (zp c) t)
def pairW (a b : S1x1024x256.Idx → Elt F .bf16) : S2x1024x256.Idx → Elt F .bf16 :=
  fun j => if (j 0).val = 0 then a (fun | 0 => (0 : Fin 1) | 1 => j 1 | 2 => j 2) else b (fun | 0 => (0 : Fin 1) | 1 => j 1 | 2 => j 2)
def bothW (c : Dev nD) (t : Fin 4) : S2x1024x256.Idx → Elt F .bf16 := pairW (fstW m c t) (sndW m c t)

/-- What goes into the result for the x neighbour, the y neighbour and the diagonal device. -/
def outXW (c : Dev nD) (t : Fin 4) : S1x1024x512.Idx → Elt F .f32 := payCb (fstW m (xp c) t) (sndW m (xp c) t)
def outYW (c : Dev nD) (t : Fin 4) : S1x1024x512.Idx → Elt F .f32 := payCb (fstW m (yp c) t) (sndW m (yp c) t)
def outDW (c : Dev nD) (t : Fin 4) : S1x1024x512.Idx → Elt F .f32 := payCb (fstW m (xp (yp c)) t) (sndW m (xp (yp c)) t)

def drop1 (v : S1x1024x512.Idx → Elt F .f32) : S1024x512.Idx → Elt F .f32 := shapeCast S1024x512 v casts_cb

/-! ## The slots as memrefs -/

abbrev ldS (s : Fin 2) : Memref sig .tc .vmem S1x2048x512 .f32 := ldM.slice (ldR s) (fun _ => rfl)
abbrev dybS (s : Fin 2) : Memref sig .tc .vmem S1x2048x512 .bf16 := dybM.slice (ldR s) (fun _ => rfl)
abbrev cbS (s : Fin 2) : Memref sig .tc .vmem S1x1024x512 .f32 := cbM.slice (cbR s) (fun _ => rfl)
abbrev pkS (t : Fin 4) : Memref sig .tc .vmem S1x1024x512 .f32 := pkM.slice (zR t) (fun _ => rfl)
abbrev zsS (t : Fin 4) : Memref sig .tc .vmem S1x1024x512 .bf16 := zsM.slice (zR t) (fun _ => rfl)
abbrev zrS (t : Fin 4) : Memref sig .tc .vmem S1x1024x512 .bf16 := zrM.slice (zR t) (fun _ => rfl)
abbrev sbF (t : Fin 4) : Memref sig .tc .vmem S1x1024x256 .bf16 := sbM.slice (fR t) (fun _ => rfl)
abbrev sbG (t : Fin 4) : Memref sig .tc .vmem S1x1024x256 .bf16 := sbM.slice (sR t) (fun _ => rfl)
abbrev gxF (t : Fin 4) : Memref sig .tc .vmem S1x1024x256 .bf16 := gxM.slice (fR t) (fun _ => rfl)
abbrev gxG (t : Fin 4) : Memref sig .tc .vmem S1x1024x256 .bf16 := gxM.slice (sR t) (fun _ => rfl)
abbrev gyF (t : Fin 4) : Memref sig .tc .vmem S1x1024x256 .bf16 := gyM.slice (fR t) (fun _ => rfl)
abbrev gyG (t : Fin 4) : Memref sig .tc .vmem S1x1024x256 .bf16 := gyM.slice (sR t) (fun _ => rfl)
abbrev hxS (t : Fin 4) : Memref sig .tc .vmem S1x1024x256 .bf16 := hxM.slice (hR t) (fun _ => rfl)
abbrev hyS (t : Fin 4) : Memref sig .tc .vmem S1x1024x256 .bf16 := hyM.slice (hR t) (fun _ => rfl)
abbrev outS (off : Fin 2 → ℕ) (h : ∀ a, off a + S1024x512.size a ≤ S1024x8192.size a) : Memref sig .tc .hbm S1024x512 .f32 :=
  outM.slice (outR off h) (fun _ => rfl)

/-- The share of an argument that the loads into slot `s` borrow. -/
def half (s : Fin 2) : PosShare TreeShare := if s = 0 then fullShare.left else fullShare.right

/-! ## What each semaphore hands over -/

/-- At the first rendezvous each neighbour lends the buffers that this device's copies land in. -/
def barPay (c : Dev nD) (d : Fin 3) : sProp 𝕄 :=
  if d = 0 then bigSep Finset.univ fun t : Fin 4 => iprop(any (F := F) (xp c) (gxP t) ∗ any (F := F) (xp c) (hxS t))
  else if d = 1 then bigSep Finset.univ fun t : Fin 4 => iprop(any (F := F) (yp c) (gyP t) ∗ any (F := F) (yp c) (hyS t))
  else bigSep Finset.univ fun t : Fin 4 => any (F := F) (zp c) (zrS t)

def ldXPay (c : Dev nD) (s : Fin 2) (off : Fin 2 → ℕ) (h : ∀ a, off a + S2048x512.size a ≤ S2048x2048.size a) : sProp 𝕄 :=
  iprop(own c (ldS s) fullShare (lift1 (xblk m c off h)) ∗ own c (xS off h) (half s) (xblk m c off h))
def ldDyPay (c : Dev nD) (s : Fin 2) (t : Fin 4) : sProp 𝕄 :=
  iprop(own c (ldS s) fullShare (lift1 (dyblk m c t)) ∗ own c (dyS c t) (half s) (dyblk m c t))
/-- The loads into the two slots: four of x, then four of dy. -/
def ldPay (c : Dev nD) (s : Fin 2) : ℕ → sProp 𝕄
  | 0 => if s = 0 then ldXPay m c s (k0_off1 c) (k0_off1_inb c) else ldXPay m c s (k0_off2 c) (k0_off2_inb c)
  | 1 => if s = 0 then ldXPay m c s (k0_off4 c) (k0_off4_inb c) else ldXPay m c s (k0_off6 c) (k0_off6_inb c)
  | r + 2 => ldDyPay m c s (q4 (2 * r + s.val))
/-- A block of the result written out of a slot. -/
def outPay (c : Dev nD) (M : Memref sig .tc .vmem S1x1024x512 .f32) (off : Fin 2 → ℕ) (h : ∀ a, off a + S1024x512.size a ≤ S1024x8192.size a)
    (v : S1x1024x512.Idx → Elt F .f32) : sProp 𝕄 :=
  iprop(own c (outS off h) fullShare (drop1 v) ∗ own c M fullShare v)
/-- The copies out of the result buffer's two slots: x and y neighbour in turn, then the diagonal device. -/
def scPay (c : Dev nD) (s : Fin 2) (r : ℕ) : sProp 𝕄 :=
  if r < 4 then
    (if s = 0 then outPay c (cbS s) (k0_off13 c (w512 (q4 r))) (k0_off13_inb c (q4 r)) (outXW m c (q4 r))
      else outPay c (cbS s) (k0_off14 c (w512 (q4 r))) (k0_off14_inb c (q4 r)) (outYW m c (q4 r)))
  else outPay c (cbS s) (k0_off15 c (w512 (q4 (2 * (r - 4) + s.val)))) (k0_off15_inb c (q4 (2 * (r - 4) + s.val))) (outDW m c (q4 (2 * (r - 4) + s.val)))

def pay (c : Dev nD) (k : K) (r : ℕ) (d : Fin 3) : sProp 𝕄 :=
  match k with
  | .bar => barPay c d
  | .fin => iprop(emp)
  | .ld s => ldPay m c s r
  | .st t => outPay c (pkS t) (k0_off12 c (w512 t)) (k0_off12_inb c t) (sumW m c t)
  | .sc s => scPay m c s r
  | .zs t => own c (zsS t) fullShare (zsW m c t)
  | .zr t => own c (zrS t) fullShare (zsW m (zp c) t)
  | .axs t => own c (sbP t) fullShare.left (bothW m c t)
  | .axr t => own c (gxP t) fullShare (bothW m (xp c) t)
  | .ays t => own c (sbP t) fullShare.right (bothW m c t)
  | .ayr t => own c (gyP t) fullShare (bothW m (yp c) t)
  | .bys t => own c (gxG t) fullShare.left (sndW m (xp c) t)
  | .byr t => own c (hyS t) fullShare (sndW m (xp (yp c)) t)
  | .bxs t => own c (gyF t) fullShare.left (fstW m (yp c) t)
  | .bxr t => own c (hxS t) fullShare (fstW m (xp (yp c)) t)

instance (c : Dev nD) (d : Fin 3) : BI.Storable (upEmb : UEmb _ 𝕄) (barPay (F := F) c d) := by
  unfold barPay; (repeat' split) <;> infer_instance
instance (c : Dev nD) (s : Fin 2) (off) (h) : BI.Storable (upEmb : UEmb _ 𝕄) (ldXPay m c s off h) := by unfold ldXPay; infer_instance
instance (c : Dev nD) (s : Fin 2) (t : Fin 4) : BI.Storable (upEmb : UEmb _ 𝕄) (ldDyPay m c s t) := by unfold ldDyPay; infer_instance
instance (c : Dev nD) (s : Fin 2) (r : ℕ) : BI.Storable (upEmb : UEmb _ 𝕄) (ldPay m c s r) := by
  match r with
  | 0 => show BI.Storable _ (if _ then _ else _); split <;> infer_instance
  | 1 => show BI.Storable _ (if _ then _ else _); split <;> infer_instance
  | r + 2 => show BI.Storable _ (ldDyPay m c s _); infer_instance
instance (c : Dev nD) (M : Memref sig .tc .vmem S1x1024x512 .f32) (off) (h) (v) :
    BI.Storable (upEmb : UEmb _ 𝕄) (outPay (F := F) c M off h v) := by unfold outPay; infer_instance
instance (c : Dev nD) (s : Fin 2) (r : ℕ) : BI.Storable (upEmb : UEmb _ 𝕄) (scPay m c s r) := by
  unfold scPay; (repeat' split) <;> infer_instance

instance pay_storable (c : Dev nD) (k : K) (r : ℕ) (d : Fin 3) : BI.Storable (upEmb : UEmb _ 𝕄) (pay m c k r d) := by
  cases k <;> dsimp only [pay] <;> infer_instance

/-! ## The schedule -/

/-- The rounds of every semaphore: who pays, how much, and what is handed over. -/
def Rd : Rounds.Schedule (GSem nD τ sig) (Fin 3) 𝕄 where
  duties g r := if g.1.2 = .tc ∧ r < rnds (kindOf g.2) then dset (kindOf g.2) else ∅
  unitless _ := False
  amount g _ _ := amt (kindOf g.2)
  payload g r d := pay m g.1.1 (kindOf g.2) r d
  amount_pos g r d _ := amt_pos _

instance Rd_storable (g : GSem nD τ sig) (r : ℕ) (d : Fin 3) : BI.Storable (upEmb : UEmb _ 𝕄) ((Rd (F := F) m).payload g r d) := by
  show BI.Storable upEmb (pay m g.1.1 (kindOf g.2) r d)
  infer_instance

/-- Semaphore `sm` of device `c`. -/
abbrev cell (c : Dev nD) (sm : SemLoc sig) : GSem nD τ sig := ((c : Thread nD τ), sm)

theorem duties_eq (c : Dev nD) (sm : SemLoc sig) (r : ℕ) (h : r < rnds (kindOf sm)) : (Rd (F := F) m).duties (cell c sm) r = dset (kindOf sm) := by
  dsimp only [Rd]; exact if_pos ⟨rfl, h⟩
theorem duties_none (c : Dev nD) (sm : SemLoc sig) : ∀ r, rnds (kindOf sm) ≤ r → (Rd (F := F) m).duties (cell c sm) r = ∅ := by
  intro r h; dsimp only [Rd]; exact if_neg fun h' => absurd h'.2 (Nat.not_lt.mpr h)
theorem amount_eq (c : Dev nD) (sm : SemLoc sig) (r : ℕ) (d : Fin 3) : (Rd (F := F) m).amount (cell c sm) r d = amt (kindOf sm) := rfl
theorem payload_eq (c : Dev nD) (sm : SemLoc sig) (r : ℕ) (d : Fin 3) : (Rd (F := F) m).payload (cell c sm) r d = pay m c (kindOf sm) r d := rfl

theorem expect_one (c : Dev nD) (sm : SemLoc sig) (r : ℕ) (h : r < rnds (kindOf sm)) (hd : dset (kindOf sm) = {0}) :
    (Rd (F := F) m).expect (cell c sm) r = amt (kindOf sm) := by
  unfold Schedule.expect Schedule.amountOf; rw [duties_eq m c sm r h, hd, Finset.sum_singleton, amount_eq]
theorem expect_three (c : Dev nD) (sm : SemLoc sig) (h : 0 < rnds (kindOf sm)) (hd : dset (kindOf sm) = Finset.univ) (ha : amt (kindOf sm) = 1) :
    (Rd (F := F) m).expect (cell c sm) 0 = 3 := by
  unfold Schedule.expect Schedule.amountOf; rw [duties_eq m c sm 0 h, hd]
  simp only [amount_eq, ha, Finset.sum_const, Finset.card_univ, Fintype.card_fin]; rfl

theorem rest_one (c : Dev nD) (sm : SemLoc sig) (r : ℕ) (h : r < rnds (kindOf sm)) (hd : dset (kindOf sm) = {0}) :
    bigSep ((Rd (F := F) m).duties (cell c sm) r \ ∅) (fun d => (Rd (F := F) m).payload (cell c sm) r d) = pay m c (kindOf sm) r 0 := by
  rw [Finset.sdiff_empty, duties_eq m c sm r h, hd, bigSep_singleton, payload_eq]

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rest_three (c : Dev nD) (sm : SemLoc sig) (h : 0 < rnds (kindOf sm)) (hd : dset (kindOf sm) = Finset.univ) :
    bigSep ((Rd (F := F) m).duties (cell c sm) 0 \ ∅) (fun d => (Rd (F := F) m).payload (cell c sm) 0 d)
      = iprop(pay m c (kindOf sm) 0 0 ∗ pay m c (kindOf sm) 0 1 ∗ pay m c (kindOf sm) 0 2) := by
  rw [Finset.sdiff_empty, duties_eq m c sm 0 h, hd, bigSep_fin3]; rfl

/-! ## What is owed -/

/-- What is owed to the listed semaphores. -/
def owed : List (Dev nD × SemLoc sig) → CellTallies nD τ sig Unit
  | [] => 0
  | p :: l => owed l + tallyAt (cell p.1 p.2) () (amt (kindOf p.2))

def L (g : GSem nD τ sig) : Finset Unit := if g.1.2 = .tc then {()} else ∅
def lv (g : GSem nD τ sig) (_ : Unit) : ℕ := lvl (kindOf g.2)
theorem L_of_ne (g : GSem nD τ sig) (h : g.1.2 ≠ .tc) : L g = ∅ := if_neg h
theorem L_tc (c : Dev nD) (sm : SemLoc sig) : L (cell c sm) = {()} := if_pos rfl

theorem owed_pos : (l : List (Dev nD × SemLoc sig)) → (g : GSem nD τ sig) → (u : Unit) → 0 < owed l g u → ∃ p ∈ l, g = cell p.1 p.2
  | [], g, u, h => absurd h (Nat.lt_irrefl 0)
  | p :: l, g, u, h => by
    unfold owed at h
    rw [Pi.add_apply, Finsupp.add_apply, tallyAt_apply] at h
    by_cases hg : g = cell p.1 p.2 ∧ u = ()
    · exact ⟨p, List.mem_cons_self, hg.1⟩
    · rw [if_neg hg, Nat.add_zero] at h
      obtain ⟨p', hp', e⟩ := owed_pos l g u h
      exact ⟨p', List.mem_cons_of_mem _ hp', e⟩

/-- A wait below everything that is owed is allowed. -/
theorem mayWait (c : Dev nD) (sm : SemLoc sig) (l : List (Dev nD × SemLoc sig)) (hl : ∀ p ∈ l, lvl (kindOf sm) < lvl (kindOf p.2)) :
    (levAts L lv : sProp 𝕄) ⊢ MayWait (c : Thread nD τ) sm () (owed l) :=
  MayOwe.of_cut (L := L) (lev := lv) (lvl (kindOf sm))
    (fun p hp => by rw [Finset.mem_singleton.mp hp, L_tc]; exact Finset.mem_singleton_self _)
    (fun g u hg => by obtain ⟨p, hp, rfl⟩ := owed_pos l g u hg; rw [L_tc]; exact Finset.mem_singleton_self _)
    (fun p hp => by rw [Finset.mem_singleton.mp hp]; exact le_refl _)
    (fun g u hg => by obtain ⟨p, hp, rfl⟩ := owed_pos l g u hg; exact hl p hp)

/-- What device `c` owes at the start, in the order it pays. -/
def dues (c : Dev nD) : List (Dev nD × SemLoc sig) :=
  [(xp c, .reg barS), (yp c, .reg barS), (zp c, .reg barS),
   (zp c, .dma (dsem cc0_scratch14 (0 : Fin 4))), (zp c, .dma (dsem cc0_scratch14 (1 : Fin 4))),
   (zp c, .dma (dsem cc0_scratch14 (2 : Fin 4))), (zp c, .dma (dsem cc0_scratch14 (3 : Fin 4))),
   (xp c, .dma (dsem cc0_scratch16 (0 : Fin 4))), (yp c, .dma (dsem cc0_scratch18 (0 : Fin 4))),
   (xp c, .dma (dsem cc0_scratch16 (1 : Fin 4))), (yp c, .dma (dsem cc0_scratch18 (1 : Fin 4))),
   (xp c, .dma (dsem cc0_scratch16 (2 : Fin 4))), (yp c, .dma (dsem cc0_scratch18 (2 : Fin 4))),
   (xp c, .dma (dsem cc0_scratch16 (3 : Fin 4))), (yp c, .dma (dsem cc0_scratch18 (3 : Fin 4))),
   (yp c, .dma (dsem cc0_scratch22 (0 : Fin 4))), (xp c, .dma (dsem cc0_scratch20 (0 : Fin 4))),
   (yp c, .dma (dsem cc0_scratch22 (1 : Fin 4))), (xp c, .dma (dsem cc0_scratch20 (1 : Fin 4))),
   (yp c, .dma (dsem cc0_scratch22 (2 : Fin 4))), (xp c, .dma (dsem cc0_scratch20 (2 : Fin 4))),
   (yp c, .dma (dsem cc0_scratch22 (3 : Fin 4))), (xp c, .dma (dsem cc0_scratch20 (3 : Fin 4))),
   (xp c, .reg finS), (yp c, .reg finS), (zp c, .reg finS)]

end Cert.KernelIdeal.Stages
end
-- ==== Proof.KernelIdeal.Ops.lean ====
/-
  One operation each of the protocol: a wait, a signal, a copy inside the device, a copy to a neighbour, with what each needs
  and what it gives.
-/
module

public import proofs.«01_k».proof.Proof.KernelIdeal.Proto
public import Idealize.ShloMosaic.Lib.Pipeline.Value

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

/-! ## What every device knows, and what it holds -/

/-- Every semaphore follows the schedule, every round 0 is reached, and the levels are as listed. -/
def recs : sProp 𝕄 :=
  iprop((bigSep Finset.univ fun p : Dev nD × SemLoc sig => cellInv ER (Rd m) (Kn p) (cell p.1 p.2))
    ∗ (bigSep Finset.univ fun p : Dev nD × SemLoc sig => reached ER (cell p.1 p.2) 0) ∗ levAts L lv)

instance recs_persistent : BI.Persistent (recs m Kn) := by unfold recs; infer_instance

theorem invs_at (p : Dev nD × SemLoc sig) :
    (bigSep Finset.univ fun p : Dev nD × SemLoc sig => (cellInv ER (Rd m) (Kn p) (cell p.1 p.2) : sProp 𝕄)) ⊢ cellInv ER (Rd m) (Kn p) (cell p.1 p.2) :=
  bigSep_elim (Finset.mem_univ p)
theorem reacheds_at (p : Dev nD × SemLoc sig) :
    (bigSep Finset.univ fun p : Dev nD × SemLoc sig => (reached ER (cell p.1 p.2) 0 : sProp 𝕄)) ⊢ reached ER (cell p.1 p.2) 0 :=
  bigSep_elim (Finset.mem_univ p)
theorem recs_inv (c : Dev nD) (sm : SemLoc sig) : recs m Kn ⊢ cellInv ER (Rd m) (Kn (c, sm)) (cell c sm) := by
  unfold recs; iintro ⟨H, -, -⟩; iapply (invs_at m Kn (c, sm)); iexact H
theorem recs_reached (c : Dev nD) (sm : SemLoc sig) : recs m Kn ⊢ reached ER (cell c sm) 0 := by
  unfold recs; iintro ⟨-, H, -⟩; iapply (reacheds_at (c, sm)); iexact H
theorem recs_lev : recs m Kn ⊢ levAts L lv := by
  unfold recs; iintro ⟨-, -, H⟩; iexact H

/-- Device `c` is at round `r` of its semaphore `sm`. -/
def pos (c : Dev nD) (sm : SemLoc sig) (r : ℕ) : sProp 𝕄 := iprop(atPos ER (cell c sm) r ∅ 0 ∗ reached ER (cell c sm) r)
/-- Device `c` may wait for one duty of its semaphore `sm`. -/
def cr (c : Dev nD) (sm : SemLoc sig) : sProp 𝕄 := cred (tallyAt (cell c sm) () (amt (kindOf sm)))
/-- The right to pay duty `d` of round `r` of semaphore `sm` of device `c`. -/
def tok (c : Dev nD) (sm : SemLoc sig) (r : ℕ) (d : Fin 3) : sProp 𝕄 := dutyTok ER (cell c sm) r d
/-- Device `c` owes the list. -/
def ow (c : Dev nD) (l : List (Dev nD × SemLoc sig)) : sProp 𝕄 := iprop(∃ W, owes (c : Thread nD τ) (owed l) W)

/-! ## One operation each -/

/-- A wait for the one duty of a round: its payload, and the next round. -/
theorem wait_dma (c : Dev nD) (Q : PUnit → sProp 𝕄) {sem : DmaSem sig} (k : K) (hk : kindOf (.dma sem) = k) (hd : dset k = {0}) (r : ℕ) (hr : r < rnds k)
    (l : List (Dev nD × SemLoc sig)) (hl : ∀ p ∈ l, lvl k < lvl (kindOf p.2))
    {sp sp' : Space} {s s' : Shape} {e e' : EltTy} {src : Memref sig .tc sp' s' e'} {dst : Memref sig .tc sp s e}
    {hsrc : src.view.WordExact} {hdst : dst.view.WordExact} (hN : dst.view.dmaCredit = amt k) (kont : PUnit → Pg F) :
    iprop(recs m Kn ∗ cr c (.dma sem) ∗ ow c l ∗ pos c (.dma sem) r)
      ⊢ iprop(((ow c l ∗ pos c (.dma sem) (r + 1) ∗ pay m c k r 0) -∗ Wp c (kont ⟨⟩) Q)
        -∗ Wp c (.op (.waitDma2 sem src dst hsrc hdst) kont) Q) := by
  subst hk
  unfold cr ow pos
  iintro ⟨#HR, Hc, ⟨%W, Ho⟩, Hat, -⟩ Hk
  iapply (Rounds.wp_wait_rest_token 𝒱₀ ER (Rd m) (c : Thread nD τ) none (κ := Kn (c, .dma sem))
      (wpE_waitDma2_eq 𝒱₀ (c : Thread nD τ) none Set.univ) (Set.mem_univ _) () (O := owed l) (W := W) (R := r) (m := 0) (T := ∅)
      (by rw [Nat.zero_add, hN, expect_one m c _ r hr hd])) $$ [Hc Ho Hat]
  · isplitr; · iapply (recs_inv m Kn c _); iexact HR
    isplitl [Hc]; · rw [hN]; iexact Hc
    isplitl [Ho]; · iexact Ho
    isplitr; · iapply (mayWait c _ l hl); iapply (recs_lev m Kn); iexact HR
    iexact Hat
  iintro ⟨Ho, Hat, Hre, Hp⟩
  ihave Hp := (Entails.of_eq (rest_one m c _ r hr hd)) $$ Hp
  iapply Hk
  isplitl [Ho]; · iexists _; iexact Ho
  isplitl [Hat Hre]
  · isplitl [Hat]; · iexact Hat
    iexact Hre
  iexact Hp

/-- A wait for the three duties of a rendezvous. -/
theorem wait_three (c : Dev nD) (Q : PUnit → sProp 𝕄) {b : Sem sig} (k : K) (hk : kindOf (.reg b) = k) (hd : dset k = Finset.univ) (hr : 0 < rnds k)
    (ha : amt k = 1) (l : List (Dev nD × SemLoc sig)) (hl : ∀ p ∈ l, lvl k < lvl (kindOf p.2)) (n : ℕ) (hn : n = 3) (kont : PUnit → Pg F) :
    iprop(recs m Kn ∗ cred (tallyAt (cell c (.reg b)) () 3) ∗ ow c l ∗ pos c (.reg b) 0)
      ⊢ iprop(((ow c l ∗ pos c (.reg b) 1 ∗ pay m c k 0 0 ∗ pay m c k 0 1 ∗ pay m c k 0 2) -∗ Wp c (kont ⟨⟩) Q)
        -∗ Wp c (.op (.semWait b n) kont) Q) := by
  subst hk hn
  unfold ow pos
  iintro ⟨#HR, Hc, ⟨%W, Ho⟩, Hat, -⟩ Hk
  iapply (Rounds.wp_wait_rest_token 𝒱₀ ER (Rd m) (c : Thread nD τ) none (κ := Kn (c, .reg b))
      (wpE_semWait_eq 𝒱₀ (c : Thread nD τ) none Set.univ) (Set.mem_univ _) () (O := owed l) (W := W) (R := 0) (m := 0) (T := ∅)
      (by rw [Nat.zero_add, expect_three m c _ hr hd ha])) $$ [Hc Ho Hat]
  · isplitr; · iapply (recs_inv m Kn c _); iexact HR
    isplitl [Hc]; · iexact Hc
    isplitl [Ho]; · iexact Ho
    isplitr; · iapply (mayWait c _ l hl); iapply (recs_lev m Kn); iexact HR
    iexact Hat
  iintro ⟨Ho, Hat, Hre, Hp⟩
  ihave Hp := (Entails.of_eq (rest_three m c _ hr hd)) $$ Hp
  iapply Hk
  isplitl [Ho]; · iexists _; iexact Ho
  isplitl [Hat Hre]
  · isplitl [Hat]; · iexact Hat
    iexact Hre
  iexact Hp

/-- A signal pays one duty of a neighbour's rendezvous. -/
theorem signal_one (c d : Dev nD) (Q : PUnit → sProp 𝕄) {b : Sem sig} (k : K) (hk : kindOf (.reg b) = k) (j : Fin 3) (hd : j ∈ dset k) (hr : 0 < rnds k)
    (ha : amt k = 1) (l : List (Dev nD × SemLoc sig)) (kont : PUnit → Pg F) :
    iprop(recs m Kn ∗ ow c ((d, .reg b) :: l) ∗ tok d (.reg b) 0 j ∗ pay m d k 0 j)
      ⊢ iprop((ow c l -∗ Wp c (kont ⟨⟩) Q)
        -∗ Wp c (.op (.semSignal (d : Thread nD τ) b ((1 : ℕ) : ℤ)) kont) Q) := by
  subst hk
  unfold ow tok
  iintro ⟨#HR, ⟨%W, Ho⟩, Ht, Hp⟩ Hk
  iapply (Rounds.wp_signal 𝒱₀ ER (Rd m) (c : Thread nD τ) none (dst := (d : Thread nD τ)) (κ := Kn (d, .reg b)) (r := 0) (d := j) (k' := 1)
      (by rw [duties_eq m d _ 0 hr]; exact hd) (by rw [amount_eq, ha]) () (O₀ := owed ((d, .reg b) :: l)) (owed l) (by show owed l + tallyAt (cell d (.reg b)) () (amt (kindOf (.reg b))) = _; rw [ha]) (W := W)) $$ [Ho Ht Hp]
  · isplitr; · iapply (recs_inv m Kn d _); iexact HR
    isplitl [Ho]; · iexact Ho
    isplitl [Ht]; · iexact Ht
    isplitl [Hp]; · iapply (Entails.of_eq (payload_eq m d (.reg b) 0 j).symm); iexact Hp
    iapply (recs_reached m Kn d _); iexact HR
  iintro Ho
  iapply Hk
  iexists _; iexact Ho

/-- A copy inside the device pays its one duty when it lands: the destination at the source's contents, and the lent source. -/
theorem copy_dma (c : Dev nD) (Q : PUnit → sProp 𝕄) {sem : DmaSem sig} (k : K) (hk : kindOf (.dma sem) = k) (hd : dset k = {0}) (r : ℕ) (hr : r < rnds k)
    {sp sp' : Space} {s : Shape} {e : EltTy} (src : Memref sig .tc sp s e) (dst : Memref sig .tc sp' s e)
    {hsrc : src.view.WordExact} {hdst : dst.view.WordExact} {hsem : DmaTarget.Typed (nD := nD) (τ := τ) (p := .tc) sp (.dma sem) (.here dst)}
    (hN : dst.view.amount (.dma sem) = amt k) (q : PosShare TreeShare) (X : s.Idx → Elt F e)
    (hp : iprop(own c dst fullShare X ∗ own c src q X) ⊢ pay m c k r 0) (kont : PUnit → Pg F) :
    iprop(recs m Kn ∗ own c src q X ∗ any c dst ∗ tok c (.dma sem) r 0 ∗ pos c (.dma sem) r)
      ⊢ iprop(((cr c (.dma sem) ∗ pos c (.dma sem) r) -∗ Wp c (kont ⟨⟩) Q)
        -∗ Wp c (.op (.enqueueDma src (.here dst) (.dma sem) hsrc hdst hsem) kont) Q) := by
  subst hk
  unfold cr pos tok any own owns
  iintro ⟨#HR, ⟨%fs, %hfs, Hs⟩, ⟨%Y, %fd, -, Hd⟩, Ht, Hat, #Hre⟩ Hk
  iapply (Rounds.wp_copy_pointsTo 𝒱₀ ER (Rd m) (c : Thread nD τ) none (κ := Kn (c, .dma sem)) (r := r) (d := 0) (fs := fs) (fd := fd) (q := q)
      (by rw [duties_eq m c _ r hr, hd]; exact Finset.mem_singleton_self _) () (amt (kindOf (.dma sem))) hN (amount_eq m c _ r 0)
      (by
        rw [payload_eq]
        refine BIBase.Entails.trans (PROP := sProp 𝕄) ?_ hp
        unfold own owns
        iintro ⟨Hd, Hs⟩
        isplitl [Hd]
        · iexists _
          isplitr; · ipureintro; exact (View.read_write_univ (v := dst.view) fd _).trans hfs
          iexact Hd
        · iexists fs
          isplitr; · ipureintro; exact hfs
          iexact Hs)) $$ [Hs Hd Ht]
  · isplitr; · iapply (recs_inv m Kn c _); iexact HR
    isplitl [Hs]; · iexact Hs
    isplitl [Hd]; · iexact Hd
    isplitl [Ht]; · iexact Ht
    iexact Hre
  iintro Hc
  iapply Hk
  isplitl [Hc]; · iexact Hc
  isplitl [Hat]; · iexact Hat
  iexact Hre

/-- A copy to a neighbour: on leaving it hands the lent source back here, on landing it hands the destination over there. -/
theorem send_dma (c d : Dev nD) (Q : PUnit → sProp 𝕄) {sS sR : DmaSem sig} (kS kR : K) (hkS : kindOf (.dma sS) = kS) (hkR : kindOf (.dma sR) = kR)
    (hdS : dset kS = {0}) (hdR : dset kR = {0}) (hrS : 0 < rnds kS) (hrR : 0 < rnds kR) (hamt : amt kS = amt kR)
    {sp sp' : Space} {s : Shape} {e : EltTy} (src : Memref sig .tc sp s e) (dst : Memref sig .tc sp' s e)
    {hsc : (dst : Memref sig (Dev.tc d : Thread nD τ).2.kind sp' s e).view.ref.isScScratch = false}
    {hsrc : src.view.WordExact} {hdst : dst.view.WordExact}
    {hsem : DmaTarget.Typed sp (.dma sR) (.remote (Dev.tc d : Thread nD τ) dst (.dma sS) hsc)}
    (hN : dst.view.amount (.dma sR) = amt kR) (l : List (Dev nD × SemLoc sig)) (q : PosShare TreeShare) (X : s.Idx → Elt F e)
    (hp₁ : own c src q X ⊢ pay m c kS 0 0) (hp₂ : own d dst fullShare X ⊢ pay m d kR 0 0) (kont : PUnit → Pg F) :
    iprop(recs m Kn ∗ own c src q X ∗ any d dst ∗ ow c ((d, .dma sR) :: l) ∗ tok c (.dma sS) 0 0 ∗ tok d (.dma sR) 0 0)
      ⊢ iprop(((cr c (.dma sS) ∗ ow c l) -∗ Wp c (kont ⟨⟩) Q)
        -∗ Wp c (.op (.enqueueDma src (.remote (Dev.tc d : Thread nD τ) dst (.dma sS) hsc) (.dma sR) hsrc hdst hsem) kont) Q) := by
  subst hkS hkR
  unfold cr tok ow any own owns
  iintro ⟨#HR, ⟨%fs, %hfs, Hs⟩, ⟨%Y, %fd, -, Hd⟩, ⟨%W, Ho⟩, HtS, HtR⟩ Hk
  iapply (Rounds.wp_send_pointsTo 𝒱₀ ER (Rd m) (c : Thread nD τ) none (κ₁ := Kn (c, .dma sS)) (κ₂ := Kn (d, .dma sR))
      (r₁ := 0) (r₂ := 0) (d₁ := 0) (d₂ := 0) (fs := fs) (fd := fd) (q := q)
      (by rw [duties_eq m c _ 0 hrS, hdS]; exact Finset.mem_singleton_self _) (by rw [duties_eq m d _ 0 hrR, hdR]; exact Finset.mem_singleton_self _)
      () () (amt (kindOf (.dma sR))) hN ((amount_eq m c _ 0 0).trans hamt) (amount_eq m d _ 0 0) (owed l) rfl (W := W)
      (by
        rw [payload_eq]
        refine BIBase.Entails.trans (PROP := sProp 𝕄) ?_ hp₁
        unfold own owns
        iintro Hs
        iexists fs
        isplitr; · ipureintro; exact hfs
        iexact Hs)
      (by
        rw [payload_eq]
        refine BIBase.Entails.trans (PROP := sProp 𝕄) ?_ hp₂
        unfold own owns
        iintro Hd
        iexists _
        isplitr; · ipureintro; exact (View.read_write_univ (v := dst.view) fd _).trans hfs
        iexact Hd)) $$ [Hs Hd Ho HtS HtR]
  · isplitr; · iapply (recs_inv m Kn c _); iexact HR
    isplitr; · iapply (recs_inv m Kn d _); iexact HR
    isplitl [Hs]; · iexact Hs
    isplitl [Hd]; · iexact Hd
    isplitl [Ho]; · iexact Ho
    isplitl [HtS]; · iexact HtS
    isplitr; · iapply (recs_reached m Kn c _); iexact HR
    isplitl [HtR]; · iexact HtR
    iapply (recs_reached m Kn d _); iexact HR
  iintro ⟨Hc, Ho⟩
  iapply Hk
  isplitl [Hc]; · rw [hamt]; iexact Hc
  iexists _; iexact Ho

/-! ## Squeezed slots -/

/-- A squeezed slot at `v` is the slot at `v` with the unit axis put back. -/
theorem own_unsqueeze (c : Dev nD) {sp : Space} {s s' : Shape} {e : EltTy} (M : Memref sig .tc sp s e) (r : Rect s) (hr : ∀ a, r.stride a = 1)
    (hq : r.shape.Squeezes s') (hc : s'.ShapeCasts r.shape) (hc' : r.shape.ShapeCasts s') (q : PosShare TreeShare) (v : s'.Idx → Elt F e) :
    own c ((M.slice r hr).squeeze s' hq) q v = own (F := F) c (M.slice r hr) q (shapeCast r.shape v hc) := by
  rw [← own_squeeze c M r hr hq hc' q (shapeCast r.shape v hc), shapeCast_shapeCast]

/-- A slot owned at some contents is also the squeezed slot at some contents. -/
theorem any_squeeze (c : Dev nD) {sp : Space} {s s' : Shape} {e : EltTy} (M : Memref sig .tc sp s e) (r : Rect s) (hr : ∀ a, r.stride a = 1)
    (hq : r.shape.Squeezes s') (hc' : r.shape.ShapeCasts s') :
    any (F := F) c (M.slice r hr) ⊢ any (F := F) c ((M.slice r hr).squeeze s' hq) := by
  unfold any
  iintro ⟨%X, H⟩
  iexists (shapeCast s' X hc')
  rw [show (owns (c : Thread nD τ) ((M.slice r hr).squeeze s' hq) fullShare (shapeCast s' X hc') : sProp 𝕄) = owns (c : Thread nD τ) (M.slice r hr) fullShare X from
    own_squeeze c M r hr hq hc' fullShare X]
  iexact H

end Cert.KernelIdeal.Stages
end
-- ==== Proof.KernelIdeal.Split.lean ====
/-
  The buffers by their slots, blocks and pairs: owning a whole is owning its parts, at named contents or at some contents.
-/
module

public import proofs.«01_k».proof.Proof.KernelIdeal.Ops
public import Idealize.ShloMosaic.Lib.Pipeline.ValueKit.Geometry

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance nonempty_elt (e : EltTy) : Nonempty (Elt F e) := ⟨default⟩

/-! ## Two parts of a rectangle -/

section Two

variable (c : Dev nD) {sp : Space} {s : Shape} {e : EltTy} (M : Memref sig .tc sp s e) (r r₁ r₂ : Rect s)
  (hr : ∀ a, r.stride a = 1) (hr₁ : ∀ a, r₁.stride a = 1) (hr₂ : ∀ a, r₂.stride a = 1)
  (e₁ : r₁.shape.Idx → r.shape.Idx) (e₂ : r₂.shape.Idx → r.shape.Idx)
  (h₁ : ∀ j, r.emb (e₁ j) = r₁.emb j) (h₂ : ∀ j, r.emb (e₂ j) = r₂.emb j)
  (hset : r.set = r₁.set ∪ r₂.set) (hdis : Disjoint r₁.set r₂.set) (q : PosShare TreeShare)

include hset in
theorem set_two : (M.slice r hr).view.set = (M.slice r₁ hr₁).view.set ∪ (M.slice r₂ hr₂).view.set := by
  show (M.view.slice r).set = (M.view.slice r₁).set ∪ (M.view.slice r₂).set
  rw [View.set_slice, View.set_slice, View.set_slice, hset, Finset.map_union]

include hdis in
theorem disjoint_two : Disjoint (M.slice r₁ hr₁).view.set (M.slice r₂ hr₂).view.set := by
  show Disjoint (M.view.slice r₁).set (M.view.slice r₂).set
  rw [View.set_slice, View.set_slice]; exact (Finset.disjoint_map _).mpr hdis

include h₁ h₂ hset hdis in
/-- A rectangle owned at `X` is its two parts owned at their parts of `X`. -/
theorem own_split (X : r.shape.Idx → Elt F e) :
    own c (M.slice r hr) q X ⊢ iprop(own c (M.slice r₁ hr₁) q (fun j => X (e₁ j)) ∗ own c (M.slice r₂ hr₂) q (fun j => X (e₂ j))) := by
  unfold own owns
  iintro ⟨%f, %hf, H⟩
  ihave H := (Entails.of_eq (congrArg (fun S => ((M.slice r hr).view.loc (c : Thread nD τ) ↦[S]{q} f : sProp 𝕄)) (set_two M r r₁ r₂ hr hr₁ hr₂ hset))) $$ H
  ihave H := (pointsTo_union (disjoint_two M r₁ r₂ hr₁ hr₂ hdis)).1 $$ H
  icases H with ⟨H₁, H₂⟩
  isplitl [H₁]
  · iexists f
    isplitr
    · ipureintro; funext j; rw [← hf]; show M.view.read (Elt F) f (r₁.emb j) = M.view.read (Elt F) f (r.emb (e₁ j)); rw [h₁]
    · iexact H₁
  · iexists f
    isplitr
    · ipureintro; funext j; rw [← hf]; show M.view.read (Elt F) f (r₂.emb j) = M.view.read (Elt F) f (r.emb (e₂ j)); rw [h₂]
    · iexact H₂

include h₁ h₂ hset hdis in
/-- and back. -/
theorem own_join (X : r.shape.Idx → Elt F e) (X₁ : r₁.shape.Idx → Elt F e) (X₂ : r₂.shape.Idx → Elt F e)
    (hX₁ : ∀ j, X (e₁ j) = X₁ j) (hX₂ : ∀ j, X (e₂ j) = X₂ j) :
    iprop(own c (M.slice r₁ hr₁) q X₁ ∗ own c (M.slice r₂ hr₂) q X₂) ⊢ own c (M.slice r hr) q X := by
  classical
  unfold own owns
  iintro ⟨⟨%f₁, %hf₁, H₁⟩, ⟨%f₂, %hf₂, H₂⟩⟩
  ihave H := (pointsTo_join (Ix := Unit) (Name := ℕ) (U := UU) (Lvl := ℕ) (ℓ := (M.slice r hr).view.loc (c : Thread nD τ)) (q := q) (I := (M.slice r₁ hr₁).view.set) (J := (M.slice r₂ hr₂).view.set) (f := f₁) (g := f₂)
    (disjoint_two M r₁ r₂ hr₁ hr₂ hdis)) $$ [H₁ H₂]
  · isplitl [H₁] <;> iassumption
  iexists ((M.slice r₂ hr₂).view.set.piecewise f₂ f₁)
  isplitr
  · ipureintro
    funext j
    have hj : r.emb j ∈ r.set := by rw [← Rect.map_emb_univ]; exact Finset.mem_map_of_mem _ (Finset.mem_univ j)
    rw [hset, Finset.mem_union] at hj
    rcases hj with hj | hj
    · obtain ⟨j₁, hj₁⟩ := r₁.exists_idx_of_mem hj
      have hj₁ : r₁.emb j₁ = r.emb j := hj₁
      have ej : e₁ j₁ = j := r.emb.injective ((h₁ j₁).trans hj₁)
      rw [← ej, hX₁, ← hf₁]
      show M.view.read (Elt F) _ (r.emb (e₁ j₁)) = M.view.read (Elt F) f₁ (r₁.emb j₁)
      rw [h₁, View.read_apply, View.read_apply, Finset.piecewise_eq_of_notMem]
      intro hm
      exact Finset.disjoint_left.mp (disjoint_two M r₁ r₂ hr₁ hr₂ hdis)
        (show M.view.emb (r₁.emb j₁) ∈ (M.view.slice r₁).set by
          rw [View.set_slice]; exact Finset.mem_map_of_mem _ (hj₁ ▸ hj)) hm
    · obtain ⟨j₂, hj₂⟩ := r₂.exists_idx_of_mem hj
      have hj₂ : r₂.emb j₂ = r.emb j := hj₂
      have ej : e₂ j₂ = j := r.emb.injective ((h₂ j₂).trans hj₂)
      rw [← ej, hX₂, ← hf₂]
      show M.view.read (Elt F) _ (r.emb (e₂ j₂)) = M.view.read (Elt F) f₂ (r₂.emb j₂)
      rw [h₂, View.read_apply, View.read_apply, Finset.piecewise_eq_of_mem]
      show M.view.emb (r₂.emb j₂) ∈ (M.view.slice r₂).set
      rw [View.set_slice]; exact Finset.mem_map_of_mem _ (hj₂ ▸ hj)
  · iapply (Entails.of_eq (congrArg (fun S => ((M.slice r hr).view.loc (c : Thread nD τ) ↦[S]{q} ((M.slice r₂ hr₂).view.set.piecewise f₂ f₁) : sProp 𝕄)) (set_two M r r₁ r₂ hr hr₁ hr₂ hset).symm))
    iexact H

end Two

/-- A rectangle may be borrowed from a memref and given back. -/
theorem own_borrow (c : Dev nD) {sp : Space} {s : Shape} {e : EltTy} (M : Memref sig .tc sp s e) (r : Rect s) (hr : ∀ a, r.stride a = 1)
    (q : PosShare TreeShare) (X : s.Idx → Elt F e) :
    own c M q X ⊢ iprop(own c (M.slice r hr) q (fun j => X (r.emb j)) ∗ (own c (M.slice r hr) q (fun j => X (r.emb j)) -∗ own c M q X)) := by
  iintro H
  ihave H := (owns_slice_split (c : Thread nD τ) M q r hr X) $$ H
  icases H with ⟨Hs, %f, %hf, Hrest⟩
  isplitl [Hs]; · iexact Hs
  iintro Hs
  ihave H := (owns_slice_join (c : Thread nD τ) M q r hr (fun j => X (r.emb j)) f) $$ [Hs Hrest]
  · isplitl [Hs] <;> iassumption
  have hX : r.overlay (M.view.read (Elt F) f) (fun j => X (r.emb j)) = X := by
    rw [hf]; funext i
    by_cases hi : i ∈ r.set
    · obtain ⟨j, rfl⟩ := r.exists_idx_of_mem hi
      exact Rect.overlay_emb _ _ _ _
    · exact Rect.overlay_of_not_mem _ _ _ hi
  ihave H := (Entails.of_eq (congrArg (fun X => (owns (c : Thread nD τ) M q X : sProp 𝕄)) hX)) $$ H
  iexact H

/-! ## Slots -/

section Family

variable (c : Dev nD) {sp : Space} {s : Shape} {e : EltTy} (M : Memref sig .tc sp s e)
  {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd hcov in
/-- A memref owned at some contents is each of its slots owned at some contents, -/
theorem any_slots : any (F := F) c M ⊢ bigSep Finset.univ fun t => any c (M.slice (r t) (hr t)) := by
  have h : ∀ X, own c M fullShare X ⊢ bigSep Finset.univ fun t => any (F := F) c (M.slice (r t) (hr t)) := fun X =>
    (owns_rects (c : Thread nD τ) M fullShare r hr hd hcov X).trans (bigSep_mono fun t _ => own_any c (M.slice (r t) (hr t)) _)
  conv_lhs => unfold any
  iintro ⟨%X, H⟩
  iapply (h X)
  iexact H

include hd hcov in
/-- and back. -/
theorem any_of_slots : (bigSep Finset.univ fun t => any (F := F) c (M.slice (r t) (hr t))) ⊢ any c M := by
  have h := ownsSat_of_rects (Ix := Unit) (Name := ℕ) (U := UU) (Lvl := ℕ) (Val := Elt F) (c : Thread nD τ) M fullShare r hr hd hcov (fun _ _ => True)
  refine BIBase.Entails.trans (PROP := sProp 𝕄) ?_ (h.trans (ownsSat_any (c : Thread nD τ) M fullShare))
  exact bigSep_mono fun t _ => (ownsSat_true (c : Thread nD τ) (M.slice (r t) (hr t)) fullShare).2

end Family

theorem rows_disjoint {n a b w p : ℕ} (k : Fin p → ℕ) (hk : ∀ t, k t = w * t.val) (h : ∀ t, k t + w ≤ n) (t t' : Fin p) (hne : t ≠ t') :
    Disjoint (rows n a b (k t) w (h t)).set (rows n a b (k t') w (h t')).set := by
  rw [Finset.disjoint_left]
  intro i hi hi'
  have h1 := (Rect.mem_set_unit.mp hi) 0
  have h2 := (Rect.mem_set_unit.mp hi') 0
  have h1 : k t ≤ (i 0).val ∧ (i 0).val < k t + w := h1
  have h2 : k t' ≤ (i 0).val ∧ (i 0).val < k t' + w := h2
  rw [hk] at h1; rw [hk] at h2
  have hv : t.val ≠ t'.val := fun h => hne (Fin.ext h)
  rcases Nat.lt_or_gt_of_ne hv with hl | hl
  · have : w * (t.val + 1) ≤ w * t'.val := Nat.mul_le_mul_left w hl
    rw [Nat.mul_add] at this; omega
  · have : w * (t'.val + 1) ≤ w * t.val := Nat.mul_le_mul_left w hl
    rw [Nat.mul_add] at this; omega

theorem rows_cover {n a b w p : ℕ} (k : Fin p → ℕ) (hk : ∀ t, k t = w * t.val) (h : ∀ t, k t + w ≤ n) (hw : 0 < w) (hn : n = w * p) :
    (Finset.univ : Finset (Fin p)).biUnion (fun t => (rows n a b (k t) w (h t)).set) = Finset.univ := by
  ext i
  refine ⟨fun _ => Finset.mem_univ i, fun _ => ?_⟩
  have h0 : (i 0).val < n := (i 0).isLt
  have h1 : (i 1).val < a := (i 1).isLt
  have h2 : (i 2).val < b := (i 2).isLt
  refine Finset.mem_biUnion.mpr ⟨⟨(i 0).val / w, Nat.div_lt_of_lt_mul (hn ▸ h0)⟩, Finset.mem_univ _, Rect.mem_set_unit.mpr fun x => ?_⟩
  have e0 := Nat.div_add_mod (i 0).val w
  have e1 := Nat.mod_lt (i 0).val hw
  match x with
  | ⟨0, _⟩ => show k _ ≤ (i 0).val ∧ (i 0).val < k _ + w; rw [hk]; constructor <;> (show _; dsimp only; omega)
  | ⟨1, _⟩ => show 0 ≤ (i 1).val ∧ (i 1).val < 0 + a; omega
  | ⟨2, _⟩ => show 0 ≤ (i 2).val ∧ (i 2).val < 0 + b; omega

/-! ### A pair of slots -/

def inFst (j : S1x1024x256.Idx) : S2x1024x256.Idx := fun | 0 => (0 : Fin 2) | 1 => j 1 | 2 => j 2
def inSnd (j : S1x1024x256.Idx) : S2x1024x256.Idx := fun | 0 => (1 : Fin 2) | 1 => j 1 | 2 => j 2

theorem pair_fst (t : Fin 4) (j : S1x1024x256.Idx) : (pR t).emb (inFst j) = (fR t).emb j := by
  have h0 : (j 0).val = 0 := by have : (j 0).val < 1 := (j 0).isLt; omega
  funext x; apply Fin.ext
  rw [ValueKit.rect_emb_unit_val, ValueKit.rect_emb_unit_val]
  match x with
  | ⟨0, _⟩ => show 2 * t.val + 0 = 2 * t.val + (j 0).val; rw [h0]
  | ⟨1, _⟩ => rfl
  | ⟨2, _⟩ => rfl
theorem pair_snd (t : Fin 4) (j : S1x1024x256.Idx) : (pR t).emb (inSnd j) = (sR t).emb j := by
  have h0 : (j 0).val = 0 := by have : (j 0).val < 1 := (j 0).isLt; omega
  funext x; apply Fin.ext
  rw [ValueKit.rect_emb_unit_val, ValueKit.rect_emb_unit_val]
  match x with
  | ⟨0, _⟩ => show 2 * t.val + 1 = (2 * t.val + 1) + (j 0).val; rw [h0]
  | ⟨1, _⟩ => rfl
  | ⟨2, _⟩ => rfl
theorem pair_set (t : Fin 4) : (pR t).set = (fR t).set ∪ (sR t).set := by
  ext i
  rw [Finset.mem_union, Rect.mem_set_unit, Rect.mem_set_unit, Rect.mem_set_unit]
  constructor
  · intro h
    have h0 : 2 * t.val ≤ (i 0).val ∧ (i 0).val < 2 * t.val + 2 := h 0
    by_cases hc : (i 0).val < 2 * t.val + 1
    · left; intro x
      match x with
      | ⟨0, _⟩ => exact ⟨h0.1, hc⟩
      | ⟨1, _⟩ => exact h 1
      | ⟨2, _⟩ => exact h 2
    · right; intro x
      match x with
      | ⟨0, _⟩ => show 2 * t.val + 1 ≤ (i 0).val ∧ (i 0).val < 2 * t.val + 1 + 1; omega
      | ⟨1, _⟩ => exact h 1
      | ⟨2, _⟩ => exact h 2
  · rintro (h | h) <;> intro x
    · have h0 : 2 * t.val ≤ (i 0).val ∧ (i 0).val < 2 * t.val + 1 := h 0
      match x with
      | ⟨0, _⟩ => show 2 * t.val ≤ (i 0).val ∧ (i 0).val < 2 * t.val + 2; omega
      | ⟨1, _⟩ => exact h 1
      | ⟨2, _⟩ => exact h 2
    · have h0 : 2 * t.val + 1 ≤ (i 0).val ∧ (i 0).val < 2 * t.val + 1 + 1 := h 0
      match x with
      | ⟨0, _⟩ => show 2 * t.val ≤ (i 0).val ∧ (i 0).val < 2 * t.val + 2; omega
      | ⟨1, _⟩ => exact h 1
      | ⟨2, _⟩ => exact h 2
theorem pair_disjoint (t : Fin 4) : Disjoint (fR t).set (sR t).set := by
  rw [Finset.disjoint_left]
  intro i hi hi'
  have h1 : 2 * t.val ≤ (i 0).val ∧ (i 0).val < 2 * t.val + 1 := (Rect.mem_set_unit.mp hi) 0
  have h2 : 2 * t.val + 1 ≤ (i 0).val ∧ (i 0).val < 2 * t.val + 1 + 1 := (Rect.mem_set_unit.mp hi') 0
  omega

theorem pairW_fst (a b : S1x1024x256.Idx → Elt F .bf16) (j : S1x1024x256.Idx) : pairW a b (inFst j) = a j := by
  have h0 : j 0 = (0 : Fin 1) := Fin.ext (by have : (j 0).val < 1 := (j 0).isLt; show (j 0).val = 0; omega)
  refine (if_pos rfl : pairW a b (inFst j) = _).trans (congrArg a (funext fun x => ?_))
  match x with
  | ⟨0, _⟩ => exact h0.symm
  | ⟨1, _⟩ => rfl
  | ⟨2, _⟩ => rfl
theorem pairW_snd (a b : S1x1024x256.Idx → Elt F .bf16) (j : S1x1024x256.Idx) : pairW a b (inSnd j) = b j := by
  have h0 : j 0 = (0 : Fin 1) := Fin.ext (by have : (j 0).val < 1 := (j 0).isLt; show (j 0).val = 0; omega)
  refine (if_neg (by show ¬ (1 : ℕ) = 0; decide) : pairW a b (inSnd j) = _).trans (congrArg b (funext fun x => ?_))
  match x with
  | ⟨0, _⟩ => exact h0.symm
  | ⟨1, _⟩ => rfl
  | ⟨2, _⟩ => rfl

/-- A pair of slots is its two slots, -/
theorem pair_split (c : Dev nD) (M : Memref sig .tc .vmem S8x1024x256 .bf16) (t : Fin 4) (q : PosShare TreeShare) (a b : S1x1024x256.Idx → Elt F .bf16) :
    own c (M.slice (pR t) (fun _ => rfl)) q (pairW a b)
      ⊢ iprop(own c (M.slice (fR t) (fun _ => rfl)) q a ∗ own c (M.slice (sR t) (fun _ => rfl)) q b) := by
  have h := own_split c M (pR t) (fR t) (sR t) (fun _ => rfl) (fun _ => rfl) (fun _ => rfl) inFst inSnd (pair_fst t) (pair_snd t) (pair_set t) (pair_disjoint t) q (pairW a b)
  refine BIBase.Entails.trans (PROP := sProp 𝕄) h (sep_mono (Entails.of_eq ?_) (Entails.of_eq ?_))
  · exact congrArg (own c (M.slice (fR t) (fun _ => rfl)) q) (funext (pairW_fst a b))
  · exact congrArg (own c (M.slice (sR t) (fun _ => rfl)) q) (funext (pairW_snd a b))
/-- and back, -/
theorem pair_join (c : Dev nD) (M : Memref sig .tc .vmem S8x1024x256 .bf16) (t : Fin 4) (q : PosShare TreeShare) (a b : S1x1024x256.Idx → Elt F .bf16) :
    iprop(own c (M.slice (fR t) (fun _ => rfl)) q a ∗ own c (M.slice (sR t) (fun _ => rfl)) q b)
      ⊢ own c (M.slice (pR t) (fun _ => rfl)) q (pairW a b) :=
  own_join c M (pR t) (fR t) (sR t) (fun _ => rfl) (fun _ => rfl) (fun _ => rfl) inFst inSnd (pair_fst t) (pair_snd t) (pair_set t) (pair_disjoint t) q (pairW a b) a b
    (pairW_fst a b) (pairW_snd a b)
/-- also at some contents. -/
theorem pair_any_split (c : Dev nD) (M : Memref sig .tc .vmem S8x1024x256 .bf16) (t : Fin 4) :
    any (F := F) c (M.slice (pR t) (fun _ => rfl)) ⊢ iprop(any c (M.slice (fR t) (fun _ => rfl)) ∗ any c (M.slice (sR t) (fun _ => rfl))) := by
  unfold any
  iintro ⟨%X, H⟩
  ihave H := (own_split c M (pR t) (fR t) (sR t) (fun _ => rfl) (fun _ => rfl) (fun _ => rfl) inFst inSnd (pair_fst t) (pair_snd t) (pair_set t) (pair_disjoint t) fullShare X) $$ H
  icases H with ⟨H₁, H₂⟩
  isplitl [H₁]
  · iexists _; iexact H₁
  · iexists _; iexact H₂

/-! ### Two blocks of columns side by side -/

def inLeft (j : S2048x512.Idx) : S2048x1024.Idx := fun | 0 => j 0 | 1 => ⟨(j 1).val, by have : (j 1).val < 512 := (j 1).isLt; show _ < 1024; omega⟩
def inRight (j : S2048x512.Idx) : S2048x1024.Idx := fun | 0 => j 0 | 1 => ⟨(j 1).val + 512, by have : (j 1).val < 512 := (j 1).isLt; show _ < 1024; omega⟩

theorem beside_left (a b : S2048x512.Idx → Elt F .bf16) (j : S2048x512.Idx) : beside a b (inLeft j) = a j := by
  have hj : (j 1).val < 512 := (j 1).isLt
  unfold beside
  rw [dif_pos (show ((inLeft j) 1).val < 512 from hj)]
  congr 1; funext x
  match x with
  | ⟨0, _⟩ => rfl
  | ⟨1, _⟩ => rfl
theorem beside_right (a b : S2048x512.Idx → Elt F .bf16) (j : S2048x512.Idx) : beside a b (inRight j) = b j := by
  unfold beside
  rw [dif_neg (show ¬ ((inRight j) 1).val < 512 from Nat.not_lt.mpr (Nat.le_add_left 512 _))]
  congr 1; funext x
  match x with
  | ⟨0, _⟩ => rfl
  | ⟨1, _⟩ => exact Fin.ext (Nat.add_sub_cancel _ _)

/-- Two neighbouring blocks of columns are one. -/
theorem cols_join (c : Dev nD) (off off₁ off₂ : Fin 2 → ℕ) (h h₁ h₂) (k : ℕ) (hoff : off = ![0, k]) (hoff₁ : off₁ = ![0, k]) (hoff₂ : off₂ = ![0, k + 512])
    (a b : S2048x512.Idx → Elt F .bf16) :
    iprop(own c (xbM.slice (xR off₁ h₁) (fun _ => rfl)) fullShare a ∗ own c (xbM.slice (xR off₂ h₂) (fun _ => rfl)) fullShare b)
      ⊢ own c (xbM.slice (xhR off h) (fun _ => rfl)) fullShare (beside a b) := by
  subst hoff hoff₁ hoff₂
  refine own_join c xbM (xhR ![0, k] h) (xR ![0, k] h₁) (xR ![0, k + 512] h₂) (fun _ => rfl) (fun _ => rfl) (fun _ => rfl) inLeft inRight ?_ ?_ ?_ ?_
    fullShare (beside a b) a b (beside_left a b) (beside_right a b)
  · intro j; funext x; apply Fin.ext
    rw [ValueKit.rect_emb_unit_val, ValueKit.rect_emb_unit_val]
    match x with
    | ⟨0, _⟩ => rfl
    | ⟨1, _⟩ => rfl
  · intro j; funext x; apply Fin.ext
    rw [ValueKit.rect_emb_unit_val, ValueKit.rect_emb_unit_val]
    match x with
    | ⟨0, _⟩ => rfl
    | ⟨1, _⟩ => show k + ((j 1).val + 512) = k + 512 + (j 1).val; omega
  · ext i
    rw [Finset.mem_union, Rect.mem_set_unit, Rect.mem_set_unit, Rect.mem_set_unit]
    constructor
    · intro hi
      have h1 : k ≤ (i 1).val ∧ (i 1).val < k + 1024 := hi 1
      by_cases hc : (i 1).val < k + 512
      · left; intro x
        match x with
        | ⟨0, _⟩ => exact hi 0
        | ⟨1, _⟩ => exact ⟨h1.1, hc⟩
      · right; intro x
        match x with
        | ⟨0, _⟩ => exact hi 0
        | ⟨1, _⟩ => show k + 512 ≤ (i 1).val ∧ (i 1).val < k + 512 + 512; omega
    · rintro (hi | hi) <;> intro x
      · have h1 : k ≤ (i 1).val ∧ (i 1).val < k + 512 := hi 1
        match x with
        | ⟨0, _⟩ => exact hi 0
        | ⟨1, _⟩ => show k ≤ (i 1).val ∧ (i 1).val < k + 1024; omega
      · have h1 : k + 512 ≤ (i 1).val ∧ (i 1).val < k + 512 + 512 := hi 1
        match x with
        | ⟨0, _⟩ => exact hi 0
        | ⟨1, _⟩ => show k ≤ (i 1).val ∧ (i 1).val < k + 1024; omega
  · rw [Finset.disjoint_left]
    intro i hi hi'
    have h1 : k ≤ (i 1).val ∧ (i 1).val < k + 512 := (Rect.mem_set_unit.mp hi) 1
    have h2 : k + 512 ≤ (i 1).val ∧ (i 1).val < k + 512 + 512 := (Rect.mem_set_unit.mp hi') 1
    omega

/-! ### The narrow copy of x, by its blocks and by its halves -/

def xbRect (c : Dev nD) : Fin 4 → Rect S2048x2048
  | 0 => xR (k0_off3 c) (k0_off3_inb c)
  | 1 => xR (k0_off5 c) (k0_off5_inb c)
  | 2 => xR (k0_off7 c) (k0_off7_inb c)
  | 3 => xR (k0_off9 c) (k0_off9_inb c)
def xbCol (c : Dev nD) : Fin 4 → ℕ
  | 0 => 1024 - 1024 * (c.val % 2)
  | 1 => 1536 - 1024 * (c.val % 2)
  | 2 => 1024 * (c.val % 2)
  | 3 => 1024 * (c.val % 2) + 512
theorem mem_cols {off : Fin 2 → ℕ} {n w H : ℕ} (h) (k : ℕ) (hoff : off = ![0, k]) (i : (⟨2, ![H, n]⟩ : Shape).Idx) :
    i ∈ (Rect.unit (s := ⟨2, ![H, n]⟩) off (⟨2, ![H, w]⟩ : Shape).size h).set ↔ k ≤ (i 1).val ∧ (i 1).val < k + w := by
  subst hoff
  rw [Rect.mem_set_unit]
  have h0 : (i 0).val < H := (i 0).isLt
  refine ⟨fun hi => hi 1, fun hi x => ?_⟩
  match x with
  | ⟨0, _⟩ => show 0 ≤ (i 0).val ∧ (i 0).val < 0 + H; omega
  | ⟨1, _⟩ => exact hi
theorem mem_xbRect (c : Dev nD) (t : Fin 4) (i : S2048x2048.Idx) : i ∈ (xbRect c t).set ↔ xbCol c t ≤ (i 1).val ∧ (i 1).val < xbCol c t + 512 := by
  match t with
  | 0 => exact mem_cols (k0_off3_inb c) _ (k0_off3_eq c) i
  | 1 => exact mem_cols (k0_off5_inb c) _ (k0_off5_eq c) i
  | 2 => exact mem_cols (k0_off7_inb c) _ (k0_off7_eq c) i
  | 3 => exact mem_cols (k0_off9_inb c) _ (k0_off9_eq c) i
theorem xbCol_eq (c : Dev nD) (t : Fin 4) : ∃ k : Fin 4, xbCol c t = 512 * k.val := by revert c t; decide
theorem xbCol_inj : ∀ (c : Dev nD) (t t' : Fin 4), xbCol c t = xbCol c t' → t = t' := by decide
theorem xbCol_surj : ∀ (c : Dev nD) (k : Fin 4), ∃ t, xbCol c t = 512 * k.val := by decide
theorem xb_disjoint (c : Dev nD) (t t' : Fin 4) (h : t ≠ t') : Disjoint (xbRect c t).set (xbRect c t').set := by
  rw [Finset.disjoint_left]
  intro i hi hi'
  rw [mem_xbRect] at hi hi'
  obtain ⟨k, hk⟩ := xbCol_eq c t; obtain ⟨k', hk'⟩ := xbCol_eq c t'
  exact h (xbCol_inj c t t' (by omega))
theorem xb_cover (c : Dev nD) : (Finset.univ : Finset (Fin 4)).biUnion (fun t => (xbRect c t).set) = Finset.univ := by
  ext i
  refine ⟨fun _ => Finset.mem_univ i, fun _ => ?_⟩
  have h1 : (i 1).val < 2048 := (i 1).isLt
  obtain ⟨t, ht⟩ := xbCol_surj c ⟨(i 1).val / 512, by omega⟩
  refine Finset.mem_biUnion.mpr ⟨t, Finset.mem_univ _, (mem_xbRect c t i).mpr ?_⟩
  rw [ht]; dsimp only; omega

def xhRect (c : Dev nD) : Fin 2 → Rect S2048x2048
  | 0 => xhR (k0_off10 c) (k0_off10_inb c)
  | 1 => xhR (k0_off11 c) (k0_off11_inb c)
def xhCol (c : Dev nD) : Fin 2 → ℕ
  | 0 => 1024 - 1024 * (c.val % 2)
  | 1 => 1024 * (c.val % 2)
theorem mem_xhRect (c : Dev nD) (t : Fin 2) (i : S2048x2048.Idx) : i ∈ (xhRect c t).set ↔ xhCol c t ≤ (i 1).val ∧ (i 1).val < xhCol c t + 1024 := by
  match t with
  | 0 => exact mem_cols (k0_off10_inb c) _ (k0_off10_eq c) i
  | 1 => exact mem_cols (k0_off11_inb c) _ (k0_off11_eq c) i
theorem xhCol_eq (c : Dev nD) (t : Fin 2) : ∃ k : Fin 2, xhCol c t = 1024 * k.val := by revert c t; decide
theorem xhCol_inj : ∀ (c : Dev nD) (t t' : Fin 2), xhCol c t = xhCol c t' → t = t' := by decide
theorem xhCol_surj : ∀ (c : Dev nD) (k : Fin 2), ∃ t, xhCol c t = 1024 * k.val := by decide
theorem xh_disjoint (c : Dev nD) (t t' : Fin 2) (h : t ≠ t') : Disjoint (xhRect c t).set (xhRect c t').set := by
  rw [Finset.disjoint_left]
  intro i hi hi'
  rw [mem_xhRect] at hi hi'
  obtain ⟨k, hk⟩ := xhCol_eq c t; obtain ⟨k', hk'⟩ := xhCol_eq c t'
  exact h (xhCol_inj c t t' (by omega))
theorem xh_cover (c : Dev nD) : (Finset.univ : Finset (Fin 2)).biUnion (fun t => (xhRect c t).set) = Finset.univ := by
  ext i
  refine ⟨fun _ => Finset.mem_univ i, fun _ => ?_⟩
  have h1 : (i 1).val < 2048 := (i 1).isLt
  obtain ⟨t, ht⟩ := xhCol_surj c ⟨(i 1).val / 1024, by omega⟩
  refine Finset.mem_biUnion.mpr ⟨t, Finset.mem_univ _, (mem_xhRect c t i).mpr ?_⟩
  rw [ht]; dsimp only; omega

/-! ### The result, by its sixteen blocks -/

/-- Block `p.2` of the group of columns of this device, of its x neighbour, of its y neighbour, of the diagonal device. -/
def outRect (c : Dev nD) (p : Fin 4 × Fin 4) : Rect S1024x8192 :=
  match p.1 with
  | 0 => outR (k0_off12 c (w512 p.2)) (k0_off12_inb c p.2)
  | 1 => outR (k0_off13 c (w512 p.2)) (k0_off13_inb c p.2)
  | 2 => outR (k0_off14 c (w512 p.2)) (k0_off14_inb c p.2)
  | 3 => outR (k0_off15 c (w512 p.2)) (k0_off15_inb c p.2)
/-- The group: `2 x + y` of the device concerned. -/
def grp (c : Dev nD) (ρ : Fin 4) : ℕ :=
  match ρ with
  | 0 => c.val / 2
  | 1 => (xp c).val / 2
  | 2 => (yp c).val / 2
  | 3 => (xp (yp c)).val / 2
theorem off12_grp : ∀ (c : Dev nD) (t : Fin 4), 4096 * (c.val / 4) + 2048 * ((c.val / 2) % 2) + 512 * t.val = 2048 * grp c 0 + 512 * t.val := by decide
theorem off13_grp : ∀ (c : Dev nD) (t : Fin 4), (2048 * ((c.val / 2) % 2) + 512 * t.val + 4096) - 4096 * (c.val / 4) = 2048 * grp c 1 + 512 * t.val := by decide
theorem off14_grp : ∀ (c : Dev nD) (t : Fin 4), (4096 * (c.val / 4) + 512 * t.val + 2048) - 2048 * ((c.val / 2) % 2) = 2048 * grp c 2 + 512 * t.val := by decide
theorem off15_grp : ∀ (c : Dev nD) (t : Fin 4), (512 * t.val + 6144) - (4096 * (c.val / 4) + 2048 * ((c.val / 2) % 2)) = 2048 * grp c 3 + 512 * t.val := by decide
theorem off12_col (c : Dev nD) (t : Fin 4) : k0_off12 c (w512 t) = ![0, 2048 * grp c 0 + 512 * t.val] := by rw [← off12_grp]; exact k0_off12_eq c t
theorem off13_col (c : Dev nD) (t : Fin 4) : k0_off13 c (w512 t) = ![0, 2048 * grp c 1 + 512 * t.val] := by rw [← off13_grp]; exact k0_off13_eq c t
theorem off14_col (c : Dev nD) (t : Fin 4) : k0_off14 c (w512 t) = ![0, 2048 * grp c 2 + 512 * t.val] := by rw [← off14_grp]; exact k0_off14_eq c t
theorem off15_col (c : Dev nD) (t : Fin 4) : k0_off15 c (w512 t) = ![0, 2048 * grp c 3 + 512 * t.val] := by rw [← off15_grp]; exact k0_off15_eq c t
theorem mem_outRect (c : Dev nD) (p : Fin 4 × Fin 4) (i : S1024x8192.Idx) :
    i ∈ (outRect c p).set ↔ 2048 * grp c p.1 + 512 * p.2.val ≤ (i 1).val ∧ (i 1).val < 2048 * grp c p.1 + 512 * p.2.val + 512 := by
  obtain ⟨ρ, t⟩ := p
  match ρ with
  | 0 => exact mem_cols (k0_off12_inb c t) _ (off12_col c t) i
  | 1 => exact mem_cols (k0_off13_inb c t) _ (off13_col c t) i
  | 2 => exact mem_cols (k0_off14_inb c t) _ (off14_col c t) i
  | 3 => exact mem_cols (k0_off15_inb c t) _ (off15_col c t) i
theorem grp_inj : ∀ (c : Dev nD) (ρ ρ' : Fin 4), grp c ρ = grp c ρ' → ρ = ρ' := by decide
theorem grp_surj : ∀ (c : Dev nD) (k : Fin 4), ∃ ρ, grp c ρ = k.val := by decide
theorem out_disjoint (c : Dev nD) (p p' : Fin 4 × Fin 4) (h : p ≠ p') : Disjoint (outRect c p).set (outRect c p').set := by
  rw [Finset.disjoint_left]
  intro i hi hi'
  rw [mem_outRect] at hi hi'
  have h2 : p.2.val < 4 := p.2.isLt
  have h2' : p'.2.val < 4 := p'.2.isLt
  have e1 : grp c p.1 = grp c p'.1 := by omega
  exact h (Prod.ext (grp_inj c _ _ e1) (Fin.ext (by omega)))
theorem out_cover (c : Dev nD) : (Finset.univ : Finset (Fin 4 × Fin 4)).biUnion (fun p => (outRect c p).set) = Finset.univ := by
  ext i
  refine ⟨fun _ => Finset.mem_univ i, fun _ => ?_⟩
  have h1 : (i 1).val < 8192 := (i 1).isLt
  obtain ⟨ρ, hρ⟩ := grp_surj c ⟨(i 1).val / 2048, by omega⟩
  refine Finset.mem_biUnion.mpr ⟨(ρ, ⟨(i 1).val % 2048 / 512, by omega⟩), Finset.mem_univ _, (mem_outRect c _ i).mpr ?_⟩
  dsimp only; rw [hρ]; dsimp only; omega

end Cert.KernelIdeal.Stages
end
-- ==== Proof.KernelIdeal.Stages.lean ====
/-
  The rendezvous, the loads, and the products: what each stage needs and what it gives.
-/
module

public import proofs.«01_k».proof.Proof.KernelIdeal.Split

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

theorem wp_done (c : Dev nD) (Q : PUnit → sProp 𝕄) : Q ⟨⟩ ⊢ Wp c (.ret ⟨⟩) Q := le_wp_ret _ _ _ _ _

/-! ## What is still owed -/

/-- The semaphores of `dues`, which are the same on every device. -/
def dueSems : List (SemLoc sig) := (dues 0).map Prod.snd
theorem dues_map (c : Dev nD) : (dues c).map Prod.snd = dueSems := rfl
/-- Device `c` owes what is listed from place `n` on. -/
abbrev due (c : Dev nD) (n : ℕ) : sProp 𝕄 := ow c ((dues c).drop n)

/-- Whether everything listed from place `n` on is above level `v`. -/
def above (n v : ℕ) : Prop := ∀ s ∈ dueSems.drop n, v < lvl (kindOf s)
instance (n v : ℕ) : Decidable (above n v) := by unfold above; infer_instance
theorem above_dues (c : Dev nD) {n v : ℕ} (h : above n v) : ∀ p ∈ (dues c).drop n, v < lvl (kindOf p.2) := by
  intro p hp
  refine h p.2 ?_
  rw [← dues_map c, ← List.map_drop]
  exact List.mem_map_of_mem hp

theorem due_step (c : Dev nD) (n : ℕ) (d : Dev nD) (sm : SemLoc sig) (h : (dues c).drop n = (d, sm) :: (dues c).drop (n + 1)) :
    (due (F := F) c n : sProp 𝕄) ⊢ ow c ((d, sm) :: (dues c).drop (n + 1)) := Entails.of_eq (congrArg (ow (F := F) c) h)

/-! ## The rendezvous -/

theorem rendezvous_spec (c : Dev nD) (Q : PUnit → sProp 𝕄) (b : Sem sig) (k : K) (hk : kindOf (.reg b) = k) (hd : dset k = Finset.univ) (hr : 0 < rnds k)
    (ha : amt k = 1) (n : ℕ) (d₁ d₂ d₃ : Dev nD) (h₁ : d₁ = xp c) (h₂ : d₂ = yp c) (h₃ : d₃ = zp c)
    (hn₁ : (dues c).drop n = (xp c, .reg b) :: (dues c).drop (n + 1)) (hn₂ : (dues c).drop (n + 1) = (yp c, .reg b) :: (dues c).drop (n + 2))
    (hn₃ : (dues c).drop (n + 2) = (zp c, .reg b) :: (dues c).drop (n + 3)) (hl : above (n + 3) (lvl k)) :
    iprop(recs m Kn ∗ due c n ∗ (tok (xp c) (.reg b) 0 0 ∗ tok (yp c) (.reg b) 0 1 ∗ tok (zp c) (.reg b) 0 2)
        ∗ (pay m (xp c) k 0 0 ∗ pay m (yp c) k 0 1 ∗ pay m (zp c) k 0 2) ∗ cred (tallyAt (cell c (.reg b)) () 3) ∗ pos c (.reg b) 0)
      ⊢ iprop(((due c (n + 3) ∗ pos c (.reg b) 1 ∗ pay m c k 0 0 ∗ pay m c k 0 1 ∗ pay m c k 0 2) -∗ Q ⟨⟩) -∗ Wp c (rendezvous b d₁ d₂ d₃) Q) := by
  subst h₁ h₂ h₃
  simp only [rendezvous, semSignalWord, semWaitWord, Prog.lift, Prog.bind_op, Prog.bind_ret, Prog.pure_eq_ret]
  iintro ⟨#HR, Ho, ⟨Ht₁, Ht₂, Ht₃⟩, ⟨Hp₁, Hp₂, Hp₃⟩, Hc, Hat⟩ Hk
  ihave Ho := (due_step c n _ _ hn₁) $$ Ho
  iapply (signal_one m Kn c (xp c) Q k hk 0 (by rw [hd]; exact Finset.mem_univ _) hr ha ((dues c).drop (n + 1)) _) $$ [Ho Ht₁ Hp₁]
  · isplitr; · iexact HR
    isplitl [Ho]; · iexact Ho
    isplitl [Ht₁] <;> iassumption
  iintro Ho
  ihave Ho := (due_step c (n + 1) _ _ hn₂) $$ Ho
  iapply (signal_one m Kn c (yp c) Q k hk 1 (by rw [hd]; exact Finset.mem_univ _) hr ha ((dues c).drop (n + 2)) _) $$ [Ho Ht₂ Hp₂]
  · isplitr; · iexact HR
    isplitl [Ho]; · iexact Ho
    isplitl [Ht₂] <;> iassumption
  iintro Ho
  ihave Ho := (due_step c (n + 2) _ _ hn₃) $$ Ho
  iapply (signal_one m Kn c (zp c) Q k hk 2 (by rw [hd]; exact Finset.mem_univ _) hr ha ((dues c).drop (n + 3)) _) $$ [Ho Ht₃ Hp₃]
  · isplitr; · iexact HR
    isplitl [Ho]; · iexact Ho
    isplitl [Ht₃] <;> iassumption
  iintro Ho
  iapply (wait_three m Kn c Q k hk hd hr ha ((dues c).drop (n + 3)) (above_dues c hl) _ rfl _) $$ [Hc Ho Hat]
  · isplitr; · iexact HR
    isplitl [Hc]; · iexact Hc
    isplitl [Ho] <;> iassumption
  iintro H
  iapply (wp_done c Q)
  iapply Hk
  iexact H

/-! ## The loads -/

theorem startLd_spec (c : Dev nD) (Q : PUnit → sProp 𝕄) (s : Fin 2) (r : ℕ) (hr : r < 4) (src : Memref sig .tc .hbm S2048x512 .f32) (X : S2048x512.Idx → Elt F .f32)
    (hp : ldPay m c s r = iprop(own c (ldS s) fullShare (lift1 X) ∗ own c src (half s) X)) :
    iprop(recs m Kn ∗ own c src (half s) X ∗ any c (ldS s) ∗ tok c (.dma (dsem cc0_scratch12 s)) r 0 ∗ pos c (.dma (dsem cc0_scratch12 s)) r)
      ⊢ iprop(((cr c (.dma (dsem cc0_scratch12 s)) ∗ pos c (.dma (dsem cc0_scratch12 s)) r) -∗ Q ⟨⟩) -∗ Wp c (startLd s src) Q) := by
  simp only [startLd, Prog.lift]
  iintro ⟨#HR, Hs, Hd, Ht, Hat⟩ Hk
  ihave Hd := (any_squeeze c ldM (ldR s) (fun _ => rfl) squeezes_S1x2048x512_S2048x512 casts_ld') $$ Hd
  iapply (copy_dma m Kn c Q (.ld s) (kind_ld s) rfl r hr src (ldV s)
    (hsrc := View.wordExact_bits rfl) (hdst := (View.wordExact_bits rfl).reshape _ _) (hsem := ⟨Or.inl rfl, trivial⟩) rfl (half s) X
    (by
      show _ ⊢ ldPay m c s r
      rw [hp]
      exact sep_mono_left (Entails.of_eq (own_unsqueeze c ldM (ldR s) (fun _ => rfl) squeezes_S1x2048x512_S2048x512 casts_ld casts_ld' fullShare X))) _) $$ [Hs Hd Ht Hat]
  · isplitr; · iexact HR
    iframe
  iintro H
  iapply (wp_done c Q)
  iapply Hk
  iexact H

theorem waitLd_spec (c : Dev nD) (Q : PUnit → sProp 𝕄) (s : Fin 2) (r : ℕ) (hr : r < 4) (src : Memref sig .tc .hbm S2048x512 .f32) (n : ℕ) (hl : above n 0) :
    iprop(recs m Kn ∗ cr c (.dma (dsem cc0_scratch12 s)) ∗ due c n ∗ pos c (.dma (dsem cc0_scratch12 s)) r)
      ⊢ iprop(((due c n ∗ pos c (.dma (dsem cc0_scratch12 s)) (r + 1) ∗ ldPay m c s r) -∗ Q ⟨⟩) -∗ Wp c (waitLd s src) Q) := by
  simp only [waitLd, Prog.lift]
  iintro H Hk
  iapply (wait_dma m Kn c Q (.ld s) (kind_ld s) rfl r hr _ (above_dues c hl) (src := src) (dst := ldV s)
    (hsrc := View.wordExact_bits rfl) (hdst := (View.wordExact_bits rfl).reshape _ _) rfl _) $$ H
  iintro H
  iapply (wp_done c Q)
  iapply Hk
  iexact H

/-- A block of x cast. -/
theorem castX_spec (c : Dev nD) (Q : PUnit → sProp 𝕄) (s : Fin 2) (off : Fin 2 → ℕ) (h hp) (v : S1x2048x512.Idx → Elt F .f32) :
    iprop(own c (ldS s) fullShare v ∗ any c (xbM.slice (xR off h) (fun _ => rfl)))
      ⊢ iprop(((any c (ldS s) ∗ own c (xbM.slice (xR off h) (fun _ => rfl)) fullShare (payX v)) -∗ Q ⟨⟩) -∗ Wp c (castX s off h hp) Q) := by
  simp only [castX, Prog.lift, Prog.bind_op, Prog.bind_ret, Prog.pure_eq_ret]
  iintro ⟨Hl, Hx⟩ Hk
  iapply (load_own c ldM (ldR s) (fun _ => rfl) Q fullShare v _) $$ Hl
  iintro Hl
  iapply (load_any c xbM (xR off h) (fun _ => rfl) Q _ _ (fun _ => rfl)) $$ Hx
  iintro Hx
  iapply (store_any c xbM (xR off h) (fun _ => rfl) Q _) $$ Hx
  iintro Hx
  iapply (wp_done c Q)
  iapply Hk
  isplitl [Hl]
  · iapply (own_any c _ _); iexact Hl
  · iexact Hx

/-! ## The products, and the exchange along z -/

/-- What device `c` has of buffer slot `t` before the product: places for the two partial products, and the right to send. -/
def preZ (c : Dev nD) (t : Fin 4) : sProp 𝕄 :=
  iprop(any c (zsS t) ∗ any c (pkS t) ∗ tok c (.dma (dsem cc0_scratch13 t)) 0 0 ∗ tok (zp c) (.dma (dsem cc0_scratch14 t)) 0 0)
/-- and after it. -/
def midZ (c : Dev nD) (t : Fin 4) : sProp 𝕄 := iprop(own c (pkS t) fullShare (pkW m c t) ∗ cr c (.dma (dsem cc0_scratch13 t)))
/-- The two halves of x, cast. -/
def xhs (c : Dev nD) : sProp 𝕄 :=
  iprop(own c (xbM.slice (xhR (k0_off10 c) (k0_off10_inb c)) (fun _ => rfl)) fullShare (xh0 m c)
    ∗ own c (xbM.slice (xhR (k0_off11 c) (k0_off11_inb c)) (fun _ => rfl)) fullShare (xh1 m c))

theorem casts_z : S1x1024x512.ShapeCasts S1024x512 := by decide
theorem casts_z' : S1024x512.ShapeCasts S1x1024x512 := by decide
theorem casts_h' : S1024x256.ShapeCasts S1x1024x256 := by decide

theorem zs_sent (c : Dev nD) (t : Fin 4) :
    own c (zsS t) fullShare (payZs (xh0 m c) (payDy (lift1 (dyblk m c t)))) ⊢ own c (zsS t) fullShare (zsW m c t) := Entails.of_eq rfl

theorem pk_kept (c : Dev nD) (t : Fin 4) :
    own c (pkS t) fullShare (payPk (xh1 m c) (payDy (lift1 (dyblk m c t)))) ⊢ own c (pkS t) fullShare (pkW m c t) := Entails.of_eq rfl

theorem mulDy_spec (c : Dev nD) (Q : PUnit → sProp 𝕄) (t : Fin 4) (s : Fin 2) (d : Dev nD) (hd : d = zp c) (n : ℕ)
    (hn : (dues c).drop n = (zp c, .dma (dsem cc0_scratch14 t)) :: (dues c).drop (n + 1)) :
    iprop(recs m Kn ∗ own c (ldS s) fullShare (lift1 (dyblk m c t)) ∗ any c (dybS s) ∗ xhs m c ∗ preZ c t ∗ any (zp c) (zrS t) ∗ due c n)
      ⊢ iprop(((any c (ldS s) ∗ any c (dybS s) ∗ xhs m c ∗ midZ m c t ∗ due c (n + 1)) -∗ Q ⟨⟩)
        -∗ Wp c (mulDy t s d (k0_off10 c) (k0_off11 c) (k0_off10_inb c) (k0_off11_inb c)) Q) := by
  subst hd
  simp only [mulDy, Prog.lift, Prog.bind_op, Prog.bind_ret, Prog.pure_eq_ret]
  unfold preZ xhs midZ
  iintro ⟨#HR, Hl, Hd, ⟨Hx₀, Hx₁⟩, ⟨Hzs, Hpk, HtS, HtR⟩, Hzr, Ho⟩ Hk
  iapply (load_own c ldM (ldR s) (fun _ => rfl) Q fullShare _ _) $$ Hl
  iintro Hl
  iapply (load_any c dybM (ldR s) (fun _ => rfl) Q _ _ (fun _ => rfl)) $$ Hd
  iintro Hd
  iapply (store_any c dybM (ldR s) (fun _ => rfl) Q _) $$ Hd
  iintro Hd
  iapply (load_own c xbM (xhR (k0_off10 c) (k0_off10_inb c)) (fun _ => rfl) Q fullShare _ _) $$ Hx₀
  iintro Hx₀
  iapply (load_own c dybM (ldR s) (fun _ => rfl) Q fullShare _ _) $$ Hd
  iintro Hd
  iapply (load_any c zsM (zR t) (fun _ => rfl) Q _ _ (fun _ => rfl)) $$ Hzs
  iintro Hzs
  iapply (store_any c zsM (zR t) (fun _ => rfl) Q _) $$ Hzs
  iintro Hzs
  ihave Hzs := (zs_sent m c t) $$ Hzs
  ihave Hzs := (Entails.of_eq (own_squeeze c zsM (zR t) (fun _ => rfl) squeezes_S1x1024x512_S1024x512 casts_z fullShare (zsW m c t)).symm) $$ Hzs
  ihave Hzr := (any_squeeze (zp c) zrM (zR t) (fun _ => rfl) squeezes_S1x1024x512_S1024x512 casts_z) $$ Hzr
  ihave Ho := (due_step c n _ _ hn) $$ Ho
  iapply (send_dma m Kn c (zp c) Q (.zs t) (.zr t) (kind_zs t) (kind_zr t) rfl rfl Nat.one_pos Nat.one_pos rfl (zsV t) (zrV t) rfl _ fullShare
    (shapeCast S1024x512 (zsW m c t) casts_z)
    (Entails.of_eq (own_squeeze c zsM (zR t) (fun _ => rfl) squeezes_S1x1024x512_S1024x512 casts_z fullShare (zsW m c t)))
    (by
      show _ ⊢ own (zp c) (zrS t) fullShare (zsW m (zp (zp c)) t)
      rw [zp_zp]
      exact Entails.of_eq (own_squeeze (zp c) zrM (zR t) (fun _ => rfl) squeezes_S1x1024x512_S1024x512 casts_z fullShare (zsW m c t))) _)
    $$ [Hzs Hzr Ho HtS HtR]
  · isplitr; · iexact HR
    isplitl [Hzs]; · iexact Hzs
    isplitl [Hzr]; · iexact Hzr
    isplitl [Ho]; · iexact Ho
    isplitl [HtS] <;> iassumption
  iintro ⟨Hc, Ho⟩
  iapply (load_own c xbM (xhR (k0_off11 c) (k0_off11_inb c)) (fun _ => rfl) Q fullShare _ _) $$ Hx₁
  iintro Hx₁
  iapply (load_own c dybM (ldR s) (fun _ => rfl) Q fullShare _ _) $$ Hd
  iintro Hd
  iapply (load_any c pkM (zR t) (fun _ => rfl) Q _ _ (fun _ => rfl)) $$ Hpk
  iintro Hpk
  iapply (store_any c pkM (zR t) (fun _ => rfl) Q _) $$ Hpk
  iintro Hpk
  iapply (wp_done c Q)
  iapply Hk
  isplitl [Hl]; · iapply (own_any c _ _); iexact Hl
  isplitl [Hd]; · iapply (own_any c _ _); iexact Hd
  isplitl [Hx₀ Hx₁]; · isplitl [Hx₀] <;> iassumption
  isplitl [Hpk Hc]
  · isplitl [Hpk]
    · iapply (pk_kept m c t); iexact Hpk
    · iexact Hc
  iexact Ho

end Cert.KernelIdeal.Stages
end
-- ==== Proof.KernelIdeal.Exchange.lean ====
/-
  The exchanges: adding, passing on, and writing the result; what each stage needs and what it gives.
-/
module

public import proofs.«01_k».proof.Proof.KernelIdeal.Stages

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

theorem casts_half : S1x1024x256.ShapeCasts S1024x256 := by decide

/-! ## What the rounds hand over, read out -/

theorem got_zs (c : Dev nD) (t : Fin 4) : pay m c (.zs t) 0 0 ⊢ own c (zsS t) fullShare (zsW m c t) := Entails.of_eq rfl
theorem got_zr (c : Dev nD) (t : Fin 4) : pay m c (.zr t) 0 0 ⊢ own c (zrS t) fullShare (zsW m (zp c) t) := Entails.of_eq rfl
theorem got_axs (c : Dev nD) (t : Fin 4) : pay m c (.axs t) 0 0 ⊢ own c (sbP t) fullShare.left (bothW m c t) := Entails.of_eq rfl
theorem got_axr (c : Dev nD) (t : Fin 4) : pay m c (.axr t) 0 0 ⊢ own c (gxP t) fullShare (bothW m (xp c) t) := Entails.of_eq rfl
theorem got_ays (c : Dev nD) (t : Fin 4) : pay m c (.ays t) 0 0 ⊢ own c (sbP t) fullShare.right (bothW m c t) := Entails.of_eq rfl
theorem got_ayr (c : Dev nD) (t : Fin 4) : pay m c (.ayr t) 0 0 ⊢ own c (gyP t) fullShare (bothW m (yp c) t) := Entails.of_eq rfl
theorem got_bys (c : Dev nD) (t : Fin 4) : pay m c (.bys t) 0 0 ⊢ own c (gxG t) fullShare.left (sndW m (xp c) t) := Entails.of_eq rfl
theorem got_byr (c : Dev nD) (t : Fin 4) : pay m c (.byr t) 0 0 ⊢ own c (hyS t) fullShare (sndW m (xp (yp c)) t) := Entails.of_eq rfl
theorem got_bxs (c : Dev nD) (t : Fin 4) : pay m c (.bxs t) 0 0 ⊢ own c (gyF t) fullShare.left (fstW m (yp c) t) := Entails.of_eq rfl
theorem got_bxr (c : Dev nD) (t : Fin 4) : pay m c (.bxr t) 0 0 ⊢ own c (hxS t) fullShare (fstW m (xp (yp c)) t) := Entails.of_eq rfl
theorem got_st (c : Dev nD) (t : Fin 4) : pay m c (.st t) 0 0 ⊢ outPay c (pkS t) (k0_off12 c (w512 t)) (k0_off12_inb c t) (sumW m c t) := Entails.of_eq rfl
theorem got_sc (c : Dev nD) (s : Fin 2) (r : ℕ) : pay m c (.sc s) r 0 ⊢ scPay m c s r := Entails.of_eq rfl

/-! ## Adding, and the exchange along x and y -/

/-- What device `c` holds of slot `t` before it adds. -/
def preS (c : Dev nD) (t : Fin 4) : sProp 𝕄 :=
  iprop(any c (sbP t) ∗ pos c (.dma (dsem cc0_scratch13 t)) 0 ∗ pos c (.dma (dsem cc0_scratch14 t)) 0 ∗ cr c (.dma (dsem cc0_scratch14 t)) ∗ tok c (.dma (dsem cc0_scratch15 t)) 0 0 ∗ tok (xp c) (.dma (dsem cc0_scratch16 t)) 0 0
    ∗ tok c (.dma (dsem cc0_scratch17 t)) 0 0 ∗ tok (yp c) (.dma (dsem cc0_scratch18 t)) 0 0 ∗ tok c (.dma (dsem cc0_scratch23 t)) 0 0 ∗ pos c (.dma (dsem cc0_scratch23 t)) 0)
/-- What the two exchanges and the copy out may be waited for with. -/
def midS (c : Dev nD) (t : Fin 4) : sProp 𝕄 := iprop(cr c (.dma (dsem cc0_scratch15 t)) ∗ cr c (.dma (dsem cc0_scratch17 t)))
def midSt (c : Dev nD) (t : Fin 4) : sProp 𝕄 := iprop(cr c (.dma (dsem cc0_scratch23 t)) ∗ pos c (.dma (dsem cc0_scratch23 t)) 0)
/-- What is over in slot `t` once it has added. -/
def doneZ (c : Dev nD) (t : Fin 4) : sProp 𝕄 :=
  iprop(own c (zsS t) fullShare (zsW m c t) ∗ own c (zrS t) fullShare (zsW m (zp c) t) ∗ pos c (.dma (dsem cc0_scratch13 t)) 1 ∗ pos c (.dma (dsem cc0_scratch14 t)) 1)

theorem both_made (c : Dev nD) (t : Fin 4) :
    iprop(own c (sbF t) fullShare (payFst (pkW m c t) (zsW m (zp c) t)) ∗ own c (sbG t) fullShare (paySnd (pkW m c t) (zsW m (zp c) t)))
      ⊢ own c (sbP t) fullShare (bothW m c t) := pair_join c sbM t fullShare _ _
theorem sum_made (c : Dev nD) (t : Fin 4) :
    own c (pkS t) fullShare (paySum (pkW m c t) (zsW m (zp c) t)) ⊢ own c (pkS t) fullShare (sumW m c t) := Entails.of_eq rfl
theorem halves (c : Dev nD) {sp : Space} {s : Shape} {e : EltTy} (M : Memref sig .tc sp s e) (X : s.Idx → Elt F e) :
    own c M fullShare X ⊢ iprop(own c M fullShare.left X ∗ own c M fullShare.right X) := (owns_halves (c : Thread nD τ) M fullShare X).1
theorem whole_of_halves (c : Dev nD) {sp : Space} {s : Shape} {e : EltTy} (M : Memref sig .tc sp s e) (X : s.Idx → Elt F e) :
    iprop(own c M fullShare.left X ∗ own c M fullShare.right X) ⊢ own c M fullShare X := (owns_halves (c : Thread nD τ) M fullShare X).2

theorem sumZ_spec (c : Dev nD) (Q : PUnit → sProp 𝕄) (t : Fin 4) (dx dy : Dev nD) (hdx : dx = xp c) (hdy : dy = yp c) (n : ℕ)
    (hn₁ : (dues c).drop n = (xp c, (.dma (dsem cc0_scratch16 t))) :: (dues c).drop (n + 1)) (hn₂ : (dues c).drop (n + 1) = (yp c, (.dma (dsem cc0_scratch18 t))) :: (dues c).drop (n + 2))
    (hl₁ : above n (lvl (.zs t))) (hl₂ : above n (lvl (.zr t))) :
    iprop(recs m Kn ∗ due c n ∗ midZ m c t ∗ preS c t ∗ (any (xp c) (gxP t) ∗ any (yp c) (gyP t)) ∗ any c (outS (k0_off12 c (w512 t)) (k0_off12_inb c t)))
      ⊢ iprop(((due c (n + 2) ∗ midS c t ∗ midSt c t ∗ doneZ m c t) -∗ Q ⟨⟩)
        -∗ Wp c (sumZ t dx dy (k0_off12 c (w512 t)) (k0_off12_inb c t)) Q) := by
  subst hdx hdy
  simp only [sumZ, Prog.lift, Prog.bind_op, Prog.bind_ret, Prog.pure_eq_ret]
  unfold midZ preS midS midSt doneZ
  iintro ⟨#HR, Ho, ⟨Hpk, Hc₁⟩, ⟨Hsb, Ha₁, Ha₂, Hc₂, Ht₁, Ht₂, Ht₃, Ht₄, Ht₅, Ha₃⟩, ⟨Hgx, Hgy⟩, Hout⟩ Hk
  iapply (wait_dma m Kn c Q (.zs t) (kind_zs t) rfl 0 Nat.one_pos _ (above_dues c hl₁) (src := zrV t) (dst := zsV t)
    (hsrc := ((Memref.isWhole_whole cc0_scratch5).wordExact_slice rfl _ (words_z t)).reshape _ _)
    (hdst := ((Memref.isWhole_whole cc0_scratch4).wordExact_slice rfl _ (words_z t)).reshape _ _) rfl _) $$ [Hc₁ Ho Ha₁]
  · isplitr; · iexact HR
    isplitl [Hc₁]; · iexact Hc₁
    isplitl [Ho] <;> iassumption
  iintro ⟨Ho, Ha₁, Hzs⟩
  ihave Hzs := (got_zs m c t) $$ Hzs
  iapply (wait_dma m Kn c Q (.zr t) (kind_zr t) rfl 0 Nat.one_pos _ (above_dues c hl₂) (src := zsV t) (dst := zrV t)
    (hsrc := ((Memref.isWhole_whole cc0_scratch4).wordExact_slice rfl _ (words_z t)).reshape _ _)
    (hdst := ((Memref.isWhole_whole cc0_scratch5).wordExact_slice rfl _ (words_z t)).reshape _ _) rfl _) $$ [Hc₂ Ho Ha₂]
  · isplitr; · iexact HR
    isplitl [Hc₂]; · iexact Hc₂
    isplitl [Ho] <;> iassumption
  iintro ⟨Ho, Ha₂, Hzr⟩
  ihave Hzr := (got_zr m c t) $$ Hzr
  iapply (load_own c pkM (zR t) (fun _ => rfl) Q fullShare _ _) $$ Hpk
  iintro Hpk
  iapply (load_own c zrM (zR t) (fun _ => rfl) Q fullShare _ _) $$ Hzr
  iintro Hzr
  ihave Hpk := (own_any c (pkS t) _) $$ Hpk
  iapply (load_any c pkM (zR t) (fun _ => rfl) Q _ _ (fun _ => rfl)) $$ Hpk
  iintro Hpk
  iapply (store_any c pkM (zR t) (fun _ => rfl) Q _) $$ Hpk
  iintro Hpk
  ihave Hpk := (sum_made m c t) $$ Hpk
  ihave Hsb := (pair_any_split c sbM t) $$ Hsb
  icases Hsb with ⟨Hf, Hg⟩
  iapply (load_any c sbM (fR t) (fun _ => rfl) Q _ _ (fun _ => rfl)) $$ Hf
  iintro Hf
  iapply (store_any c sbM (fR t) (fun _ => rfl) Q _) $$ Hf
  iintro Hf
  iapply (load_any c sbM (sR t) (fun _ => rfl) Q _ _ (fun _ => rfl)) $$ Hg
  iintro Hg
  iapply (store_any c sbM (sR t) (fun _ => rfl) Q _) $$ Hg
  iintro Hg
  ihave Hsb := (both_made m c t) $$ [Hf Hg]
  · isplitl [Hf] <;> iassumption
  ihave Hsb := (halves c (sbP t) (bothW m c t)) $$ Hsb
  icases Hsb with ⟨Hf, Hg⟩
  ihave Ho := (due_step c n _ _ hn₁) $$ Ho
  iapply (send_dma m Kn c (xp c) Q (.axs t) (.axr t) (kind_axs t) (kind_axr t) rfl rfl Nat.one_pos Nat.one_pos rfl (sbP t) (gxP t) rfl _ fullShare.left (bothW m c t)
    (Entails.of_eq rfl)
    (by
      show _ ⊢ own (xp c) (gxP t) fullShare (bothW m (xp (xp c)) t)
      rw [xp_xp]) _) $$ [Hf Hgx Ho Ht₁ Ht₂]
  · isplitr; · iexact HR
    isplitl [Hf]; · iexact Hf
    isplitl [Hgx]; · iexact Hgx
    isplitl [Ho]; · iexact Ho
    isplitl [Ht₁] <;> iassumption
  iintro ⟨Hc₁, Ho⟩
  ihave Ho := (due_step c (n + 1) _ _ hn₂) $$ Ho
  iapply (send_dma m Kn c (yp c) Q (.ays t) (.ayr t) (kind_ays t) (kind_ayr t) rfl rfl Nat.one_pos Nat.one_pos rfl (sbP t) (gyP t) rfl _ fullShare.right (bothW m c t)
    (Entails.of_eq rfl)
    (by
      show _ ⊢ own (yp c) (gyP t) fullShare (bothW m (yp (yp c)) t)
      rw [yp_yp]) _) $$ [Hg Hgy Ho Ht₃ Ht₄]
  · isplitr; · iexact HR
    isplitl [Hg]; · iexact Hg
    isplitl [Hgy]; · iexact Hgy
    isplitl [Ho]; · iexact Ho
    isplitl [Ht₃] <;> iassumption
  iintro ⟨Hc₂, Ho⟩
  ihave Hpk := (Entails.of_eq (own_squeeze c pkM (zR t) (fun _ => rfl) squeezes_S1x1024x512_S1024x512 casts_z fullShare (sumW m c t)).symm) $$ Hpk
  iapply (copy_dma m Kn c Q (.st t) (kind_st t) rfl 0 Nat.one_pos (pkV t) (outS (k0_off12 c (w512 t)) (k0_off12_inb c t))
    (hsrc := (View.wordExact_bits rfl).reshape _ _) (hdst := View.wordExact_bits rfl) (hsem := ⟨Or.inl rfl, trivial⟩) rfl fullShare (drop1 (sumW m c t))
    (by
      show _ ⊢ outPay c (pkS t) (k0_off12 c (w512 t)) (k0_off12_inb c t) (sumW m c t)
      unfold outPay
      exact sep_mono_right (Entails.of_eq (own_squeeze c pkM (zR t) (fun _ => rfl) squeezes_S1x1024x512_S1024x512 casts_z fullShare (sumW m c t)))) _)
    $$ [Hpk Hout Ht₅ Ha₃]
  · isplitr; · iexact HR
    isplitl [Hpk]; · iexact Hpk
    isplitl [Hout]; · iexact Hout
    isplitl [Ht₅] <;> iassumption
  iintro H
  iapply (wp_done c Q)
  iapply Hk
  isplitl [Ho]; · iexact Ho
  isplitl [Hc₁ Hc₂]; · isplitl [Hc₁] <;> iassumption
  isplitl [H]; · iexact H
  isplitl [Hzs]; · iexact Hzs
  isplitl [Hzr]; · iexact Hzr
  isplitl [Ha₁] <;> iassumption

/-! ## Passing on -/

/-- What device `c` holds of slot `t` before it passes halves on. -/
def preR (c : Dev nD) (t : Fin 4) : sProp 𝕄 :=
  iprop((pos c (.dma (dsem cc0_scratch15 t)) 0 ∗ pos c (.dma (dsem cc0_scratch16 t)) 0 ∗ cr c (.dma (dsem cc0_scratch16 t))) ∗ (pos c (.dma (dsem cc0_scratch17 t)) 0 ∗ pos c (.dma (dsem cc0_scratch18 t)) 0 ∗ cr c (.dma (dsem cc0_scratch18 t)))
    ∗ tok c (.dma (dsem cc0_scratch21 t)) 0 0 ∗ tok (yp c) (.dma (dsem cc0_scratch22 t)) 0 0 ∗ tok c (.dma (dsem cc0_scratch19 t)) 0 0 ∗ tok (xp c) (.dma (dsem cc0_scratch20 t)) 0 0)
/-- What is over in slot `t` after that. -/
def doneR (c : Dev nD) (t : Fin 4) : sProp 𝕄 :=
  iprop(own c (sbP t) fullShare (bothW m c t) ∗ pos c (.dma (dsem cc0_scratch15 t)) 1 ∗ pos c (.dma (dsem cc0_scratch16 t)) 1 ∗ pos c (.dma (dsem cc0_scratch17 t)) 1 ∗ pos c (.dma (dsem cc0_scratch18 t)) 1)
def midR (c : Dev nD) (t : Fin 4) : sProp 𝕄 := iprop(cr c (.dma (dsem cc0_scratch19 t)) ∗ cr c (.dma (dsem cc0_scratch21 t)))
/-- The sums of the x and of the y neighbour, less the part that is being passed on. -/
def gX (c : Dev nD) (t : Fin 4) : sProp 𝕄 := iprop(own c (gxF t) fullShare (fstW m (xp c) t) ∗ own c (gxG t) fullShare.right (sndW m (xp c) t))
def gY (c : Dev nD) (t : Fin 4) : sProp 𝕄 := iprop(own c (gyF t) fullShare.right (fstW m (yp c) t) ∗ own c (gyG t) fullShare (sndW m (yp c) t))

theorem both_got (c d : Dev nD) (M : Memref sig .tc .vmem S8x1024x256 .bf16) (t : Fin 4) :
    own c (M.slice (pR t) (fun _ => rfl)) fullShare (bothW m d t)
      ⊢ iprop(own c (M.slice (fR t) (fun _ => rfl)) fullShare (fstW m d t) ∗ own c (M.slice (sR t) (fun _ => rfl)) fullShare (sndW m d t)) :=
  pair_split c M t fullShare _ _

theorem relay_spec (c : Dev nD) (Q : PUnit → sProp 𝕄) (t : Fin 4) (dy dx : Dev nD) (hdy : dy = yp c) (hdx : dx = xp c) (n : ℕ)
    (hn₁ : (dues c).drop n = (yp c, (.dma (dsem cc0_scratch22 t))) :: (dues c).drop (n + 1)) (hn₂ : (dues c).drop (n + 1) = (xp c, (.dma (dsem cc0_scratch20 t))) :: (dues c).drop (n + 2))
    (hl₁ : above n (lvl (.axs t))) (hl₂ : above n (lvl (.axr t))) (hl₃ : above (n + 1) (lvl (.ays t))) (hl₄ : above (n + 1) (lvl (.ayr t))) :
    iprop(recs m Kn ∗ due c n ∗ midS c t ∗ preR c t ∗ (any (yp c) (hyS t) ∗ any (xp c) (hxS t)))
      ⊢ iprop(((due c (n + 2) ∗ gX m c t ∗ gY m c t ∗ midR c t ∗ doneR m c t) -∗ Q ⟨⟩) -∗ Wp c (relay t dy dx) Q) := by
  subst hdx hdy
  simp only [relay, Prog.lift, Prog.bind_op, Prog.bind_ret, Prog.pure_eq_ret]
  unfold midS preR gX gY midR doneR
  iintro ⟨#HR, Ho, ⟨Hc₁, Hc₃⟩, ⟨⟨Ha₁, Ha₂, Hc₂⟩, ⟨Ha₃, Ha₄, Hc₄⟩, Ht₁, Ht₂, Ht₃, Ht₄⟩, ⟨Hhy, Hhx⟩⟩ Hk
  iapply (wait_dma m Kn c Q (.axs t) (kind_axs t) rfl 0 Nat.one_pos _ (above_dues c hl₁) (src := gxP t) (dst := sbP t)
    (hsrc := (Memref.isWhole_whole cc0_scratch7).wordExact_slice rfl _ (words_pair t))
    (hdst := (Memref.isWhole_whole cc0_scratch6).wordExact_slice rfl _ (words_pair t)) rfl _) $$ [Hc₁ Ho Ha₁]
  · isplitr; · iexact HR
    isplitl [Hc₁]; · iexact Hc₁
    isplitl [Ho] <;> iassumption
  iintro ⟨Ho, Ha₁, Hs₁⟩
  ihave Hs₁ := (got_axs m c t) $$ Hs₁
  iapply (wait_dma m Kn c Q (.axr t) (kind_axr t) rfl 0 Nat.one_pos _ (above_dues c hl₂) (src := sbP t) (dst := gxP t)
    (hsrc := (Memref.isWhole_whole cc0_scratch6).wordExact_slice rfl _ (words_pair t))
    (hdst := (Memref.isWhole_whole cc0_scratch7).wordExact_slice rfl _ (words_pair t)) rfl _) $$ [Hc₂ Ho Ha₂]
  · isplitr; · iexact HR
    isplitl [Hc₂]; · iexact Hc₂
    isplitl [Ho] <;> iassumption
  iintro ⟨Ho, Ha₂, Hg⟩
  ihave Hg := (got_axr m c t) $$ Hg
  ihave Hg := (both_got m c (xp c) gxM t) $$ Hg
  icases Hg with ⟨Hxf, Hg⟩
  ihave Hg := (halves c (gxG t) _) $$ Hg
  icases Hg with ⟨Hg, Hxg⟩
  ihave Hg := (Entails.of_eq (own_squeeze c gxM (sR t) (fun _ => rfl) squeezes_S1x1024x256_S1024x256 casts_half fullShare.left (sndW m (xp c) t)).symm) $$ Hg
  ihave Hhy := (any_squeeze (yp c) hyM (hR t) (fun _ => rfl) squeezes_S1x1024x256_S1024x256 casts_half) $$ Hhy
  ihave Ho := (due_step c n _ _ hn₁) $$ Ho
  iapply (send_dma m Kn c (yp c) Q (.bys t) (.byr t) (kind_bys t) (kind_byr t) rfl rfl Nat.one_pos Nat.one_pos rfl (gxV t) (hyV t) rfl _ fullShare.left
    (shapeCast S1024x256 (sndW m (xp c) t) casts_half)
    (Entails.of_eq (own_squeeze c gxM (sR t) (fun _ => rfl) squeezes_S1x1024x256_S1024x256 casts_half fullShare.left (sndW m (xp c) t)))
    (by
      show _ ⊢ own (yp c) (hyS t) fullShare (sndW m (xp (yp (yp c))) t)
      rw [yp_yp]
      exact Entails.of_eq (own_squeeze (yp c) hyM (hR t) (fun _ => rfl) squeezes_S1x1024x256_S1024x256 casts_half fullShare (sndW m (xp c) t))) _)
    $$ [Hg Hhy Ho Ht₁ Ht₂]
  · isplitr; · iexact HR
    isplitl [Hg]; · iexact Hg
    isplitl [Hhy]; · iexact Hhy
    isplitl [Ho]; · iexact Ho
    isplitl [Ht₁] <;> iassumption
  iintro ⟨Hc₁, Ho⟩
  iapply (wait_dma m Kn c Q (.ays t) (kind_ays t) rfl 0 Nat.one_pos _ (above_dues c hl₃) (src := gyP t) (dst := sbP t)
    (hsrc := (Memref.isWhole_whole cc0_scratch8).wordExact_slice rfl _ (words_pair t))
    (hdst := (Memref.isWhole_whole cc0_scratch6).wordExact_slice rfl _ (words_pair t)) rfl _) $$ [Hc₃ Ho Ha₃]
  · isplitr; · iexact HR
    isplitl [Hc₃]; · iexact Hc₃
    isplitl [Ho] <;> iassumption
  iintro ⟨Ho, Ha₃, Hs₂⟩
  ihave Hs₂ := (got_ays m c t) $$ Hs₂
  iapply (wait_dma m Kn c Q (.ayr t) (kind_ayr t) rfl 0 Nat.one_pos _ (above_dues c hl₄) (src := sbP t) (dst := gyP t)
    (hsrc := (Memref.isWhole_whole cc0_scratch6).wordExact_slice rfl _ (words_pair t))
    (hdst := (Memref.isWhole_whole cc0_scratch8).wordExact_slice rfl _ (words_pair t)) rfl _) $$ [Hc₄ Ho Ha₄]
  · isplitr; · iexact HR
    isplitl [Hc₄]; · iexact Hc₄
    isplitl [Ho] <;> iassumption
  iintro ⟨Ho, Ha₄, Hg⟩
  ihave Hg := (got_ayr m c t) $$ Hg
  ihave Hg := (both_got m c (yp c) gyM t) $$ Hg
  icases Hg with ⟨Hg, Hyg⟩
  ihave Hg := (halves c (gyF t) _) $$ Hg
  icases Hg with ⟨Hg, Hyf⟩
  ihave Hg := (Entails.of_eq (own_squeeze c gyM (fR t) (fun _ => rfl) squeezes_S1x1024x256_S1024x256 casts_half fullShare.left (fstW m (yp c) t)).symm) $$ Hg
  ihave Hhx := (any_squeeze (xp c) hxM (hR t) (fun _ => rfl) squeezes_S1x1024x256_S1024x256 casts_half) $$ Hhx
  ihave Ho := (due_step c (n + 1) _ _ hn₂) $$ Ho
  iapply (send_dma m Kn c (xp c) Q (.bxs t) (.bxr t) (kind_bxs t) (kind_bxr t) rfl rfl Nat.one_pos Nat.one_pos rfl (gyV t) (hxV t) rfl _ fullShare.left
    (shapeCast S1024x256 (fstW m (yp c) t) casts_half)
    (Entails.of_eq (own_squeeze c gyM (fR t) (fun _ => rfl) squeezes_S1x1024x256_S1024x256 casts_half fullShare.left (fstW m (yp c) t)))
    (by
      show _ ⊢ own (xp c) (hxS t) fullShare (fstW m (xp (yp (xp c))) t)
      rw [← xp_yp, xp_xp]
      exact Entails.of_eq (own_squeeze (xp c) hxM (hR t) (fun _ => rfl) squeezes_S1x1024x256_S1024x256 casts_half fullShare (fstW m (yp c) t))) _)
    $$ [Hg Hhx Ho Ht₃ Ht₄]
  · isplitr; · iexact HR
    isplitl [Hg]; · iexact Hg
    isplitl [Hhx]; · iexact Hhx
    isplitl [Ho]; · iexact Ho
    isplitl [Ht₃] <;> iassumption
  iintro ⟨Hc₃, Ho⟩
  iapply (wp_done c Q)
  iapply Hk
  isplitl [Ho]; · iexact Ho
  isplitl [Hxf Hxg]; · isplitl [Hxf] <;> iassumption
  isplitl [Hyf Hyg]; · isplitl [Hyf] <;> iassumption
  isplitl [Hc₁ Hc₃]; · isplitl [Hc₃] <;> iassumption
  isplitl [Hs₁ Hs₂]
  · iapply (whole_of_halves c (sbP t) _)
    isplitl [Hs₁] <;> iassumption
  isplitl [Ha₁]; · iexact Ha₁
  isplitl [Ha₂]; · iexact Ha₂
  isplitl [Ha₃] <;> iassumption

/-! ## Writing the result -/

theorem fill_first (c : Dev nD) (Q : PUnit → sProp 𝕄) (s : Fin 2) (r : ℕ) (hr : r < 6) (off : Fin 2 → ℕ) (h) (v : S1x1024x512.Idx → Elt F .f32)
    (hv : scPay m c s r = outPay c (cbS s) off h v) :
    iprop(recs m Kn ∗ any c (cbS s) ∗ any c (outS off h) ∗ tok c (.dma (dsem cc0_scratch24 s)) r 0 ∗ pos c (.dma (dsem cc0_scratch24 s)) r)
      ⊢ iprop(((cr c (.dma (dsem cc0_scratch24 s)) ∗ pos c (.dma (dsem cc0_scratch24 s)) r) -∗ Q ⟨⟩) -∗ Wp c (fillCb s off h v) Q) := by
  simp only [fillCb, Prog.lift, Prog.bind_op, Prog.bind_ret, Prog.pure_eq_ret]
  iintro ⟨#HR, Hcb, Hout, Ht, Ha⟩ Hk
  iapply (load_any c cbM (cbR s) (fun _ => rfl) Q _ _ (fun _ => rfl)) $$ Hcb
  iintro Hcb
  iapply (store_any c cbM (cbR s) (fun _ => rfl) Q _) $$ Hcb
  iintro Hcb
  ihave Hcb := (Entails.of_eq (own_squeeze c cbM (cbR s) (fun _ => rfl) squeezes_S1x1024x512_S1024x512 casts_z fullShare v).symm) $$ Hcb
  iapply (copy_dma m Kn c Q (.sc s) (kind_sc s) rfl r hr (cbV s) (outS off h)
    (hsrc := (View.wordExact_bits rfl).reshape _ _) (hdst := View.wordExact_bits rfl) (hsem := ⟨Or.inl rfl, trivial⟩) rfl fullShare (drop1 v)
    (by
      refine BIBase.Entails.trans (PROP := sProp 𝕄) ?_ (Entails.of_eq hv.symm)
      unfold outPay
      exact sep_mono_right (Entails.of_eq (own_squeeze c cbM (cbR s) (fun _ => rfl) squeezes_S1x1024x512_S1024x512 casts_z fullShare v))) _)
    $$ [Hcb Hout Ht Ha]
  · isplitr; · iexact HR
    isplitl [Hcb]; · iexact Hcb
    isplitl [Hout]; · iexact Hout
    isplitl [Ht] <;> iassumption
  iintro H
  iapply (wp_done c Q)
  iapply Hk
  iexact H

theorem waitCb_spec (c : Dev nD) (Q : PUnit → sProp 𝕄) (s : Fin 2) (r : ℕ) (hr : r < 6) (off' : Fin 2 → ℕ) (h') (off : Fin 2 → ℕ) (h) (v : S1x1024x512.Idx → Elt F .f32)
    (hv : scPay m c s r = outPay c (cbS s) off h v) (n : ℕ) (hl : above n (lvl (.sc s))) :
    iprop(recs m Kn ∗ due c n ∗ cr c (.dma (dsem cc0_scratch24 s)) ∗ pos c (.dma (dsem cc0_scratch24 s)) r)
      ⊢ iprop(((due c n ∗ any c (cbS s) ∗ own c (outS off h) fullShare (drop1 v) ∗ pos c (.dma (dsem cc0_scratch24 s)) (r + 1)) -∗ Q ⟨⟩) -∗ Wp c (waitCb s off' h') Q) := by
  simp only [waitCb, Prog.lift]
  iintro ⟨#HR, Ho, Hc, Ha⟩ Hk
  iapply (wait_dma m Kn c Q (.sc s) (kind_sc s) rfl r hr _ (above_dues c hl) (src := cbV s) (dst := outS off' h')
    (hsrc := (View.wordExact_bits rfl).reshape _ _) (hdst := View.wordExact_bits rfl) rfl _) $$ [Hc Ho Ha]
  · isplitr; · iexact HR
    isplitl [Hc]; · iexact Hc
    isplitl [Ho] <;> iassumption
  iintro ⟨Ho, Ha, Hp⟩
  ihave Hp := (got_sc m c s r) $$ Hp
  ihave Hp := (Entails.of_eq hv) $$ Hp
  unfold outPay
  icases Hp with ⟨Hout, Hcb⟩
  iapply (wp_done c Q)
  iapply Hk
  isplitl [Ho]; · iexact Ho
  isplitl [Hcb]; · iapply (own_any c _ _); iexact Hcb
  isplitl [Hout] <;> iassumption

theorem fill_next (c : Dev nD) (Q : PUnit → sProp 𝕄) (s : Fin 2) (r : ℕ) (hr : r + 1 < 6) (off' : Fin 2 → ℕ) (h') (v' : S1x1024x512.Idx → Elt F .f32)
    (hv' : scPay m c s r = outPay c (cbS s) off' h' v') (off : Fin 2 → ℕ) (h) (v : S1x1024x512.Idx → Elt F .f32)
    (hv : scPay m c s (r + 1) = outPay c (cbS s) off h v) (n : ℕ) (hl : above n (lvl (.sc s))) :
    iprop(recs m Kn ∗ due c n ∗ (cr c (.dma (dsem cc0_scratch24 s)) ∗ pos c (.dma (dsem cc0_scratch24 s)) r) ∗ any c (outS off h) ∗ tok c (.dma (dsem cc0_scratch24 s)) (r + 1) 0)
      ⊢ iprop(((due c n ∗ own c (outS off' h') fullShare (drop1 v') ∗ cr c (.dma (dsem cc0_scratch24 s)) ∗ pos c (.dma (dsem cc0_scratch24 s)) (r + 1)) -∗ Q ⟨⟩)
        -∗ Wp c (waitCb s off' h' >>= fun _ => fillCb s off h v) Q) := by
  rw [show Wp c (waitCb s off' h' >>= fun _ => fillCb s off h v) Q = Wp c (waitCb s off' h') (fun _ => Wp c (fillCb s off h v) Q) from wp_bind _ _ _ _ _ _]
  iintro ⟨#HR, Ho, ⟨Hc, Ha⟩, Hout, Ht⟩ Hk
  iapply (waitCb_spec m Kn c _ s r (Nat.lt_of_succ_lt hr) off' h' off' h' v' hv' n hl) $$ [Ho Hc Ha]
  · isplitr; · iexact HR
    isplitl [Ho]; · iexact Ho
    isplitl [Hc] <;> iassumption
  iintro ⟨Ho, Hcb, Hold, Ha⟩
  iapply (fill_first m Kn c Q s (r + 1) hr off h v hv) $$ [Hcb Hout Ht Ha]
  · isplitr; · iexact HR
    isplitl [Hcb]; · iexact Hcb
    isplitl [Hout]; · iexact Hout
    isplitl [Ht] <;> iassumption
  iintro H
  iapply Hk
  isplitl [Ho]; · iexact Ho
  isplitl [Hold] <;> iassumption

theorem outX_spec (c : Dev nD) (Q : PUnit → sProp 𝕄) (t : Fin 4) (s : Fin 2) (w : Pg F) (off : Fin 2 → ℕ) (h) :
    gX m c t ⊢ iprop((gX m c t -∗ Wp c (w >>= fun _ => fillCb s off h (outXW m c t)) Q) -∗ Wp c (outX t s w off h) Q) := by
  simp only [outX, Prog.lift, Prog.bind_op, Prog.bind_ret]
  unfold gX
  iintro ⟨Ha, Hb⟩ Hk
  iapply (load_own c gxM (fR t) (fun _ => rfl) Q fullShare _ _) $$ Ha
  iintro Ha
  iapply (load_own c gxM (sR t) (fun _ => rfl) Q fullShare.right _ _) $$ Hb
  iintro Hb
  iapply Hk
  isplitl [Ha] <;> iassumption

theorem outY_spec (c : Dev nD) (Q : PUnit → sProp 𝕄) (t : Fin 4) (s : Fin 2) (w : Pg F) (off : Fin 2 → ℕ) (h) :
    gY m c t ⊢ iprop((gY m c t -∗ Wp c (w >>= fun _ => fillCb s off h (outYW m c t)) Q) -∗ Wp c (outY t s w off h) Q) := by
  simp only [outY, Prog.lift, Prog.bind_op, Prog.bind_ret]
  unfold gY
  iintro ⟨Ha, Hb⟩ Hk
  iapply (load_own c gyM (fR t) (fun _ => rfl) Q fullShare.right _ _) $$ Ha
  iintro Ha
  iapply (load_own c gyM (sR t) (fun _ => rfl) Q fullShare _ _) $$ Hb
  iintro Hb
  iapply Hk
  isplitl [Ha] <;> iassumption

/-- Both halves of the diagonal device's sum. -/
def hXY (c : Dev nD) (t : Fin 4) : sProp 𝕄 :=
  iprop(own c (hxS t) fullShare (fstW m (xp (yp c)) t) ∗ own c (hyS t) fullShare (sndW m (xp (yp c)) t))

theorem outD_spec (c : Dev nD) (Q : PUnit → sProp 𝕄) (t : Fin 4) (s : Fin 2) (w : Pg F) (off : Fin 2 → ℕ) (h) :
    hXY m c t ⊢ iprop((hXY m c t -∗ Wp c (w >>= fun _ => fillCb s off h (outDW m c t)) Q) -∗ Wp c (outD t s w off h) Q) := by
  simp only [outD, Prog.lift, Prog.bind_op, Prog.bind_ret]
  unfold hXY
  iintro ⟨Ha, Hb⟩ Hk
  iapply (load_own c hxM (hR t) (fun _ => rfl) Q fullShare _ _) $$ Ha
  iintro Ha
  iapply (load_own c hyM (hR t) (fun _ => rfl) Q fullShare _ _) $$ Hb
  iintro Hb
  iapply Hk
  isplitl [Ha] <;> iassumption

/-! ## The last waits -/

/-- What is needed to wait for the halves of the diagonal device's sum. -/
def preW (c : Dev nD) (t : Fin 4) : sProp 𝕄 :=
  iprop((cr c (.dma (dsem cc0_scratch20 t)) ∗ cr c (.dma (dsem cc0_scratch22 t))) ∗ pos c (.dma (dsem cc0_scratch19 t)) 0 ∗ pos c (.dma (dsem cc0_scratch20 t)) 0 ∗ pos c (.dma (dsem cc0_scratch21 t)) 0 ∗ pos c (.dma (dsem cc0_scratch22 t)) 0)
def doneW (c : Dev nD) (t : Fin 4) : sProp 𝕄 :=
  iprop((own c (gyF t) fullShare.left (fstW m (yp c) t) ∗ own c (gxG t) fullShare.left (sndW m (xp c) t))
    ∗ pos c (.dma (dsem cc0_scratch19 t)) 1 ∗ pos c (.dma (dsem cc0_scratch20 t)) 1 ∗ pos c (.dma (dsem cc0_scratch21 t)) 1 ∗ pos c (.dma (dsem cc0_scratch22 t)) 1)

theorem waitRelay_spec (c : Dev nD) (Q : PUnit → sProp 𝕄) (t : Fin 4) (n : ℕ)
    (hl₁ : above n (lvl (.bxs t))) (hl₂ : above n (lvl (.bxr t))) (hl₃ : above n (lvl (.bys t))) (hl₄ : above n (lvl (.byr t))) :
    iprop(recs m Kn ∗ due c n ∗ midR c t ∗ preW c t)
      ⊢ iprop(((due c n ∗ hXY m c t ∗ doneW m c t) -∗ Q ⟨⟩) -∗ Wp c (waitRelay t) Q) := by
  simp only [waitRelay, Prog.lift, Prog.bind_op, Prog.bind_ret, Prog.pure_eq_ret]
  unfold midR preW hXY doneW
  iintro ⟨#HR, Ho, ⟨Hc₁, Hc₃⟩, ⟨⟨Hc₂, Hc₄⟩, Ha₁, Ha₂, Ha₃, Ha₄⟩⟩ Hk
  iapply (wait_dma m Kn c Q (.bxs t) (kind_bxs t) rfl 0 Nat.one_pos _ (above_dues c hl₁) (src := hxV t) (dst := gyV t)
    (hsrc := ((Memref.isWhole_whole cc0_scratch9).wordExact_slice rfl _ (words_h t)).reshape _ _)
    (hdst := ((Memref.isWhole_whole cc0_scratch8).wordExact_slice rfl _ (words_fst t)).reshape _ _) rfl _) $$ [Hc₁ Ho Ha₁]
  · isplitr; · iexact HR
    isplitl [Hc₁]; · iexact Hc₁
    isplitl [Ho] <;> iassumption
  iintro ⟨Ho, Ha₁, Hp₁⟩
  ihave Hp₁ := (got_bxs m c t) $$ Hp₁
  iapply (wait_dma m Kn c Q (.bxr t) (kind_bxr t) rfl 0 Nat.one_pos _ (above_dues c hl₂) (src := gyV t) (dst := hxV t)
    (hsrc := ((Memref.isWhole_whole cc0_scratch8).wordExact_slice rfl _ (words_fst t)).reshape _ _)
    (hdst := ((Memref.isWhole_whole cc0_scratch9).wordExact_slice rfl _ (words_h t)).reshape _ _) rfl _) $$ [Hc₂ Ho Ha₂]
  · isplitr; · iexact HR
    isplitl [Hc₂]; · iexact Hc₂
    isplitl [Ho] <;> iassumption
  iintro ⟨Ho, Ha₂, Hp₂⟩
  ihave Hp₂ := (got_bxr m c t) $$ Hp₂
  iapply (wait_dma m Kn c Q (.bys t) (kind_bys t) rfl 0 Nat.one_pos _ (above_dues c hl₃) (src := hyV t) (dst := gxV t)
    (hsrc := ((Memref.isWhole_whole cc0_scratch10).wordExact_slice rfl _ (words_h t)).reshape _ _)
    (hdst := ((Memref.isWhole_whole cc0_scratch7).wordExact_slice rfl _ (words_snd t)).reshape _ _) rfl _) $$ [Hc₃ Ho Ha₃]
  · isplitr; · iexact HR
    isplitl [Hc₃]; · iexact Hc₃
    isplitl [Ho] <;> iassumption
  iintro ⟨Ho, Ha₃, Hp₃⟩
  ihave Hp₃ := (got_bys m c t) $$ Hp₃
  iapply (wait_dma m Kn c Q (.byr t) (kind_byr t) rfl 0 Nat.one_pos _ (above_dues c hl₄) (src := gxV t) (dst := hyV t)
    (hsrc := ((Memref.isWhole_whole cc0_scratch7).wordExact_slice rfl _ (words_snd t)).reshape _ _)
    (hdst := ((Memref.isWhole_whole cc0_scratch10).wordExact_slice rfl _ (words_h t)).reshape _ _) rfl _) $$ [Hc₄ Ho Ha₄]
  · isplitr; · iexact HR
    isplitl [Hc₄]; · iexact Hc₄
    isplitl [Ho] <;> iassumption
  iintro ⟨Ho, Ha₄, Hp₄⟩
  ihave Hp₄ := (got_byr m c t) $$ Hp₄
  iapply (wp_done c Q)
  iapply Hk
  isplitl [Ho]; · iexact Ho
  isplitl [Hp₂ Hp₄]; · isplitl [Hp₂] <;> iassumption
  isplitl [Hp₁ Hp₃]; · isplitl [Hp₁] <;> iassumption
  isplitl [Ha₁]; · iexact Ha₁
  isplitl [Ha₂]; · iexact Ha₂
  isplitl [Ha₃] <;> iassumption

/-- This device's own sum is in the result. -/
def doneSt (c : Dev nD) (t : Fin 4) : sProp 𝕄 :=
  iprop(own c (outS (k0_off12 c (w512 t)) (k0_off12_inb c t)) fullShare (drop1 (sumW m c t)) ∗ own c (pkS t) fullShare (sumW m c t) ∗ pos c (.dma (dsem cc0_scratch23 t)) 1)

theorem waitSt_spec (c : Dev nD) (Q : PUnit → sProp 𝕄) (t : Fin 4) (n : ℕ) (hl : above n (lvl (.st t))) :
    iprop(recs m Kn ∗ due c n ∗ midSt c t)
      ⊢ iprop(((due c n ∗ doneSt m c t) -∗ Q ⟨⟩) -∗ Wp c (waitSt t (k0_off12 c (w512 t)) (k0_off12_inb c t)) Q) := by
  simp only [waitSt, Prog.lift]
  unfold midSt doneSt
  iintro ⟨#HR, Ho, Hc, Ha⟩ Hk
  iapply (wait_dma m Kn c Q (.st t) (kind_st t) rfl 0 Nat.one_pos _ (above_dues c hl) (src := pkV t) (dst := outS (k0_off12 c (w512 t)) (k0_off12_inb c t))
    (hsrc := (View.wordExact_bits rfl).reshape _ _) (hdst := View.wordExact_bits rfl) rfl _) $$ [Hc Ho Ha]
  · isplitr; · iexact HR
    isplitl [Hc]; · iexact Hc
    isplitl [Ho] <;> iassumption
  iintro ⟨Ho, Ha, Hp⟩
  ihave Hp := (got_st m c t) $$ Hp
  unfold outPay
  icases Hp with ⟨Hout, Hpk⟩
  iapply (wp_done c Q)
  iapply Hk
  isplitl [Ho]; · iexact Ho
  isplitl [Hout]; · iexact Hout
  isplitl [Hpk] <;> iassumption

end Cert.KernelIdeal.Stages
end
-- ==== Proof.KernelIdeal.Phases.lean ====
/-
  The first two phases: the rendezvous and the loads of x, then dy and the products.
-/
module

public import proofs.«01_k».proof.Proof.KernelIdeal.Exchange

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

/-! ## Loads that give the argument back -/

/-- The load of round `r` into slot `s` is under way; `A` is what it reads from. -/
def lding (c : Dev nD) (s : Fin 2) (r : ℕ) (src : Memref sig .tc .hbm S2048x512 .f32) (X : S2048x512.Idx → Elt F .f32) (A : sProp 𝕄) : sProp 𝕄 :=
  iprop((cr c (.dma (dsem cc0_scratch12 s)) ∗ pos c (.dma (dsem cc0_scratch12 s)) r) ∗ (own c src (half s) X -∗ A))

theorem load_start (c : Dev nD) (Q : PUnit → sProp 𝕄) (s : Fin 2) (r : ℕ) (hr : r < 4) (src : Memref sig .tc .hbm S2048x512 .f32) (X : S2048x512.Idx → Elt F .f32)
    (hp : ldPay m c s r = iprop(own c (ldS s) fullShare (lift1 X) ∗ own c src (half s) X)) (A : sProp 𝕄)
    (hA : A ⊢ iprop(own c src (half s) X ∗ (own c src (half s) X -∗ A))) :
    iprop(recs m Kn ∗ A ∗ any c (ldS s) ∗ tok c (.dma (dsem cc0_scratch12 s)) r 0 ∗ pos c (.dma (dsem cc0_scratch12 s)) r)
      ⊢ iprop((lding c s r src X A -∗ Q ⟨⟩) -∗ Wp c (startLd s src) Q) := by
  unfold lding
  iintro ⟨#HR, HA, Hd, Ht, Ha⟩ Hk
  ihave HA := hA $$ HA
  icases HA with ⟨Hs, Hback⟩
  iapply (startLd_spec m Kn c Q s r hr src X hp) $$ [Hs Hd Ht Ha]
  · isplitr; · iexact HR
    isplitl [Hs]; · iexact Hs
    isplitl [Hd]; · iexact Hd
    isplitl [Ht] <;> iassumption
  iintro H
  iapply Hk
  isplitl [H] <;> iassumption

theorem load_end (c : Dev nD) (Q : PUnit → sProp 𝕄) (s : Fin 2) (r : ℕ) (hr : r < 4) (src : Memref sig .tc .hbm S2048x512 .f32) (X : S2048x512.Idx → Elt F .f32)
    (hp : ldPay m c s r = iprop(own c (ldS s) fullShare (lift1 X) ∗ own c src (half s) X)) (A : sProp 𝕄) (n : ℕ) (hl : above n 0) :
    iprop(recs m Kn ∗ due c n ∗ lding c s r src X A)
      ⊢ iprop(((due c n ∗ pos c (.dma (dsem cc0_scratch12 s)) (r + 1) ∗ own c (ldS s) fullShare (lift1 X) ∗ A) -∗ Q ⟨⟩) -∗ Wp c (waitLd s src) Q) := by
  unfold lding
  iintro ⟨#HR, Ho, ⟨Hc, Ha⟩, Hback⟩ Hk
  iapply (waitLd_spec m Kn c Q s r hr src n hl) $$ [Hc Ho Ha]
  · isplitr; · iexact HR
    isplitl [Hc]; · iexact Hc
    isplitl [Ho] <;> iassumption
  iintro ⟨Ho, Ha, Hp⟩
  ihave Hp := (Entails.of_eq hp) $$ Hp
  icases Hp with ⟨Hd, Hs⟩
  iapply Hk
  isplitl [Ho]; · iexact Ho
  isplitl [Ha]; · iexact Ha
  isplitl [Hd]; · iexact Hd
  iapply Hback
  iexact Hs

/-- The share of x, and of dy, that slot `s` loads from. -/
def xArg (c : Dev nD) (s : Fin 2) : sProp 𝕄 := own c xM (half s) (xin m c)
def dyArg (c : Dev nD) (s : Fin 2) : sProp 𝕄 := own c dyM (half s) (dyin m c)

theorem x_lends (c : Dev nD) (s : Fin 2) (off : Fin 2 → ℕ) (h) :
    xArg m c s ⊢ iprop(own c (xS off h) (half s) (xblk m c off h) ∗ (own c (xS off h) (half s) (xblk m c off h) -∗ xArg m c s)) :=
  own_borrow c xM (xR off h) (fun _ => rfl) (half s) (xin m c)
theorem dy_lends (c : Dev nD) (s : Fin 2) (t : Fin 4) :
    dyArg m c s ⊢ iprop(own c (dyS c t) (half s) (dyblk m c t) ∗ (own c (dyS c t) (half s) (dyblk m c t) -∗ dyArg m c s)) :=
  own_borrow c dyM (dyR (k0_off8 c (w512 t)) (k0_off8_inb c t)) (fun _ => rfl) (half s) (dyin m c)

/-! ## Phase 1: the first rendezvous, and x -/

/-- What device `c` brings to the rendezvous on `b`. -/
def preBar (c : Dev nD) (b : Sem sig) (k : K) : sProp 𝕄 :=
  iprop((tok (xp c) (.reg b) 0 0 ∗ tok (yp c) (.reg b) 0 1 ∗ tok (zp c) (.reg b) 0 2)
    ∗ (pay m (xp c) k 0 0 ∗ pay m (yp c) k 0 1 ∗ pay m (zp c) k 0 2) ∗ cred (tallyAt (cell c (.reg b)) () 3) ∗ pos c (.reg b) 0)
/-- What it takes away. -/
def gotBar (c : Dev nD) (b : Sem sig) (k : K) : sProp 𝕄 := iprop(pos c (.reg b) 1 ∗ pay m c k 0 0 ∗ pay m c k 0 1 ∗ pay m c k 0 2)

theorem ldX (c : Dev nD) : (ldPay m c 0 0 = ldXPay m c 0 (k0_off1 c) (k0_off1_inb c)) ∧ (ldPay m c 1 0 = ldXPay m c 1 (k0_off2 c) (k0_off2_inb c))
    ∧ (ldPay m c 0 1 = ldXPay m c 0 (k0_off4 c) (k0_off4_inb c)) ∧ (ldPay m c 1 1 = ldXPay m c 1 (k0_off6 c) (k0_off6_inb c)) := ⟨rfl, rfl, rfl, rfl⟩
theorem ldDy (c : Dev nD) : (ldPay m c 0 2 = ldDyPay m c 0 0) ∧ (ldPay m c 1 2 = ldDyPay m c 1 1)
    ∧ (ldPay m c 0 3 = ldDyPay m c 0 2) ∧ (ldPay m c 1 3 = ldDyPay m c 1 3) := ⟨rfl, rfl, rfl, rfl⟩

/-- The four places of the narrow copy of x. -/
def xbPlaces (c : Dev nD) : sProp 𝕄 :=
  iprop((any c (xbM.slice (xR (k0_off3 c) (k0_off3_inb c)) (fun _ => rfl)) ∗ any c (xbM.slice (xR (k0_off5 c) (k0_off5_inb c)) (fun _ => rfl)))
    ∗ any c (xbM.slice (xR (k0_off7 c) (k0_off7_inb c)) (fun _ => rfl)) ∗ any c (xbM.slice (xR (k0_off9 c) (k0_off9_inb c)) (fun _ => rfl)))

theorem off5_shift (c : Dev nD) : k0_off5 c = ![0, 1024 - 1024 * (c.val % 2) + 512] := by revert c; decide
theorem off9_shift (c : Dev nD) : k0_off9 c = ![0, 1024 * (c.val % 2) + 512] := k0_off9_eq c

theorem xhs_made (c : Dev nD) :
    iprop((own c (xbM.slice (xR (k0_off3 c) (k0_off3_inb c)) (fun _ => rfl)) fullShare (xcast m c (k0_off1 c) (k0_off1_inb c))
        ∗ own c (xbM.slice (xR (k0_off5 c) (k0_off5_inb c)) (fun _ => rfl)) fullShare (xcast m c (k0_off2 c) (k0_off2_inb c)))
      ∗ own c (xbM.slice (xR (k0_off7 c) (k0_off7_inb c)) (fun _ => rfl)) fullShare (xcast m c (k0_off4 c) (k0_off4_inb c))
        ∗ own c (xbM.slice (xR (k0_off9 c) (k0_off9_inb c)) (fun _ => rfl)) fullShare (xcast m c (k0_off6 c) (k0_off6_inb c)))
      ⊢ xhs m c :=
  Idealize.SL.BI.sep_mono (cols_join c (k0_off10 c) (k0_off3 c) (k0_off5 c) _ _ _ _ (k0_off10_eq c) (k0_off3_eq c) (off5_shift c) _ _)
    (cols_join c (k0_off11 c) (k0_off7 c) (k0_off9 c) _ _ _ _ (k0_off11_eq c) (k0_off7_eq c) (off9_shift c) _ _)

theorem bind_wp (c : Dev nD) (p : Pg F) (k : PUnit → Pg F) (Q : PUnit → sProp 𝕄) : Wp c (p >>= k) Q = Wp c p (fun a => Wp c (k a) Q) := wp_bind _ _ _ _ _ _

theorem dev_x (n : Dev nD → ℕ) (h : ∀ c, n c < nD) (e : ∀ c : Dev nD, n c = (xp c).val) (c : Dev nD) : dv n h c = xp c := Fin.ext (e c)
theorem dev_y (n : Dev nD → ℕ) (h : ∀ c, n c < nD) (e : ∀ c : Dev nD, n c = (yp c).val) (c : Dev nD) : dv n h c = yp c := Fin.ext (e c)
theorem dev_z (n : Dev nD → ℕ) (h : ∀ c, n c < nD) (e : ∀ c : Dev nD, n c = (zp c).val) (c : Dev nD) : dv n h c = zp c := Fin.ext (e c)

abbrev ldq (s : Fin 2) : SemLoc sig := .dma (dsem cc0_scratch12 s)

theorem phaseX_spec (c : Dev nD) (Q : PUnit → sProp 𝕄) :
    iprop(recs m Kn ∗ due c 0 ∗ preBar m c barS .bar ∗ (xArg m c 0 ∗ xArg m c 1 ∗ dyArg m c 0)
        ∗ (any c (ldS 0) ∗ tok c (ldq 0) 0 0 ∗ tok c (ldq 0) 1 0 ∗ tok c (ldq 0) 2 0 ∗ pos c (ldq 0) 0)
        ∗ (any c (ldS 1) ∗ tok c (ldq 1) 0 0 ∗ tok c (ldq 1) 1 0 ∗ pos c (ldq 1) 0) ∗ xbPlaces c)
      ⊢ iprop(((due c 3 ∗ gotBar m c barS .bar ∗ (xArg m c 0 ∗ xArg m c 1) ∗ xhs m c
          ∗ lding c 0 2 (dyS c 0) (dyblk m c 0) (dyArg m c 0) ∗ any c (ldS 1) ∗ pos c (ldq 1) 2) -∗ Q ⟨⟩) -∗ Wp c (phaseX c) Q) := by
  simp only [phaseX, bind_wp]
  unfold preBar gotBar xbPlaces
  iintro ⟨#HR, Ho, Hbar, ⟨Hx₀, Hx₁, Hd₀⟩, ⟨Hl₀, Ht₀, Ht₁, Ht₂, Ha₀⟩, ⟨Hl₁, Ht₃, Ht₄, Ha₁⟩, ⟨Hb₀, Hb₁⟩, Hb₂, Hb₃⟩ Hk
  iapply (rendezvous_spec m Kn c _ barS .bar kind_bar rfl Nat.one_pos rfl 0 _ _ _ (dev_x _ _ (by decide) c) (dev_y _ _ (by decide) c)
    (dev_z _ _ (by decide) c) rfl rfl rfl (by decide)) $$ [Ho Hbar]
  · isplitr; · iexact HR
    isplitl [Ho] <;> iassumption
  iintro ⟨Ho, Hbar⟩
  iapply (load_start m Kn c _ 0 0 (by decide) (xS (k0_off1 c) (k0_off1_inb c)) _ (ldX m c).1 _ (x_lends m c 0 _ _)) $$ [Hx₀ Hl₀ Ht₀ Ha₀]
  · isplitr; · iexact HR
    isplitl [Hx₀]; · iexact Hx₀
    isplitl [Hl₀]; · iexact Hl₀
    isplitl [Ht₀] <;> iassumption
  iintro Hg₀
  iapply (load_end m Kn c _ 0 0 (by decide) (xS (k0_off1 c) (k0_off1_inb c)) _ (ldX m c).1 _ 3 (by decide)) $$ [Ho Hg₀]
  · isplitr; · iexact HR
    isplitl [Ho] <;> iassumption
  iintro ⟨Ho, Ha₀, Hl₀, Hx₀⟩
  iapply (load_start m Kn c _ 1 0 (by decide) (xS (k0_off2 c) (k0_off2_inb c)) _ (ldX m c).2.1 _ (x_lends m c 1 _ _)) $$ [Hx₁ Hl₁ Ht₃ Ha₁]
  · isplitr; · iexact HR
    isplitl [Hx₁]; · iexact Hx₁
    isplitl [Hl₁]; · iexact Hl₁
    isplitl [Ht₃] <;> iassumption
  iintro Hg₁
  iapply (castX_spec c _ 0 (k0_off3 c) (k0_off3_inb c) (k0_off3_packedbf16 c) _) $$ [Hl₀ Hb₀]
  · isplitl [Hl₀] <;> iassumption
  iintro ⟨Hl₀, Hb₀⟩
  iapply (load_end m Kn c _ 1 0 (by decide) (xS (k0_off2 c) (k0_off2_inb c)) _ (ldX m c).2.1 _ 3 (by decide)) $$ [Ho Hg₁]
  · isplitr; · iexact HR
    isplitl [Ho] <;> iassumption
  iintro ⟨Ho, Ha₁, Hl₁, Hx₁⟩
  iapply (load_start m Kn c _ 0 1 (by decide) (xS (k0_off4 c) (k0_off4_inb c)) _ (ldX m c).2.2.1 _ (x_lends m c 0 _ _)) $$ [Hx₀ Hl₀ Ht₁ Ha₀]
  · isplitr; · iexact HR
    isplitl [Hx₀]; · iexact Hx₀
    isplitl [Hl₀]; · iexact Hl₀
    isplitl [Ht₁] <;> iassumption
  iintro Hg₀
  iapply (castX_spec c _ 1 (k0_off5 c) (k0_off5_inb c) (k0_off5_packedbf16 c) _) $$ [Hl₁ Hb₁]
  · isplitl [Hl₁] <;> iassumption
  iintro ⟨Hl₁, Hb₁⟩
  iapply (load_end m Kn c _ 0 1 (by decide) (xS (k0_off4 c) (k0_off4_inb c)) _ (ldX m c).2.2.1 _ 3 (by decide)) $$ [Ho Hg₀]
  · isplitr; · iexact HR
    isplitl [Ho] <;> iassumption
  iintro ⟨Ho, Ha₀, Hl₀, Hx₀⟩
  iapply (load_start m Kn c _ 1 1 (by decide) (xS (k0_off6 c) (k0_off6_inb c)) _ (ldX m c).2.2.2 _ (x_lends m c 1 _ _)) $$ [Hx₁ Hl₁ Ht₄ Ha₁]
  · isplitr; · iexact HR
    isplitl [Hx₁]; · iexact Hx₁
    isplitl [Hl₁]; · iexact Hl₁
    isplitl [Ht₄] <;> iassumption
  iintro Hg₁
  iapply (castX_spec c _ 0 (k0_off7 c) (k0_off7_inb c) (k0_off7_packedbf16 c) _) $$ [Hl₀ Hb₂]
  · isplitl [Hl₀] <;> iassumption
  iintro ⟨Hl₀, Hb₂⟩
  iapply (load_end m Kn c _ 1 1 (by decide) (xS (k0_off6 c) (k0_off6_inb c)) _ (ldX m c).2.2.2 _ 3 (by decide)) $$ [Ho Hg₁]
  · isplitr; · iexact HR
    isplitl [Ho] <;> iassumption
  iintro ⟨Ho, Ha₁, Hl₁, Hx₁⟩
  iapply (load_start m Kn c _ 0 2 (by decide) (dyS c 0) _ (ldDy m c).1 _ (dy_lends m c 0 0)) $$ [Hd₀ Hl₀ Ht₂ Ha₀]
  · isplitr; · iexact HR
    isplitl [Hd₀]; · iexact Hd₀
    isplitl [Hl₀]; · iexact Hl₀
    isplitl [Ht₂] <;> iassumption
  iintro Hg₀
  iapply (castX_spec c _ 1 (k0_off9 c) (k0_off9_inb c) (k0_off9_packedbf16 c) _) $$ [Hl₁ Hb₃]
  · isplitl [Hl₁] <;> iassumption
  iintro ⟨Hl₁, Hb₃⟩
  iapply Hk
  isplitl [Ho]; · iexact Ho
  isplitl [Hbar]; · iexact Hbar
  isplitl [Hx₀ Hx₁]; · isplitl [Hx₀] <;> iassumption
  isplitl [Hb₀ Hb₁ Hb₂ Hb₃]
  · iapply (xhs_made m c)
    isplitl [Hb₀ Hb₁]
    · isplitl [Hb₀]
      · iexact Hb₀
      · iexact Hb₁
    · isplitl [Hb₂]
      · iexact Hb₂
      · iexact Hb₃
  isplitl [Hg₀]; · iexact Hg₀
  isplitl [Hl₁] <;> iassumption

/-! ## Phase 2: dy -/

theorem phaseDy_spec (c : Dev nD) (Q : PUnit → sProp 𝕄) :
    iprop(recs m Kn ∗ due c 3 ∗ xhs m c ∗ dyArg m c 1
        ∗ (lding c 0 2 (dyS c 0) (dyblk m c 0) (dyArg m c 0) ∗ tok c (ldq 0) 3 0)
        ∗ (any c (ldS 1) ∗ tok c (ldq 1) 2 0 ∗ tok c (ldq 1) 3 0 ∗ pos c (ldq 1) 2) ∗ (any c (dybS 0) ∗ any c (dybS 1))
        ∗ (preZ c 0 ∗ preZ c 1 ∗ preZ c 2 ∗ preZ c 3) ∗ (any (zp c) (zrS 0) ∗ any (zp c) (zrS 1) ∗ any (zp c) (zrS 2) ∗ any (zp c) (zrS 3)))
      ⊢ iprop(((due c 7 ∗ xhs m c ∗ (dyArg m c 0 ∗ dyArg m c 1) ∗ (any c (ldS 0) ∗ pos c (ldq 0) 4) ∗ (any c (ldS 1) ∗ pos c (ldq 1) 4)
          ∗ (any c (dybS 0) ∗ any c (dybS 1)) ∗ (midZ m c 0 ∗ midZ m c 1 ∗ midZ m c 2 ∗ midZ m c 3)) -∗ Q ⟨⟩) -∗ Wp c (phaseDy c) Q) := by
  simp only [phaseDy, bind_wp]
  iintro ⟨#HR, Ho, Hx, Hd₁, ⟨Hg₀, Ht₀⟩, ⟨Hl₁, Ht₁, Ht₂, Ha₁⟩, ⟨Hb₀, Hb₁⟩, ⟨Hz₀, Hz₁, Hz₂, Hz₃⟩, ⟨Hr₀, Hr₁, Hr₂, Hr₃⟩⟩ Hk
  iapply (load_end m Kn c _ 0 2 (by decide) (dyS c 0) _ (ldDy m c).1 _ 3 (by decide)) $$ [Ho Hg₀]
  · isplitr; · iexact HR
    isplitl [Ho] <;> iassumption
  iintro ⟨Ho, Ha₀, Hl₀, Hd₀⟩
  iapply (load_start m Kn c _ 1 2 (by decide) (dyS c 1) _ (ldDy m c).2.1 _ (dy_lends m c 1 1)) $$ [Hd₁ Hl₁ Ht₁ Ha₁]
  · isplitr; · iexact HR
    isplitl [Hd₁]; · iexact Hd₁
    isplitl [Hl₁]; · iexact Hl₁
    isplitl [Ht₁] <;> iassumption
  iintro Hg₁
  iapply (mulDy_spec m Kn c _ 0 0 _ (dev_z _ _ (by decide) c) 3 rfl) $$ [Ho Hl₀ Hb₀ Hx Hz₀ Hr₀]
  · isplitr; · iexact HR
    isplitl [Hl₀]; · iexact Hl₀
    isplitl [Hb₀]; · iexact Hb₀
    isplitl [Hx]; · iexact Hx
    isplitl [Hz₀]; · iexact Hz₀
    isplitl [Hr₀] <;> iassumption
  iintro ⟨Hl₀, Hb₀, Hx, Hz₀, Ho⟩
  iapply (load_end m Kn c _ 1 2 (by decide) (dyS c 1) _ (ldDy m c).2.1 _ 4 (by decide)) $$ [Ho Hg₁]
  · isplitr; · iexact HR
    isplitl [Ho] <;> iassumption
  iintro ⟨Ho, Ha₁, Hl₁, Hd₁⟩
  iapply (load_start m Kn c _ 0 3 (by decide) (dyS c 2) _ (ldDy m c).2.2.1 _ (dy_lends m c 0 2)) $$ [Hd₀ Hl₀ Ht₀ Ha₀]
  · isplitr; · iexact HR
    isplitl [Hd₀]; · iexact Hd₀
    isplitl [Hl₀]; · iexact Hl₀
    isplitl [Ht₀] <;> iassumption
  iintro Hg₀
  iapply (mulDy_spec m Kn c _ 1 1 _ (dev_z _ _ (by decide) c) 4 rfl) $$ [Ho Hl₁ Hb₁ Hx Hz₁ Hr₁]
  · isplitr; · iexact HR
    isplitl [Hl₁]; · iexact Hl₁
    isplitl [Hb₁]; · iexact Hb₁
    isplitl [Hx]; · iexact Hx
    isplitl [Hz₁]; · iexact Hz₁
    isplitl [Hr₁] <;> iassumption
  iintro ⟨Hl₁, Hb₁, Hx, Hz₁, Ho⟩
  iapply (load_end m Kn c _ 0 3 (by decide) (dyS c 2) _ (ldDy m c).2.2.1 _ 5 (by decide)) $$ [Ho Hg₀]
  · isplitr; · iexact HR
    isplitl [Ho] <;> iassumption
  iintro ⟨Ho, Ha₀, Hl₀, Hd₀⟩
  iapply (load_start m Kn c _ 1 3 (by decide) (dyS c 3) _ (ldDy m c).2.2.2 _ (dy_lends m c 1 3)) $$ [Hd₁ Hl₁ Ht₂ Ha₁]
  · isplitr; · iexact HR
    isplitl [Hd₁]; · iexact Hd₁
    isplitl [Hl₁]; · iexact Hl₁
    isplitl [Ht₂] <;> iassumption
  iintro Hg₁
  iapply (mulDy_spec m Kn c _ 2 0 _ (dev_z _ _ (by decide) c) 5 rfl) $$ [Ho Hl₀ Hb₀ Hx Hz₂ Hr₂]
  · isplitr; · iexact HR
    isplitl [Hl₀]; · iexact Hl₀
    isplitl [Hb₀]; · iexact Hb₀
    isplitl [Hx]; · iexact Hx
    isplitl [Hz₂]; · iexact Hz₂
    isplitl [Hr₂] <;> iassumption
  iintro ⟨Hl₀, Hb₀, Hx, Hz₂, Ho⟩
  iapply (load_end m Kn c _ 1 3 (by decide) (dyS c 3) _ (ldDy m c).2.2.2 _ 6 (by decide)) $$ [Ho Hg₁]
  · isplitr; · iexact HR
    isplitl [Ho] <;> iassumption
  iintro ⟨Ho, Ha₁, Hl₁, Hd₁⟩
  iapply (mulDy_spec m Kn c _ 3 1 _ (dev_z _ _ (by decide) c) 6 rfl) $$ [Ho Hl₁ Hb₁ Hx Hz₃ Hr₃]
  · isplitr; · iexact HR
    isplitl [Hl₁]; · iexact Hl₁
    isplitl [Hb₁]; · iexact Hb₁
    isplitl [Hx]; · iexact Hx
    isplitl [Hz₃]; · iexact Hz₃
    isplitl [Hr₃] <;> iassumption
  iintro ⟨Hl₁, Hb₁, Hx, Hz₃, Ho⟩
  iapply Hk
  isplitl [Ho]; · iexact Ho
  isplitl [Hx]; · iexact Hx
  isplitl [Hd₀ Hd₁]; · isplitl [Hd₀] <;> iassumption
  isplitl [Hl₀ Ha₀]; · isplitl [Hl₀] <;> iassumption
  isplitl [Hl₁ Ha₁]; · isplitl [Hl₁] <;> iassumption
  isplitl [Hb₀ Hb₁]; · isplitl [Hb₀] <;> iassumption
  isplitl [Hz₀]; · iexact Hz₀
  isplitl [Hz₁]; · iexact Hz₁
  isplitl [Hz₂] <;> iassumption

end Cert.KernelIdeal.Stages
end
-- ==== Proof.KernelIdeal.Phases2.lean ====
/-
  The other phases: adding, passing on, writing the result, and the last rendezvous.
-/
module

public import proofs.«01_k».proof.Proof.KernelIdeal.Phases

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

/-! ## The blocks of the result -/

/-- A block of the result before it is written: this device's own, the x neighbour's, the y neighbour's, the diagonal device's. -/
def anO (c : Dev nD) (t : Fin 4) : sProp 𝕄 := any c (outS (k0_off12 c (w512 t)) (k0_off12_inb c t))
def anX (c : Dev nD) (t : Fin 4) : sProp 𝕄 := any c (outS (k0_off13 c (w512 t)) (k0_off13_inb c t))
def anY (c : Dev nD) (t : Fin 4) : sProp 𝕄 := any c (outS (k0_off14 c (w512 t)) (k0_off14_inb c t))
def anD (c : Dev nD) (t : Fin 4) : sProp 𝕄 := any c (outS (k0_off15 c (w512 t)) (k0_off15_inb c t))
/-- The same once it is written. -/
def inX (c : Dev nD) (t : Fin 4) : sProp 𝕄 := own c (outS (k0_off13 c (w512 t)) (k0_off13_inb c t)) fullShare (drop1 (outXW m c t))
def inY (c : Dev nD) (t : Fin 4) : sProp 𝕄 := own c (outS (k0_off14 c (w512 t)) (k0_off14_inb c t)) fullShare (drop1 (outYW m c t))
def inD (c : Dev nD) (t : Fin 4) : sProp 𝕄 := own c (outS (k0_off15 c (w512 t)) (k0_off15_inb c t)) fullShare (drop1 (outDW m c t))

abbrev scq (s : Fin 2) : SemLoc sig := .dma (dsem cc0_scratch24 s)
/-- The copy of round `r` out of slot `s` of the result buffer is under way. -/
def copying (c : Dev nD) (s : Fin 2) (r : ℕ) : sProp 𝕄 := iprop(cr c (scq s) ∗ pos c (scq s) r)

theorem scX (c : Dev nD) (t : Fin 4) : scPay m c 0 t.val = outPay c (cbS 0) (k0_off13 c (w512 t)) (k0_off13_inb c t) (outXW m c t) := by fin_cases t <;> rfl
theorem scY (c : Dev nD) (t : Fin 4) : scPay m c 1 t.val = outPay c (cbS 1) (k0_off14 c (w512 t)) (k0_off14_inb c t) (outYW m c t) := by fin_cases t <;> rfl

/-! ## Phase 3: adding -/

theorem phaseZ_spec (c : Dev nD) (Q : PUnit → sProp 𝕄) :
    iprop(recs m Kn ∗ due c 7 ∗ (midZ m c 0 ∗ midZ m c 1 ∗ midZ m c 2 ∗ midZ m c 3) ∗ (preS c 0 ∗ preS c 1 ∗ preS c 2 ∗ preS c 3)
        ∗ ((any (xp c) (gxP 0) ∗ any (yp c) (gyP 0)) ∗ (any (xp c) (gxP 1) ∗ any (yp c) (gyP 1))
          ∗ (any (xp c) (gxP 2) ∗ any (yp c) (gyP 2)) ∗ (any (xp c) (gxP 3) ∗ any (yp c) (gyP 3)))
        ∗ (anO c 0 ∗ anO c 1 ∗ anO c 2 ∗ anO c 3))
      ⊢ iprop(((due c 15 ∗ (midS c 0 ∗ midS c 1 ∗ midS c 2 ∗ midS c 3) ∗ (midSt c 0 ∗ midSt c 1 ∗ midSt c 2 ∗ midSt c 3)
          ∗ (doneZ m c 0 ∗ doneZ m c 1 ∗ doneZ m c 2 ∗ doneZ m c 3)) -∗ Q ⟨⟩) -∗ Wp c (phaseZ c) Q) := by
  simp only [phaseZ, bind_wp]
  unfold anO
  iintro ⟨#HR, Ho, ⟨Hm₀, Hm₁, Hm₂, Hm₃⟩, ⟨Hs₀, Hs₁, Hs₂, Hs₃⟩, ⟨Hg₀, Hg₁, Hg₂, Hg₃⟩, ⟨Ha₀, Ha₁, Ha₂, Ha₃⟩⟩ Hk
  iapply (sumZ_spec m Kn c _ 0 _ _ (dev_x _ _ (by decide) c) (dev_y _ _ (by decide) c) 7 rfl rfl (by decide) (by decide)) $$ [Ho Hm₀ Hs₀ Hg₀ Ha₀]
  · isplitr; · iexact HR
    isplitl [Ho]; · iexact Ho
    isplitl [Hm₀]; · iexact Hm₀
    isplitl [Hs₀]; · iexact Hs₀
    isplitl [Hg₀] <;> iassumption
  iintro ⟨Ho, Hm₀, Hs₀, Hg₀⟩
  iapply (sumZ_spec m Kn c _ 1 _ _ (dev_x _ _ (by decide) c) (dev_y _ _ (by decide) c) 9 rfl rfl (by decide) (by decide)) $$ [Ho Hm₁ Hs₁ Hg₁ Ha₁]
  · isplitr; · iexact HR
    isplitl [Ho]; · iexact Ho
    isplitl [Hm₁]; · iexact Hm₁
    isplitl [Hs₁]; · iexact Hs₁
    isplitl [Hg₁] <;> iassumption
  iintro ⟨Ho, Hm₁, Hs₁, Hg₁⟩
  iapply (sumZ_spec m Kn c _ 2 _ _ (dev_x _ _ (by decide) c) (dev_y _ _ (by decide) c) 11 rfl rfl (by decide) (by decide)) $$ [Ho Hm₂ Hs₂ Hg₂ Ha₂]
  · isplitr; · iexact HR
    isplitl [Ho]; · iexact Ho
    isplitl [Hm₂]; · iexact Hm₂
    isplitl [Hs₂]; · iexact Hs₂
    isplitl [Hg₂] <;> iassumption
  iintro ⟨Ho, Hm₂, Hs₂, Hg₂⟩
  iapply (sumZ_spec m Kn c _ 3 _ _ (dev_x _ _ (by decide) c) (dev_y _ _ (by decide) c) 13 rfl rfl (by decide) (by decide)) $$ [Ho Hm₃ Hs₃ Hg₃ Ha₃]
  · isplitr; · iexact HR
    isplitl [Ho]; · iexact Ho
    isplitl [Hm₃]; · iexact Hm₃
    isplitl [Hs₃]; · iexact Hs₃
    isplitl [Hg₃] <;> iassumption
  iintro ⟨Ho, Hm₃, Hs₃, Hg₃⟩
  iapply Hk
  isplitl [Ho]; · iexact Ho
  isplitl [Hm₀ Hm₁ Hm₂ Hm₃]
  · isplitl [Hm₀]; · iexact Hm₀
    isplitl [Hm₁]; · iexact Hm₁
    isplitl [Hm₂] <;> iassumption
  isplitl [Hs₀ Hs₁ Hs₂ Hs₃]
  · isplitl [Hs₀]; · iexact Hs₀
    isplitl [Hs₁]; · iexact Hs₁
    isplitl [Hs₂] <;> iassumption
  isplitl [Hg₀]; · iexact Hg₀
  isplitl [Hg₁]; · iexact Hg₁
  isplitl [Hg₂] <;> iassumption

/-! ## Phase 4: passing on, and the neighbours' sums -/

/-- What one turn of the phase needs, -/
def preG (c : Dev nD) (t : Fin 4) : sProp 𝕄 :=
  iprop(midS c t ∗ preR c t ∗ (any (yp c) (hyS t) ∗ any (xp c) (hxS t)) ∗ (anX c t ∗ anY c t) ∗ tok c (scq 0) t.val 0 ∗ tok c (scq 1) t.val 0)
/-- and what it leaves. -/
def postG (c : Dev nD) (t : Fin 4) : sProp 𝕄 := iprop(gX m c t ∗ gY m c t ∗ midR c t ∗ doneR m c t)

theorem turnG_first (c : Dev nD) (Q : PUnit → sProp 𝕄) (dy dx : Dev nD) (hdy : dy = yp c) (hdx : dx = xp c) :
    iprop(recs m Kn ∗ due c 15 ∗ preG c 0 ∗ (any c (cbS 0) ∗ any c (cbS 1)) ∗ pos c (scq 0) 0 ∗ pos c (scq 1) 0)
      ⊢ iprop(((due c 17 ∗ postG m c 0 ∗ copying c 0 0 ∗ copying c 1 0) -∗ Q ⟨⟩)
        -∗ Wp c (relay 0 dy dx) fun _ => Wp c (outX 0 0 (pure ⟨⟩) (k0_off13 c (w512 0)) (k0_off13_inb c 0)) fun _ =>
          Wp c (outY 0 1 (pure ⟨⟩) (k0_off14 c (w512 0)) (k0_off14_inb c 0)) Q) := by
  unfold preG postG anX anY copying
  iintro ⟨#HR, Ho, ⟨Hm, Hr, Hh, ⟨Hx, Hy⟩, Ht₀, Ht₁⟩, ⟨Hb₀, Hb₁⟩, Ha₀, Ha₁⟩ Hk
  iapply (relay_spec m Kn c _ 0 dy dx hdy hdx 15 rfl rfl (by decide) (by decide) (by decide) (by decide)) $$ [Ho Hm Hr Hh]
  · isplitr; · iexact HR
    isplitl [Ho]; · iexact Ho
    isplitl [Hm]; · iexact Hm
    isplitl [Hr] <;> iassumption
  iintro ⟨Ho, Hgx, Hgy, Hm, Hr⟩
  iapply (outX_spec m c _ 0 0 (pure ⟨⟩) _ _) $$ Hgx
  iintro Hgx
  simp only [Prog.pure_eq_ret, Prog.bind_ret]
  iapply (fill_first m Kn c _ 0 0 (by decide) _ _ _ (scX m c 0)) $$ [Hb₀ Hx Ht₀ Ha₀]
  · isplitr; · iexact HR
    isplitl [Hb₀]; · iexact Hb₀
    isplitl [Hx]; · iexact Hx
    isplitl [Ht₀]
    · iexact Ht₀
    · iexact Ha₀
  iintro Hc₀
  iapply (outY_spec m c _ 0 1 (.ret ⟨⟩) _ _) $$ Hgy
  iintro Hgy
  simp only [Prog.bind_ret]
  iapply (fill_first m Kn c _ 1 0 (by decide) _ _ _ (scY m c 0)) $$ [Hb₁ Hy Ht₁ Ha₁]
  · isplitr; · iexact HR
    isplitl [Hb₁]; · iexact Hb₁
    isplitl [Hy]; · iexact Hy
    isplitl [Ht₁]
    · iexact Ht₁
    · iexact Ha₁
  iintro Hc₁
  iapply Hk
  isplitl [Ho]; · iexact Ho
  isplitl [Hgx Hgy Hm Hr]
  · isplitl [Hgx]; · iexact Hgx
    isplitl [Hgy]; · iexact Hgy
    isplitl [Hm] <;> iassumption
  isplitl [Hc₀] <;> iassumption

theorem turnG_next (c : Dev nD) (Q : PUnit → sProp 𝕄) (t t' : Fin 4) (ht : t.val = t'.val + 1) (dy dx : Dev nD) (hdy : dy = yp c) (hdx : dx = xp c) (n : ℕ)
    (hn₁ : (dues c).drop n = (yp c, .dma (dsem cc0_scratch22 t)) :: (dues c).drop (n + 1))
    (hn₂ : (dues c).drop (n + 1) = (xp c, .dma (dsem cc0_scratch20 t)) :: (dues c).drop (n + 2)) (hl : above n 3) (hl' : above (n + 1) 3) (hl'' : above (n + 2) 0) :
    iprop(recs m Kn ∗ due c n ∗ preG c t ∗ copying c 0 t'.val ∗ copying c 1 t'.val)
      ⊢ iprop(((due c (n + 2) ∗ postG m c t ∗ (inX m c t' ∗ inY m c t') ∗ copying c 0 t.val ∗ copying c 1 t.val) -∗ Q ⟨⟩)
        -∗ Wp c (relay t dy dx) fun _ => Wp c (outX t 0 (waitCb 0 (k0_off13 c (w512 t')) (k0_off13_inb c t')) (k0_off13 c (w512 t)) (k0_off13_inb c t)) fun _ =>
          Wp c (outY t 1 (waitCb 1 (k0_off14 c (w512 t')) (k0_off14_inb c t')) (k0_off14 c (w512 t)) (k0_off14_inb c t)) Q) := by
  have hs : ∀ s : Fin 2, t'.val + 1 < 6 := fun _ => by have := t'.isLt; omega
  have e₀ := scX m c t
  have e₁ := scY m c t
  unfold preG postG anX anY inX inY copying
  rw [ht] at e₀ e₁ ⊢
  iintro ⟨#HR, Ho, ⟨Hm, Hr, Hh, ⟨Hx, Hy⟩, Ht₀, Ht₁⟩, Hc₀, Hc₁⟩ Hk
  iapply (relay_spec m Kn c _ t dy dx hdy hdx n hn₁ hn₂ (fun s h => lt_of_le_of_lt (Nat.zero_le 3) (hl s h)) hl (fun s h => lt_of_le_of_lt (Nat.zero_le 3) (hl' s h)) hl') $$ [Ho Hm Hr Hh]
  · isplitr; · iexact HR
    isplitl [Ho]; · iexact Ho
    isplitl [Hm]; · iexact Hm
    isplitl [Hr] <;> iassumption
  iintro ⟨Ho, Hgx, Hgy, Hm, Hr⟩
  iapply (outX_spec m c _ t 0 _ _ _) $$ Hgx
  iintro Hgx
  iapply (fill_next m Kn c _ 0 t'.val (hs 0) _ _ _ (scX m c t') _ _ _ e₀ (n + 2) hl'') $$ [Ho Hc₀ Hx Ht₀]
  · isplitr; · iexact HR
    isplitl [Ho]; · iexact Ho
    isplitl [Hc₀]; · iexact Hc₀
    isplitl [Hx] <;> iassumption
  iintro ⟨Ho, Hix, Hc₀⟩
  iapply (outY_spec m c _ t 1 _ _ _) $$ Hgy
  iintro Hgy
  iapply (fill_next m Kn c _ 1 t'.val (hs 1) _ _ _ (scY m c t') _ _ _ e₁ (n + 2) hl'') $$ [Ho Hc₁ Hy Ht₁]
  · isplitr; · iexact HR
    isplitl [Ho]; · iexact Ho
    isplitl [Hc₁]; · iexact Hc₁
    isplitl [Hy] <;> iassumption
  iintro ⟨Ho, Hiy, Hc₁⟩
  iapply Hk
  isplitl [Ho]; · iexact Ho
  isplitl [Hgx Hgy Hm Hr]
  · isplitl [Hgx]; · iexact Hgx
    isplitl [Hgy]; · iexact Hgy
    isplitl [Hm] <;> iassumption
  isplitl [Hix Hiy]; · isplitl [Hix] <;> iassumption
  isplitl [Hc₀] <;> iassumption

theorem phaseG_spec (c : Dev nD) (Q : PUnit → sProp 𝕄) :
    iprop(recs m Kn ∗ due c 15 ∗ (preG c 0 ∗ preG c 1 ∗ preG c 2 ∗ preG c 3) ∗ (any c (cbS 0) ∗ any c (cbS 1)) ∗ pos c (scq 0) 0 ∗ pos c (scq 1) 0)
      ⊢ iprop(((due c 23 ∗ (postG m c 0 ∗ postG m c 1 ∗ postG m c 2 ∗ postG m c 3)
          ∗ ((inX m c 0 ∗ inY m c 0) ∗ (inX m c 1 ∗ inY m c 1) ∗ (inX m c 2 ∗ inY m c 2)) ∗ copying c 0 3 ∗ copying c 1 3) -∗ Q ⟨⟩) -∗ Wp c (phaseG c) Q) := by
  simp only [phaseG, bind_wp]
  iintro ⟨#HR, Ho, ⟨Hg₀, Hg₁, Hg₂, Hg₃⟩, Hb, Ha⟩ Hk
  iapply (turnG_first m Kn c _ _ _ (dev_y _ _ (by decide) c) (dev_x _ _ (by decide) c)) $$ [Ho Hg₀ Hb Ha]
  · isplitr; · iexact HR
    isplitl [Ho]; · iexact Ho
    isplitl [Hg₀]; · iexact Hg₀
    isplitl [Hb] <;> iassumption
  iintro ⟨Ho, Hg₀, Hc⟩
  iapply (turnG_next m Kn c _ 1 0 rfl _ _ (dev_y _ _ (by decide) c) (dev_x _ _ (by decide) c) 17 rfl rfl (by decide) (by decide) (by decide)) $$ [Ho Hg₁ Hc]
  · isplitr; · iexact HR
    isplitl [Ho]; · iexact Ho
    isplitl [Hg₁]
    · iexact Hg₁
    · iexact Hc
  iintro ⟨Ho, Hg₁, Hi₀, Hc⟩
  iapply (turnG_next m Kn c _ 2 1 rfl _ _ (dev_y _ _ (by decide) c) (dev_x _ _ (by decide) c) 19 rfl rfl (by decide) (by decide) (by decide)) $$ [Ho Hg₂ Hc]
  · isplitr; · iexact HR
    isplitl [Ho]; · iexact Ho
    isplitl [Hg₂]
    · iexact Hg₂
    · iexact Hc
  iintro ⟨Ho, Hg₂, Hi₁, Hc⟩
  iapply (turnG_next m Kn c _ 3 2 rfl _ _ (dev_y _ _ (by decide) c) (dev_x _ _ (by decide) c) 21 rfl rfl (by decide) (by decide) (by decide)) $$ [Ho Hg₃ Hc]
  · isplitr; · iexact HR
    isplitl [Ho]; · iexact Ho
    isplitl [Hg₃]
    · iexact Hg₃
    · iexact Hc
  iintro ⟨Ho, Hg₃, Hi₂, Hc⟩
  iapply Hk
  isplitl [Ho]; · iexact Ho
  isplitl [Hg₀ Hg₁ Hg₂ Hg₃]
  · isplitl [Hg₀]; · iexact Hg₀
    isplitl [Hg₁]; · iexact Hg₁
    isplitl [Hg₂] <;> iassumption
  isplitl [Hi₀ Hi₁ Hi₂]
  · isplitl [Hi₀]; · iexact Hi₀
    isplitl [Hi₁] <;> iassumption
  iexact Hc

/-! ## Phase 5: the diagonal device's sum -/

/-- The waits before it, and the block that is then written from slot `s`. -/
def preD (c : Dev nD) (t : Fin 4) (s : Fin 2) (r : ℕ) : sProp 𝕄 := iprop((midR c t ∗ preW c t) ∗ anD c t ∗ tok c (scq s) r 0)

theorem turnD (c : Dev nD) (Q : PUnit → sProp 𝕄) (t : Fin 4) (s : Fin 2) (r : ℕ) (hr : r + 1 < 6) (off' : Fin 2 → ℕ) (h') (v' : S1x1024x512.Idx → Elt F .f32)
    (hv' : scPay m c s r = outPay c (cbS s) off' h' v') (hv : scPay m c s (r + 1) = outPay c (cbS s) (k0_off15 c (w512 t)) (k0_off15_inb c t) (outDW m c t)) :
    iprop(recs m Kn ∗ due c 23 ∗ preD c t s (r + 1) ∗ copying c s r)
      ⊢ iprop(((due c 23 ∗ (hXY m c t ∗ doneW m c t) ∗ own c (outS off' h') fullShare (drop1 v') ∗ copying c s (r + 1)) -∗ Q ⟨⟩)
        -∗ Wp c (waitRelay t) fun _ => Wp c (outD t s (waitCb s off' h') (k0_off15 c (w512 t)) (k0_off15_inb c t)) Q) := by
  unfold preD anD copying
  iintro ⟨#HR, Ho, ⟨⟨Hm, Hw⟩, Hd, Ht⟩, Hc⟩ Hk
  iapply (waitRelay_spec m Kn c _ t 23 (show above 23 0 by decide) (show above 23 4 by decide) (show above 23 0 by decide) (show above 23 4 by decide)) $$ [Ho Hm Hw]
  · isplitr; · iexact HR
    isplitl [Ho]; · iexact Ho
    isplitl [Hm] <;> iassumption
  iintro ⟨Ho, Hh, Hw⟩
  iapply (outD_spec m c _ t s _ _ _) $$ Hh
  iintro Hh
  iapply (fill_next m Kn c _ s r hr _ _ _ hv' _ _ _ hv 23 (show above 23 0 by decide)) $$ [Ho Hc Hd Ht]
  · isplitr; · iexact HR
    isplitl [Ho]; · iexact Ho
    isplitl [Hc]; · iexact Hc
    isplitl [Hd] <;> iassumption
  iintro ⟨Ho, Hi, Hc⟩
  iapply Hk
  isplitl [Ho]; · iexact Ho
  isplitl [Hh Hw]; · isplitl [Hh] <;> iassumption
  isplitl [Hi] <;> iassumption

theorem phaseD_spec (c : Dev nD) (Q : PUnit → sProp 𝕄) :
    iprop(recs m Kn ∗ due c 23 ∗ (preD c 0 0 4 ∗ preD c 1 1 4 ∗ preD c 2 0 5 ∗ preD c 3 1 5) ∗ copying c 0 3 ∗ copying c 1 3)
      ⊢ iprop(((due c 23 ∗ ((hXY m c 0 ∗ doneW m c 0) ∗ (hXY m c 1 ∗ doneW m c 1) ∗ (hXY m c 2 ∗ doneW m c 2) ∗ (hXY m c 3 ∗ doneW m c 3))
          ∗ (inX m c 3 ∗ inY m c 3) ∗ (inD m c 0 ∗ inD m c 1) ∗ copying c 0 5 ∗ copying c 1 5) -∗ Q ⟨⟩) -∗ Wp c (phaseD c) Q) := by
  simp only [phaseD, bind_wp]
  unfold inX inY inD
  iintro ⟨#HR, Ho, ⟨Hd₀, Hd₁, Hd₂, Hd₃⟩, Hc₀, Hc₁⟩ Hk
  iapply (turnD m Kn c _ 0 0 3 (by decide) _ _ (outXW m c 3) rfl rfl) $$ [Ho Hd₀ Hc₀]
  · isplitr; · iexact HR
    isplitl [Ho]; · iexact Ho
    isplitl [Hd₀] <;> iassumption
  iintro ⟨Ho, Hd₀, Hx, Hc₀⟩
  iapply (turnD m Kn c _ 1 1 3 (by decide) _ _ (outYW m c 3) rfl rfl) $$ [Ho Hd₁ Hc₁]
  · isplitr; · iexact HR
    isplitl [Ho]; · iexact Ho
    isplitl [Hd₁] <;> iassumption
  iintro ⟨Ho, Hd₁, Hy, Hc₁⟩
  iapply (turnD m Kn c _ 2 0 4 (by decide) _ _ (outDW m c 0) rfl rfl) $$ [Ho Hd₂ Hc₀]
  · isplitr; · iexact HR
    isplitl [Ho]; · iexact Ho
    isplitl [Hd₂] <;> iassumption
  iintro ⟨Ho, Hd₂, Hi₀, Hc₀⟩
  iapply (turnD m Kn c _ 3 1 4 (by decide) _ _ (outDW m c 1) rfl rfl) $$ [Ho Hd₃ Hc₁]
  · isplitr; · iexact HR
    isplitl [Ho]; · iexact Ho
    isplitl [Hd₃] <;> iassumption
  iintro ⟨Ho, Hd₃, Hi₁, Hc₁⟩
  iapply Hk
  isplitl [Ho]; · iexact Ho
  isplitl [Hd₀ Hd₁ Hd₂ Hd₃]
  · isplitl [Hd₀]; · iexact Hd₀
    isplitl [Hd₁]; · iexact Hd₁
    isplitl [Hd₂] <;> iassumption
  isplitl [Hx Hy]
  · isplitl [Hx]
    · iexact Hx
    · iexact Hy
  isplitl [Hi₀ Hi₁]
  · isplitl [Hi₀]
    · iexact Hi₀
    · iexact Hi₁
  isplitl [Hc₀] <;> iassumption

/-! ## Phase 6: the last copies and the last rendezvous -/

theorem phaseE_spec (c : Dev nD) (Q : PUnit → sProp 𝕄) :
    iprop(recs m Kn ∗ due c 23 ∗ (midSt c 0 ∗ midSt c 1 ∗ midSt c 2 ∗ midSt c 3) ∗ (copying c 0 5 ∗ copying c 1 5) ∗ preBar m c finS .fin)
      ⊢ iprop(((due c 26 ∗ (doneSt m c 0 ∗ doneSt m c 1 ∗ doneSt m c 2 ∗ doneSt m c 3) ∗ (inD m c 2 ∗ inD m c 3)
          ∗ ((any c (cbS 0) ∗ any c (cbS 1)) ∗ pos c (scq 0) 6 ∗ pos c (scq 1) 6) ∗ gotBar m c finS .fin) -∗ Q ⟨⟩) -∗ Wp c (phaseE c) Q) := by
  simp only [phaseE, bind_wp]
  unfold preBar gotBar inD copying
  iintro ⟨#HR, Ho, ⟨Hm₀, Hm₁, Hm₂, Hm₃⟩, ⟨Hc₀, Hc₁⟩, Hbar⟩ Hk
  iapply (waitSt_spec m Kn c _ 0 23 (by decide)) $$ [Ho Hm₀]
  · isplitr; · iexact HR
    isplitl [Ho] <;> iassumption
  iintro ⟨Ho, Hm₀⟩
  iapply (waitSt_spec m Kn c _ 1 23 (by decide)) $$ [Ho Hm₁]
  · isplitr; · iexact HR
    isplitl [Ho] <;> iassumption
  iintro ⟨Ho, Hm₁⟩
  iapply (waitSt_spec m Kn c _ 2 23 (by decide)) $$ [Ho Hm₂]
  · isplitr; · iexact HR
    isplitl [Ho] <;> iassumption
  iintro ⟨Ho, Hm₂⟩
  iapply (waitSt_spec m Kn c _ 3 23 (by decide)) $$ [Ho Hm₃]
  · isplitr; · iexact HR
    isplitl [Ho] <;> iassumption
  iintro ⟨Ho, Hm₃⟩
  iapply (waitCb_spec m Kn c _ 0 5 (by decide) _ _ (k0_off15 c (w512 2)) (k0_off15_inb c 2) (outDW m c 2) rfl 23 (by decide)) $$ [Ho Hc₀]
  · isplitr; · iexact HR
    isplitl [Ho] <;> iassumption
  iintro ⟨Ho, Hb₀, Hi₀, Ha₀⟩
  iapply (waitCb_spec m Kn c _ 1 5 (by decide) _ _ (k0_off15 c (w512 3)) (k0_off15_inb c 3) (outDW m c 3) rfl 23 (by decide)) $$ [Ho Hc₁]
  · isplitr; · iexact HR
    isplitl [Ho] <;> iassumption
  iintro ⟨Ho, Hb₁, Hi₁, Ha₁⟩
  iapply (rendezvous_spec m Kn c _ finS .fin kind_fin rfl Nat.one_pos rfl 23 _ _ _ (dev_x _ _ (by decide) c) (dev_y _ _ (by decide) c)
    (dev_z _ _ (by decide) c) rfl rfl rfl (by decide)) $$ [Ho Hbar]
  · isplitr; · iexact HR
    isplitl [Ho] <;> iassumption
  iintro ⟨Ho, Hbar⟩
  iapply Hk
  isplitl [Ho]; · iexact Ho
  isplitl [Hm₀ Hm₁ Hm₂ Hm₃]
  · isplitl [Hm₀]; · iexact Hm₀
    isplitl [Hm₁]; · iexact Hm₁
    isplitl [Hm₂] <;> iassumption
  isplitl [Hi₀ Hi₁]; · isplitl [Hi₀] <;> iassumption
  isplitl [Hb₀ Hb₁ Ha₀ Ha₁]
  · isplitl [Hb₀ Hb₁]; · isplitl [Hb₀] <;> iassumption
    isplitl [Ha₀] <;> iassumption
  iexact Hbar

end Cert.KernelIdeal.Stages
end
-- ==== Proof.KernelIdeal.Parts.lean ====
/-
  What a device starts with and what it ends with.
-/
module

public import proofs.«01_k».proof.Proof.KernelIdeal.Phases2

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Separating conjunction may be reordered and regrouped. -/
instance sep_commutes : _root_.Std.Commutative (α := sProp 𝕄) BIBase.sep := ⟨fun P Q => equiv_iff.mp ⟨BI.sep_comm, BI.sep_comm⟩⟩
instance sep_associates : _root_.Std.Associative (α := sProp 𝕄) BIBase.sep := ⟨fun P Q R => equiv_iff.mp ⟨BI.sep_assoc, BI.sep_assoc'⟩⟩

variable (m : (ℓ : Loc nD τ sig) → Buf (Elt F) ℓ) (Kn : Dev nD × SemLoc sig → ℕ)

/-- Which slot of the result buffer, and which of its rounds, writes the diagonal device's sum `t`. -/
def slotD (t : Fin 4) : Fin 2 := ⟨t.val % 2, Nat.mod_lt _ (by decide)⟩
def roundD (t : Fin 4) : ℕ := 4 + t.val / 2

/-- What device `c` starts with for turn `t` of the exchanges. -/
def turn (c : Dev nD) (t : Fin 4) : sProp 𝕄 :=
  iprop(preZ c t ∗ preS c t ∗ anO c t ∗ preR c t ∗ ((anX c t ∗ anY c t) ∗ tok c (scq 0) t.val 0 ∗ tok c (scq 1) t.val 0)
    ∗ preW c t ∗ anD c t ∗ tok c (scq (slotD t)) (roundD t) 0)
/-- What it ends with. -/
def turned (c : Dev nD) (t : Fin 4) : sProp 𝕄 :=
  iprop(doneZ m c t ∗ (gX m c t ∗ gY m c t ∗ doneR m c t) ∗ (hXY m c t ∗ doneW m c t) ∗ doneSt m c t ∗ inX m c t ∗ inY m c t ∗ inD m c t)

/-- A slot of the staging buffer before any load, and after the last. -/
def ldStart (c : Dev nD) (s : Fin 2) : sProp 𝕄 :=
  iprop(any c (ldS s) ∗ (tok c (ldq s) 0 0 ∗ tok c (ldq s) 1 0 ∗ tok c (ldq s) 2 0 ∗ tok c (ldq s) 3 0) ∗ pos c (ldq s) 0)
def ldEnd (c : Dev nD) (s : Fin 2) : sProp 𝕄 := iprop(any c (ldS s) ∗ pos c (ldq s) 4)

/-- Everything device `c` starts with, -/
def begins (c : Dev nD) : sProp 𝕄 :=
  iprop((preBar m c barS .bar ∗ preBar m c finS .fin) ∗ (xArg m c 0 ∗ xArg m c 1) ∗ (dyArg m c 0 ∗ dyArg m c 1) ∗ (ldStart c 0 ∗ ldStart c 1)
    ∗ xbPlaces c ∗ (any c (dybS 0) ∗ any c (dybS 1)) ∗ ((any c (cbS 0) ∗ any c (cbS 1)) ∗ pos c (scq 0) 0 ∗ pos c (scq 1) 0)
    ∗ bigSep Finset.univ fun t : Fin 4 => turn c t)
/-- and what it ends with. -/
def ends (c : Dev nD) : sProp 𝕄 :=
  iprop((pos c (.reg barS) 1 ∗ pos c (.reg finS) 1) ∗ (xArg m c 0 ∗ xArg m c 1) ∗ (dyArg m c 0 ∗ dyArg m c 1) ∗ (ldEnd c 0 ∗ ldEnd c 1)
    ∗ xhs m c ∗ (any c (dybS 0) ∗ any c (dybS 1)) ∗ ((any c (cbS 0) ∗ any c (cbS 1)) ∗ pos c (scq 0) 6 ∗ pos c (scq 1) 6)
    ∗ bigSep Finset.univ fun t : Fin 4 => turned m c t)

end Cert.KernelIdeal.Stages
end
-- ==== Proof.KernelIdeal.Body.lean ====
/-
  The whole body, phase by phase.
-/
module

public import proofs.«01_k».proof.Proof.KernelIdeal.Parts

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

/-- Run from `A`, the program `p` of device `c` ends with `B`. -/
def Runs (c : Dev nD) (p : Pg F) (A B : sProp 𝕄) : Prop :=
  ∀ Q : PUnit → sProp 𝕄, iprop(recs m Kn ∗ A) ⊢ iprop((B -∗ Q ⟨⟩) -∗ Wp c p Q)

theorem runs_seq (c : Dev nD) (p q : Pg F) (A B C D : sProp 𝕄) (h₁ : Runs m Kn c p A B) (hBC : B ⊢ C) (h₂ : Runs m Kn c q C D) :
    Runs m Kn c (p >>= fun _ => q) A D := fun Q => by
  rw [bind_wp]
  iintro ⟨#HR, HA⟩ Hk
  iapply (h₁ _) $$ [HA]
  · isplitr; · iexact HR
    iexact HA
  iintro HB
  ihave HC := hBC $$ HB
  iapply (h₂ Q) $$ [HC]
  · isplitr; · iexact HR
    iexact HC
  iexact Hk
theorem runs_frame (c : Dev nD) (p : Pg F) (A B R : sProp 𝕄) (h : Runs m Kn c p A B) : Runs m Kn c p iprop(A ∗ R) iprop(B ∗ R) := fun Q => by
  iintro ⟨#HR, HA, Hr⟩ Hk
  iapply (h Q) $$ [HA]
  · isplitr; · iexact HR
    iexact HA
  iintro HB
  iapply Hk
  isplitl [HB] <;> iassumption

/-- What the neighbours have lent, turn by turn. -/
theorem lent (c : Dev nD) : gotBar m c barS .bar
    ⊢ iprop(pos c (.reg barS) 1 ∗ (any (zp c) (zrS 0) ∗ any (zp c) (zrS 1) ∗ any (zp c) (zrS 2) ∗ any (zp c) (zrS 3))
      ∗ ((any (xp c) (gxP 0) ∗ any (yp c) (gyP 0)) ∗ (any (xp c) (gxP 1) ∗ any (yp c) (gyP 1))
          ∗ (any (xp c) (gxP 2) ∗ any (yp c) (gyP 2)) ∗ (any (xp c) (gxP 3) ∗ any (yp c) (gyP 3)))
      ∗ (any (yp c) (hyS 0) ∗ any (xp c) (hxS 0)) ∗ (any (yp c) (hyS 1) ∗ any (xp c) (hxS 1))
        ∗ (any (yp c) (hyS 2) ∗ any (xp c) (hxS 2)) ∗ (any (yp c) (hyS 3) ∗ any (xp c) (hxS 3))) := by
  have e₀ : pay m c .bar 0 0 = iprop((any (F := F) (xp c) (gxP 0) ∗ any (F := F) (xp c) (hxS 0)) ∗ (any (F := F) (xp c) (gxP 1) ∗ any (F := F) (xp c) (hxS 1))
      ∗ (any (F := F) (xp c) (gxP 2) ∗ any (F := F) (xp c) (hxS 2)) ∗ (any (F := F) (xp c) (gxP 3) ∗ any (F := F) (xp c) (hxS 3))) :=
    (if_pos rfl : barPay (F := F) c 0 = _).trans (bigSep_fin4 _)
  have e₁ : pay m c .bar 0 1 = iprop((any (F := F) (yp c) (gyP 0) ∗ any (F := F) (yp c) (hyS 0)) ∗ (any (F := F) (yp c) (gyP 1) ∗ any (F := F) (yp c) (hyS 1))
      ∗ (any (F := F) (yp c) (gyP 2) ∗ any (F := F) (yp c) (hyS 2)) ∗ (any (F := F) (yp c) (gyP 3) ∗ any (F := F) (yp c) (hyS 3))) :=
    ((if_neg (by decide) : barPay (F := F) c 1 = _).trans (if_pos rfl)).trans (bigSep_fin4 _)
  have e₂ : pay m c .bar 0 2 = iprop(any (F := F) (zp c) (zrS 0) ∗ any (F := F) (zp c) (zrS 1) ∗ any (F := F) (zp c) (zrS 2) ∗ any (F := F) (zp c) (zrS 3)) :=
    ((if_neg (by decide) : barPay (F := F) c 2 = _).trans (if_neg (by decide))).trans (bigSep_fin4 _)
  unfold gotBar
  rw [e₀, e₁, e₂]
  iintro ⟨Hp, ⟨⟨Hgx₀, Hhx₀⟩, ⟨Hgx₁, Hhx₁⟩, ⟨Hgx₂, Hhx₂⟩, ⟨Hgx₃, Hhx₃⟩⟩, ⟨⟨Hgy₀, Hhy₀⟩, ⟨Hgy₁, Hhy₁⟩, ⟨Hgy₂, Hhy₂⟩, ⟨Hgy₃, Hhy₃⟩⟩, Hz⟩
  isplitl [Hp]; · iexact Hp
  isplitl [Hz]; · iexact Hz
  isplitl [Hgx₀ Hgx₁ Hgx₂ Hgx₃ Hgy₀ Hgy₁ Hgy₂ Hgy₃]
  · isplitl [Hgx₀ Hgy₀]; · isplitl [Hgx₀] <;> iassumption
    isplitl [Hgx₁ Hgy₁]; · isplitl [Hgx₁] <;> iassumption
    isplitl [Hgx₂ Hgy₂]; · isplitl [Hgx₂] <;> iassumption
    isplitl [Hgx₃] <;> iassumption
  · isplitl [Hhx₀ Hhy₀]; · isplitl [Hhy₀] <;> iassumption
    isplitl [Hhx₁ Hhy₁]; · isplitl [Hhy₁] <;> iassumption
    isplitl [Hhx₂ Hhy₂]; · isplitl [Hhy₂] <;> iassumption
    isplitl [Hhy₃] <;> iassumption

/-- What device `c` still holds besides, during each phase. -/
def restX (c : Dev nD) : sProp 𝕄 :=
  iprop(preBar m c finS .fin ∗ dyArg m c 1 ∗ (tok c (ldq 0) 3 0 ∗ tok c (ldq 1) 2 0 ∗ tok c (ldq 1) 3 0) ∗ (any c (dybS 0) ∗ any c (dybS 1)) ∗ ((any c (cbS 0) ∗ any c (cbS 1)) ∗ pos c (scq 0) 0 ∗ pos c (scq 1) 0)
    ∗ (preZ c 0 ∗ preZ c 1 ∗ preZ c 2 ∗ preZ c 3) ∗ (preS c 0 ∗ preS c 1 ∗ preS c 2 ∗ preS c 3) ∗ (anO c 0 ∗ anO c 1 ∗ anO c 2 ∗ anO c 3)
    ∗ (preR c 0 ∗ preR c 1 ∗ preR c 2 ∗ preR c 3) ∗ ((anX c 0 ∗ anY c 0) ∗ (anX c 1 ∗ anY c 1) ∗ (anX c 2 ∗ anY c 2) ∗ (anX c 3 ∗ anY c 3)) ∗ ((tok c (scq 0) (0 : Fin 4).val 0 ∗ tok c (scq 1) (0 : Fin 4).val 0) ∗ (tok c (scq 0) (1 : Fin 4).val 0 ∗ tok c (scq 1) (1 : Fin 4).val 0) ∗ (tok c (scq 0) (2 : Fin 4).val 0 ∗ tok c (scq 1) (2 : Fin 4).val 0) ∗ (tok c (scq 0) (3 : Fin 4).val 0 ∗ tok c (scq 1) (3 : Fin 4).val 0))
    ∗ (preW c 0 ∗ preW c 1 ∗ preW c 2 ∗ preW c 3) ∗ (anD c 0 ∗ anD c 1 ∗ anD c 2 ∗ anD c 3) ∗ (tok c (scq 0) 4 0 ∗ tok c (scq 1) 4 0 ∗ tok c (scq 0) 5 0 ∗ tok c (scq 1) 5 0))
def restDy (c : Dev nD) : sProp 𝕄 :=
  iprop(pos c (.reg barS) 1 ∗ preBar m c finS .fin ∗ (xArg m c 0 ∗ xArg m c 1) ∗ ((any (xp c) (gxP 0) ∗ any (yp c) (gyP 0)) ∗ (any (xp c) (gxP 1) ∗ any (yp c) (gyP 1)) ∗ (any (xp c) (gxP 2) ∗ any (yp c) (gyP 2)) ∗ (any (xp c) (gxP 3) ∗ any (yp c) (gyP 3)))
    ∗ ((any (yp c) (hyS 0) ∗ any (xp c) (hxS 0)) ∗ (any (yp c) (hyS 1) ∗ any (xp c) (hxS 1)) ∗ (any (yp c) (hyS 2) ∗ any (xp c) (hxS 2)) ∗ (any (yp c) (hyS 3) ∗ any (xp c) (hxS 3))) ∗ ((any c (cbS 0) ∗ any c (cbS 1)) ∗ pos c (scq 0) 0 ∗ pos c (scq 1) 0)
    ∗ (preS c 0 ∗ preS c 1 ∗ preS c 2 ∗ preS c 3) ∗ (anO c 0 ∗ anO c 1 ∗ anO c 2 ∗ anO c 3)
    ∗ (preR c 0 ∗ preR c 1 ∗ preR c 2 ∗ preR c 3) ∗ ((anX c 0 ∗ anY c 0) ∗ (anX c 1 ∗ anY c 1) ∗ (anX c 2 ∗ anY c 2) ∗ (anX c 3 ∗ anY c 3)) ∗ ((tok c (scq 0) (0 : Fin 4).val 0 ∗ tok c (scq 1) (0 : Fin 4).val 0) ∗ (tok c (scq 0) (1 : Fin 4).val 0 ∗ tok c (scq 1) (1 : Fin 4).val 0) ∗ (tok c (scq 0) (2 : Fin 4).val 0 ∗ tok c (scq 1) (2 : Fin 4).val 0) ∗ (tok c (scq 0) (3 : Fin 4).val 0 ∗ tok c (scq 1) (3 : Fin 4).val 0))
    ∗ (preW c 0 ∗ preW c 1 ∗ preW c 2 ∗ preW c 3) ∗ (anD c 0 ∗ anD c 1 ∗ anD c 2 ∗ anD c 3) ∗ (tok c (scq 0) 4 0 ∗ tok c (scq 1) 4 0 ∗ tok c (scq 0) 5 0 ∗ tok c (scq 1) 5 0))
def restZ (c : Dev nD) : sProp 𝕄 :=
  iprop(pos c (.reg barS) 1 ∗ preBar m c finS .fin ∗ ((xArg m c 0 ∗ xArg m c 1) ∗ xhs m c ∗ (dyArg m c 0 ∗ dyArg m c 1) ∗ (any c (ldS 0) ∗ pos c (ldq 0) 4) ∗ (any c (ldS 1) ∗ pos c (ldq 1) 4) ∗ (any c (dybS 0) ∗ any c (dybS 1)))
    ∗ ((any (yp c) (hyS 0) ∗ any (xp c) (hxS 0)) ∗ (any (yp c) (hyS 1) ∗ any (xp c) (hxS 1)) ∗ (any (yp c) (hyS 2) ∗ any (xp c) (hxS 2)) ∗ (any (yp c) (hyS 3) ∗ any (xp c) (hxS 3))) ∗ ((any c (cbS 0) ∗ any c (cbS 1)) ∗ pos c (scq 0) 0 ∗ pos c (scq 1) 0)
    ∗ (preR c 0 ∗ preR c 1 ∗ preR c 2 ∗ preR c 3) ∗ ((anX c 0 ∗ anY c 0) ∗ (anX c 1 ∗ anY c 1) ∗ (anX c 2 ∗ anY c 2) ∗ (anX c 3 ∗ anY c 3)) ∗ ((tok c (scq 0) (0 : Fin 4).val 0 ∗ tok c (scq 1) (0 : Fin 4).val 0) ∗ (tok c (scq 0) (1 : Fin 4).val 0 ∗ tok c (scq 1) (1 : Fin 4).val 0) ∗ (tok c (scq 0) (2 : Fin 4).val 0 ∗ tok c (scq 1) (2 : Fin 4).val 0) ∗ (tok c (scq 0) (3 : Fin 4).val 0 ∗ tok c (scq 1) (3 : Fin 4).val 0))
    ∗ (preW c 0 ∗ preW c 1 ∗ preW c 2 ∗ preW c 3) ∗ (anD c 0 ∗ anD c 1 ∗ anD c 2 ∗ anD c 3) ∗ (tok c (scq 0) 4 0 ∗ tok c (scq 1) 4 0 ∗ tok c (scq 0) 5 0 ∗ tok c (scq 1) 5 0))
def restG (c : Dev nD) : sProp 𝕄 :=
  iprop(pos c (.reg barS) 1 ∗ preBar m c finS .fin ∗ ((xArg m c 0 ∗ xArg m c 1) ∗ xhs m c ∗ (dyArg m c 0 ∗ dyArg m c 1) ∗ (any c (ldS 0) ∗ pos c (ldq 0) 4) ∗ (any c (ldS 1) ∗ pos c (ldq 1) 4) ∗ (any c (dybS 0) ∗ any c (dybS 1)))
    ∗ (midSt c 0 ∗ midSt c 1 ∗ midSt c 2 ∗ midSt c 3) ∗ (doneZ m c 0 ∗ doneZ m c 1 ∗ doneZ m c 2 ∗ doneZ m c 3)
    ∗ (preW c 0 ∗ preW c 1 ∗ preW c 2 ∗ preW c 3) ∗ (anD c 0 ∗ anD c 1 ∗ anD c 2 ∗ anD c 3) ∗ (tok c (scq 0) 4 0 ∗ tok c (scq 1) 4 0 ∗ tok c (scq 0) 5 0 ∗ tok c (scq 1) 5 0))
def restD (c : Dev nD) : sProp 𝕄 :=
  iprop(pos c (.reg barS) 1 ∗ preBar m c finS .fin ∗ ((xArg m c 0 ∗ xArg m c 1) ∗ xhs m c ∗ (dyArg m c 0 ∗ dyArg m c 1) ∗ (any c (ldS 0) ∗ pos c (ldq 0) 4) ∗ (any c (ldS 1) ∗ pos c (ldq 1) 4) ∗ (any c (dybS 0) ∗ any c (dybS 1)))
    ∗ (midSt c 0 ∗ midSt c 1 ∗ midSt c 2 ∗ midSt c 3) ∗ (doneZ m c 0 ∗ doneZ m c 1 ∗ doneZ m c 2 ∗ doneZ m c 3) ∗ ((gX m c 0 ∗ gY m c 0 ∗ doneR m c 0) ∗ (gX m c 1 ∗ gY m c 1 ∗ doneR m c 1) ∗ (gX m c 2 ∗ gY m c 2 ∗ doneR m c 2) ∗ (gX m c 3 ∗ gY m c 3 ∗ doneR m c 3))
    ∗ ((inX m c 0 ∗ inY m c 0) ∗ (inX m c 1 ∗ inY m c 1) ∗ (inX m c 2 ∗ inY m c 2)))
def restE (c : Dev nD) : sProp 𝕄 :=
  iprop(pos c (.reg barS) 1 ∗ ((xArg m c 0 ∗ xArg m c 1) ∗ xhs m c ∗ (dyArg m c 0 ∗ dyArg m c 1) ∗ (any c (ldS 0) ∗ pos c (ldq 0) 4) ∗ (any c (ldS 1) ∗ pos c (ldq 1) 4) ∗ (any c (dybS 0) ∗ any c (dybS 1)))
    ∗ (doneZ m c 0 ∗ doneZ m c 1 ∗ doneZ m c 2 ∗ doneZ m c 3) ∗ ((gX m c 0 ∗ gY m c 0 ∗ doneR m c 0) ∗ (gX m c 1 ∗ gY m c 1 ∗ doneR m c 1) ∗ (gX m c 2 ∗ gY m c 2 ∗ doneR m c 2) ∗ (gX m c 3 ∗ gY m c 3 ∗ doneR m c 3)) ∗ ((hXY m c 0 ∗ doneW m c 0) ∗ (hXY m c 1 ∗ doneW m c 1) ∗ (hXY m c 2 ∗ doneW m c 2) ∗ (hXY m c 3 ∗ doneW m c 3))
    ∗ ((inX m c 0 ∗ inY m c 0) ∗ (inX m c 1 ∗ inY m c 1) ∗ (inX m c 2 ∗ inY m c 2) ∗ (inX m c 3 ∗ inY m c 3)) ∗ (inD m c 0 ∗ inD m c 1))

/-- The state before phase X, and after it. -/
def beforeX (c : Dev nD) : sProp 𝕄 := iprop((due c 0 ∗ preBar m c barS .bar ∗ (xArg m c 0 ∗ xArg m c 1 ∗ dyArg m c 0) ∗ (any c (ldS 0) ∗ tok c (ldq 0) 0 0 ∗ tok c (ldq 0) 1 0 ∗ tok c (ldq 0) 2 0 ∗ pos c (ldq 0) 0) ∗ (any c (ldS 1) ∗ tok c (ldq 1) 0 0 ∗ tok c (ldq 1) 1 0 ∗ pos c (ldq 1) 0) ∗ xbPlaces c) ∗ restX m c)
def afterX (c : Dev nD) : sProp 𝕄 := iprop((due c 3 ∗ gotBar m c barS .bar ∗ (xArg m c 0 ∗ xArg m c 1) ∗ xhs m c ∗ lding c 0 2 (dyS c 0) (dyblk m c 0) (dyArg m c 0) ∗ any c (ldS 1) ∗ pos c (ldq 1) 2) ∗ restX m c)
theorem runX (c : Dev nD) : Runs m Kn c (phaseX c) (beforeX m c) (afterX m c) :=
  runs_frame m Kn c (phaseX c) _ _ _ fun Q => phaseX_spec m Kn c Q
/-- The state before phase Dy, and after it. -/
def beforeDy (c : Dev nD) : sProp 𝕄 := iprop((due c 3 ∗ xhs m c ∗ dyArg m c 1 ∗ (lding c 0 2 (dyS c 0) (dyblk m c 0) (dyArg m c 0) ∗ tok c (ldq 0) 3 0) ∗ (any c (ldS 1) ∗ tok c (ldq 1) 2 0 ∗ tok c (ldq 1) 3 0 ∗ pos c (ldq 1) 2) ∗ (any c (dybS 0) ∗ any c (dybS 1)) ∗ (preZ c 0 ∗ preZ c 1 ∗ preZ c 2 ∗ preZ c 3) ∗ (any (zp c) (zrS 0) ∗ any (zp c) (zrS 1) ∗ any (zp c) (zrS 2) ∗ any (zp c) (zrS 3))) ∗ restDy m c)
def afterDy (c : Dev nD) : sProp 𝕄 := iprop((due c 7 ∗ xhs m c ∗ (dyArg m c 0 ∗ dyArg m c 1) ∗ (any c (ldS 0) ∗ pos c (ldq 0) 4) ∗ (any c (ldS 1) ∗ pos c (ldq 1) 4) ∗ (any c (dybS 0) ∗ any c (dybS 1)) ∗ (midZ m c 0 ∗ midZ m c 1 ∗ midZ m c 2 ∗ midZ m c 3)) ∗ restDy m c)
theorem runDy (c : Dev nD) : Runs m Kn c (phaseDy c) (beforeDy m c) (afterDy m c) :=
  runs_frame m Kn c (phaseDy c) _ _ _ fun Q => phaseDy_spec m Kn c Q
/-- The state before phase Z, and after it. -/
def beforeZ (c : Dev nD) : sProp 𝕄 := iprop((due c 7 ∗ (midZ m c 0 ∗ midZ m c 1 ∗ midZ m c 2 ∗ midZ m c 3) ∗ (preS c 0 ∗ preS c 1 ∗ preS c 2 ∗ preS c 3) ∗ ((any (xp c) (gxP 0) ∗ any (yp c) (gyP 0)) ∗ (any (xp c) (gxP 1) ∗ any (yp c) (gyP 1)) ∗ (any (xp c) (gxP 2) ∗ any (yp c) (gyP 2)) ∗ (any (xp c) (gxP 3) ∗ any (yp c) (gyP 3))) ∗ (anO c 0 ∗ anO c 1 ∗ anO c 2 ∗ anO c 3)) ∗ restZ m c)
def afterZ (c : Dev nD) : sProp 𝕄 := iprop((due c 15 ∗ (midS c 0 ∗ midS c 1 ∗ midS c 2 ∗ midS c 3) ∗ (midSt c 0 ∗ midSt c 1 ∗ midSt c 2 ∗ midSt c 3) ∗ (doneZ m c 0 ∗ doneZ m c 1 ∗ doneZ m c 2 ∗ doneZ m c 3)) ∗ restZ m c)
theorem runZ (c : Dev nD) : Runs m Kn c (phaseZ c) (beforeZ m c) (afterZ m c) :=
  runs_frame m Kn c (phaseZ c) _ _ _ fun Q => phaseZ_spec m Kn c Q
/-- The state before phase G, and after it. -/
def beforeG (c : Dev nD) : sProp 𝕄 := iprop((due c 15 ∗ (preG c 0 ∗ preG c 1 ∗ preG c 2 ∗ preG c 3) ∗ (any c (cbS 0) ∗ any c (cbS 1)) ∗ pos c (scq 0) 0 ∗ pos c (scq 1) 0) ∗ restG m c)
def afterG (c : Dev nD) : sProp 𝕄 := iprop((due c 23 ∗ (postG m c 0 ∗ postG m c 1 ∗ postG m c 2 ∗ postG m c 3) ∗ ((inX m c 0 ∗ inY m c 0) ∗ (inX m c 1 ∗ inY m c 1) ∗ (inX m c 2 ∗ inY m c 2)) ∗ copying c 0 3 ∗ copying c 1 3) ∗ restG m c)
theorem runG (c : Dev nD) : Runs m Kn c (phaseG c) (beforeG m c) (afterG m c) :=
  runs_frame m Kn c (phaseG c) _ _ _ fun Q => phaseG_spec m Kn c Q
/-- The state before phase D, and after it. -/
def beforeD (c : Dev nD) : sProp 𝕄 := iprop((due c 23 ∗ (preD c 0 0 4 ∗ preD c 1 1 4 ∗ preD c 2 0 5 ∗ preD c 3 1 5) ∗ copying c 0 3 ∗ copying c 1 3) ∗ restD m c)
def afterD (c : Dev nD) : sProp 𝕄 := iprop((due c 23 ∗ ((hXY m c 0 ∗ doneW m c 0) ∗ (hXY m c 1 ∗ doneW m c 1) ∗ (hXY m c 2 ∗ doneW m c 2) ∗ (hXY m c 3 ∗ doneW m c 3)) ∗ (inX m c 3 ∗ inY m c 3) ∗ (inD m c 0 ∗ inD m c 1) ∗ copying c 0 5 ∗ copying c 1 5) ∗ restD m c)
theorem runD (c : Dev nD) : Runs m Kn c (phaseD c) (beforeD m c) (afterD m c) :=
  runs_frame m Kn c (phaseD c) _ _ _ fun Q => phaseD_spec m Kn c Q
/-- The state before phase E, and after it. -/
def beforeE (c : Dev nD) : sProp 𝕄 := iprop((due c 23 ∗ (midSt c 0 ∗ midSt c 1 ∗ midSt c 2 ∗ midSt c 3) ∗ (copying c 0 5 ∗ copying c 1 5) ∗ preBar m c finS .fin) ∗ restE m c)
def afterE (c : Dev nD) : sProp 𝕄 := iprop((due c 26 ∗ (doneSt m c 0 ∗ doneSt m c 1 ∗ doneSt m c 2 ∗ doneSt m c 3) ∗ (inD m c 2 ∗ inD m c 3) ∗ ((any c (cbS 0) ∗ any c (cbS 1)) ∗ pos c (scq 0) 6 ∗ pos c (scq 1) 6) ∗ gotBar m c finS .fin) ∗ restE m c)
theorem runE (c : Dev nD) : Runs m Kn c (phaseE c) (beforeE m c) (afterE m c) :=
  runs_frame m Kn c (phaseE c) _ _ _ fun Q => phaseE_spec m Kn c Q

theorem begins_X (c : Dev nD) : iprop(due c 0 ∗ begins m c) ⊢ beforeX m c := by
  refine Entails.of_eq ?_
  unfold begins beforeX restX turn ldStart
  simp only [bigSep_sep']
  rw [show (bigSep Finset.univ fun t : Fin 4 => tok (F := F) c (scq (slotD t)) (roundD t) 0)
    = iprop(tok c (scq 0) 4 0 ∗ tok c (scq 1) 4 0 ∗ tok c (scq 0) 5 0 ∗ tok c (scq 1) 5 0) from bigSep_fin4 _]
  simp only [bigSep_fin4]
  ac_rfl
theorem X_Dy (c : Dev nD) : afterX m c ⊢ beforeDy m c := by
  have h : iprop((due c 3 ∗ iprop(pos c (.reg barS) 1 ∗ (any (zp c) (zrS 0) ∗ any (zp c) (zrS 1) ∗ any (zp c) (zrS 2) ∗ any (zp c) (zrS 3)) ∗ ((any (xp c) (gxP 0) ∗ any (yp c) (gyP 0)) ∗ (any (xp c) (gxP 1) ∗ any (yp c) (gyP 1)) ∗ (any (xp c) (gxP 2) ∗ any (yp c) (gyP 2)) ∗ (any (xp c) (gxP 3) ∗ any (yp c) (gyP 3))) ∗ (any (yp c) (hyS 0) ∗ any (xp c) (hxS 0)) ∗ (any (yp c) (hyS 1) ∗ any (xp c) (hxS 1)) ∗ (any (yp c) (hyS 2) ∗ any (xp c) (hxS 2)) ∗ (any (yp c) (hyS 3) ∗ any (xp c) (hxS 3))) ∗ (xArg m c 0 ∗ xArg m c 1) ∗ xhs m c ∗ lding c 0 2 (dyS c 0) (dyblk m c 0) (dyArg m c 0) ∗ any c (ldS 1) ∗ pos c (ldq 1) 2) ∗ restX m c) = beforeDy m c := by
    unfold beforeDy restX restDy
    ac_rfl
  refine BIBase.Entails.trans (PROP := sProp 𝕄) ?_ (Entails.of_eq h)
  unfold afterX
  iintro ⟨⟨Ho, Hb, H⟩, Hr⟩
  ihave Hb := (lent m c) $$ Hb
  isplitr [Hr]
  · isplitl [Ho]; · iexact Ho
    isplitl [Hb]; · iexact Hb
    iexact H
  iexact Hr
theorem Dy_Z (c : Dev nD) : afterDy m c ⊢ beforeZ m c := by
  refine Entails.of_eq ?_
  unfold afterDy beforeZ restDy restZ
  ac_rfl
theorem Z_G (c : Dev nD) : afterZ m c ⊢ beforeG m c := by
  refine Entails.of_eq ?_
  unfold afterZ beforeG restZ restG preG
  ac_rfl
theorem G_D (c : Dev nD) : afterG m c ⊢ beforeD m c := by
  refine Entails.of_eq ?_
  unfold afterG beforeD restG restD preD postG
  ac_rfl
theorem D_E (c : Dev nD) : afterD m c ⊢ beforeE m c := by
  refine Entails.of_eq ?_
  unfold afterD beforeE restD restE
  ac_rfl
theorem E_ends (c : Dev nD) : afterE m c ⊢ iprop(due c 26 ∗ ends m c) := by
  have h : iprop((due c 26 ∗ (doneSt m c 0 ∗ doneSt m c 1 ∗ doneSt m c 2 ∗ doneSt m c 3) ∗ (inD m c 2 ∗ inD m c 3) ∗ ((any c (cbS 0) ∗ any c (cbS 1)) ∗ pos c (scq 0) 6 ∗ pos c (scq 1) 6) ∗ pos c (.reg finS) 1) ∗ restE m c) = iprop(due c 26 ∗ ends m c) := by
    unfold restE ends turned ldEnd
    simp only [bigSep_sep']
    simp only [bigSep_fin4]
    ac_rfl
  refine BIBase.Entails.trans (PROP := sProp 𝕄) ?_ (Entails.of_eq h)
  unfold afterE gotBar
  iintro ⟨⟨Ho, Hst, HD, Hcb, Hp, -⟩, Hr⟩
  isplitr [Hr]
  · isplitl [Ho]; · iexact Ho
    isplitl [Hst]; · iexact Hst
    isplitl [HD]; · iexact HD
    isplitl [Hcb] <;> iassumption
  iexact Hr

theorem body_spec (c : Dev nD) (Q : PUnit → sProp 𝕄) :
    iprop(recs m Kn ∗ due c 0 ∗ begins m c) ⊢ iprop(((due c 26 ∗ ends m c) -∗ Q ⟨⟩) -∗ Wp c (body (F := F)) Q) := by
  have h : Runs m Kn c (phaseX c >>= fun _ => phaseDy c >>= fun _ => phaseZ c >>= fun _ => phaseG c >>= fun _ => phaseD c >>= fun _ => phaseE c)
      (beforeX m c) (afterE m c) :=
    runs_seq m Kn c _ _ _ _ _ _ (runX m Kn c) (X_Dy m c) (runs_seq m Kn c _ _ _ _ _ _ (runDy m Kn c) (Dy_Z m c)
      (runs_seq m Kn c _ _ _ _ _ _ (runZ m Kn c) (Z_G m c) (runs_seq m Kn c _ _ _ _ _ _ (runG m Kn c) (G_D m c)
      (runs_seq m Kn c _ _ _ _ _ _ (runD m Kn c) (D_E m c) (runE m Kn c)))))
  have e : Wp c (body (F := F)) Q = Wp c (phaseX c >>= fun _ => phaseDy c >>= fun _ => phaseZ c >>= fun _ => phaseG c >>= fun _ => phaseD c >>= fun _ => phaseE c) Q := by
    simp only [body, Prog.lift, Prog.bind_op, Prog.bind_ret, wp_deviceId]
  rw [e]
  iintro ⟨#HR, HA⟩ Hk
  ihave HA := (begins_X m c) $$ HA
  iapply (h Q) $$ [HA]
  · isplitr; · iexact HR
    iexact HA
  iintro HB
  iapply Hk
  iapply (E_ends m c); iexact HB

end Cert.KernelIdeal.Stages
end
-- ==== Proof.KernelIdeal.BodyEq.lean ====
/- The printed body of the kernel is the sequence of stages of Prog.lean. -/
module

public import proofs.«01_k».proof.Proof.KernelIdeal.Prog

@[expose] public section

noncomputable section

namespace Cert.KernelIdeal.Stages

open Cert.KernelIdeal Cert.KernelIdeal.Gen
open Idealize.ShloMosaic Idealize.ShloMosaic.TcCoe
open Idealize.SL Idealize.SL.Sem

variable {F : FTy → Type} [FloatOps F]

set_option maxRecDepth 65536 in
set_option maxHeartbeats 4000000 in
/-- The printed body is the sequence of the stages. -/
theorem body_eq : bodyAt0 (F := F) t0_0 = body := rfl

end Cert.KernelIdeal.Stages
end
-- ==== Proof.KernelIdeal.Ghost.lean ====
/-
  The launch's ghost state: the semaphores' schedules allocated, the duties dealt to those who pay them, and what each device may wait for.
-/
module

public import Idealize.ShloMosaic.Lib.Pipeline.Launch
public import proofs.«01_k».proof.Proof.KernelIdeal.Phases2

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

theorem cell_injective : Function.Injective (fun p : Dev nD × SemLoc sig => cell p.1 p.2) := by
  rintro ⟨c, s⟩ ⟨c', s'⟩ h
  have h1 : c = c' := congrArg (fun g : GSem nD τ sig => g.1.1) h
  have h2 : s = s' := congrArg Prod.snd h
  rw [h1, h2]
/-- The semaphores of the kernel's own: those a launch begins and ends with. -/
abbrev osem : {sm : SemLoc sig // sm.isScoped .tc = true} → SemLoc sig := Subtype.val

def allCells : Finset (GSem nD τ sig) := Finset.univ.map ⟨fun p : Dev nD × SemLoc sig => cell p.1 p.2, cell_injective⟩

/-- A duty of a semaphore: who, which semaphore, which round, which duty. -/
abbrev Duty : Type := Dev nD × SemLoc sig × Fin 6 × Fin 3
abbrev dutyAt (x : Duty) : GSem nD τ sig × ℕ × Fin 3 := (cell x.1 x.2.1, x.2.2.1.val, x.2.2.2)
theorem dutyAt_injective : Function.Injective dutyAt := by
  rintro ⟨c, s, r, d⟩ ⟨c', s', r', d'⟩ h
  have h1 : c = c' := congrArg (fun g : GSem nD τ sig × ℕ × Fin 3 => g.1.1.1) h
  have h2 : s = s' := congrArg (fun g : GSem nD τ sig × ℕ × Fin 3 => g.1.2) h
  have h3 : r = r' := Fin.ext (congrArg (fun g : GSem nD τ sig × ℕ × Fin 3 => g.2.1) h)
  have h4 : d = d' := congrArg (fun g : GSem nD τ sig × ℕ × Fin 3 => g.2.2) h
  rw [h1, h2, h3, h4]
def allToks : Finset (GSem nD τ sig × ℕ × Fin 3) := Finset.univ.map ⟨dutyAt, dutyAt_injective⟩

/-- The launch's ghost state. -/
def u₀ : UU :=
  (initOf (Pipeline.cells cfgs cellOf_inj) (Pipeline.launchToks cfgs cellOf_inj), initOf allCells allToks)

/-- The duties of one semaphore. -/
def semToks (c : Dev nD) (sm : SemLoc sig) : sProp 𝕄 :=
  bigSep Finset.univ fun r : Fin 6 => bigSep Finset.univ fun d : Fin 3 => tok (F := F) c sm r.val d

/-- What the launch deals device `c`: its semaphores' round states, their positions, their duties. -/
def G (c : Dev nD) : sProp 𝕄 :=
  iprop((bigSep Finset.univ fun sm : SemLoc sig => roundState ER (Rd m) (cell c sm) 0)
    ∗ (bigSep Finset.univ fun sm : SemLoc sig => pos c sm 0) ∗ bigSep Finset.univ fun sm : SemLoc sig => semToks c sm)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (cell c sm) := by
    unfold allCells; rw [bigSep_map, bigSep_univ_prod]; rfl
  have hT : bigSep allToks (fun x => (dutyTok ER x.1 x.2.1 x.2.2 : sProp 𝕄)) = bigSep Finset.univ fun c : Dev nD => bigSep Finset.univ fun sm : SemLoc sig => semToks c sm := by
    unfold allToks; rw [bigSep_map, bigSep_univ_prod]
    refine bigSep_congr fun c _ => ?_
    rw [bigSep_univ_prod]
    refine bigSep_congr fun sm _ => ?_
    rw [bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos; simp only [bigSep_sep']
  isplitl [Hst]; · iexact Hst
  isplitl [Hat Hr]
  · isplitl [Hat] <;> iassumption
  iexact Htok

omit [FloatOps F] in
/-- The own semaphores and the one that the launch is not asked for are all of them. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun sm : SemLoc sig => semVal (cell c sm) 0 : sProp 𝕄) := by
  classical
  rw [show (Pipeline.ownSems0 (Ix := Unit) (Name := ℕ) (U := UU) (Lvl := ℕ) (Val := Elt F) (τ := τ) osem c : sProp 𝕄)
      = bigSep (Finset.univ.filter fun sm : SemLoc sig => sm.isScoped .tc = true) fun sm => semVal (cell c sm) 0 from
    bigSep_subtype (fun sm : SemLoc sig => sm.isScoped .tc = true) (fun sm => (semVal (cell c sm) 0 : sProp 𝕄))]
  unfold unscopedSems0
  exact (bigSep_filter_split _ _).symm

/-- A device's semaphores by use: the two rendezvous, the loads, the copies out of the result buffer, and those of a slot. -/
abbrev Use : Type := Fin 2 ⊕ Fin 2 ⊕ Fin 2 ⊕ (Fin 4 × Fin 11)
def slotSem (t : Fin 4) : Fin 11 → SemLoc sig
  | 0 => .dma (dsem cc0_scratch13 t) | 1 => .dma (dsem cc0_scratch14 t) | 2 => .dma (dsem cc0_scratch15 t)
  | 3 => .dma (dsem cc0_scratch16 t) | 4 => .dma (dsem cc0_scratch17 t) | 5 => .dma (dsem cc0_scratch18 t)
  | 6 => .dma (dsem cc0_scratch19 t) | 7 => .dma (dsem cc0_scratch20 t) | 8 => .dma (dsem cc0_scratch21 t)
  | 9 => .dma (dsem cc0_scratch22 t) | 10 => .dma (dsem cc0_scratch23 t)
def useSem : Use → SemLoc sig
  | .inl i => .reg (if i = 0 then barS else finS)
  | .inr (.inl s) => ldq s
  | .inr (.inr (.inl s)) => scq s
  | .inr (.inr (.inr (t, k))) => slotSem t k
set_option maxRecDepth 8000 in
theorem useSem_bijective : Function.Bijective useSem := by
  rw [Fintype.bijective_iff_injective_and_card]
  exact ⟨by decide, by decide⟩

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- A family over a device's semaphores, by use. -/
theorem by_use (Φ : SemLoc sig → sProp 𝕄) : bigSep Finset.univ Φ
    = iprop((Φ (.reg barS) ∗ Φ (.reg finS)) ∗ (Φ (ldq 0) ∗ Φ (ldq 1)) ∗ (Φ (scq 0) ∗ Φ (scq 1))
      ∗ bigSep Finset.univ fun t : Fin 4 => iprop(Φ (.dma (dsem cc0_scratch13 t)) ∗ Φ (.dma (dsem cc0_scratch14 t)) ∗ Φ (.dma (dsem cc0_scratch15 t))
        ∗ Φ (.dma (dsem cc0_scratch16 t)) ∗ Φ (.dma (dsem cc0_scratch17 t)) ∗ Φ (.dma (dsem cc0_scratch18 t)) ∗ Φ (.dma (dsem cc0_scratch19 t))
        ∗ Φ (.dma (dsem cc0_scratch20 t)) ∗ Φ (.dma (dsem cc0_scratch21 t)) ∗ Φ (.dma (dsem cc0_scratch22 t)) ∗ Φ (.dma (dsem cc0_scratch23 t)))) := by
  rw [bigSep_univ_equiv (Equiv.ofBijective useSem useSem_bijective), bigSep_univ_sum, bigSep_univ_sum, bigSep_univ_sum, bigSep_univ_prod,
    bigSep_fin_two, bigSep_fin_two, bigSep_fin_two]
  simp only [bigSep_fin11]
  rfl

/-! ## The duties, to those who pay them -/

/-- The duties of device `d` that its x neighbour pays, its y neighbour, its z neighbour, -/
def xToks (d : Dev nD) : sProp 𝕄 :=
  iprop((tok d (.reg barS) 0 0 ∗ tok d (.reg finS) 0 0)
    ∗ bigSep Finset.univ fun t : Fin 4 => iprop(tok (F := F) d (.dma (dsem cc0_scratch16 t)) 0 0 ∗ tok (F := F) d (.dma (dsem cc0_scratch20 t)) 0 0))
def yToks (d : Dev nD) : sProp 𝕄 :=
  iprop((tok d (.reg barS) 0 1 ∗ tok d (.reg finS) 0 1)
    ∗ bigSep Finset.univ fun t : Fin 4 => iprop(tok (F := F) d (.dma (dsem cc0_scratch18 t)) 0 0 ∗ tok (F := F) d (.dma (dsem cc0_scratch22 t)) 0 0))
def zToks (d : Dev nD) : sProp 𝕄 :=
  iprop((tok d (.reg barS) 0 2 ∗ tok d (.reg finS) 0 2) ∗ bigSep Finset.univ fun t : Fin 4 => tok (F := F) d (.dma (dsem cc0_scratch14 t)) 0 0)
/-- and those it pays itself. -/
def ldToks (c : Dev nD) (s : Fin 2) : sProp 𝕄 := iprop(tok c (ldq s) 0 0 ∗ tok c (ldq s) 1 0 ∗ tok c (ldq s) 2 0 ∗ tok c (ldq s) 3 0)
def scToks (c : Dev nD) (s : Fin 2) : sProp 𝕄 :=
  iprop(tok c (scq s) 0 0 ∗ tok c (scq s) 1 0 ∗ tok c (scq s) 2 0 ∗ tok c (scq s) 3 0 ∗ tok c (scq s) 4 0 ∗ tok c (scq s) 5 0)
def turnToks (c : Dev nD) (t : Fin 4) : sProp 𝕄 :=
  iprop(tok c (.dma (dsem cc0_scratch13 t)) 0 0 ∗ tok c (.dma (dsem cc0_scratch15 t)) 0 0 ∗ tok c (.dma (dsem cc0_scratch17 t)) 0 0
    ∗ tok c (.dma (dsem cc0_scratch19 t)) 0 0 ∗ tok c (.dma (dsem cc0_scratch21 t)) 0 0 ∗ tok c (.dma (dsem cc0_scratch23 t)) 0 0)
def ownToks (c : Dev nD) : sProp 𝕄 :=
  iprop((ldToks c 0 ∗ ldToks c 1) ∗ (scToks c 0 ∗ scToks c 1) ∗ bigSep Finset.univ fun t : Fin 4 => turnToks (F := F) c t)

theorem semToks_eq (c : Dev nD) (sm : SemLoc sig) : semToks (F := F) c sm
    = iprop((tok c sm 0 0 ∗ tok c sm 0 1 ∗ tok c sm 0 2) ∗ (tok c sm 1 0 ∗ tok c sm 1 1 ∗ tok c sm 1 2) ∗ (tok c sm 2 0 ∗ tok c sm 2 1 ∗ tok c sm 2 2)
      ∗ (tok c sm 3 0 ∗ tok c sm 3 1 ∗ tok c sm 3 2) ∗ (tok c sm 4 0 ∗ tok c sm 4 1 ∗ tok c sm 4 2) ∗ (tok c sm 5 0 ∗ tok c sm 5 1 ∗ tok c sm 5 2)) := by
  unfold semToks
  simp only [bigSep_fin3]
  exact bigSep_univ_eq_bigSepL [0, 1, 2, 3, 4, 5] (by decide) (by decide) _

theorem toks_first (c : Dev nD) (sm : SemLoc sig) : semToks (F := F) c sm ⊢ tok c sm 0 0 := by
  rw [semToks_eq]; iintro ⟨⟨H, -⟩, -⟩; iexact H
theorem toks_firsts (c : Dev nD) (f : Fin 4 → SemLoc sig) : (bigSep Finset.univ fun t : Fin 4 => semToks (F := F) c (f t))
    ⊢ bigSep Finset.univ fun t : Fin 4 => tok (F := F) c (f t) 0 0 := bigSep_mono fun t _ => toks_first c (f t)
theorem toks_bar (c : Dev nD) (sm : SemLoc sig) : semToks (F := F) c sm ⊢ iprop(tok c sm 0 0 ∗ tok c sm 0 1 ∗ tok c sm 0 2) := by
  rw [semToks_eq]; iintro ⟨H, -⟩; iexact H
theorem toks_ld (c : Dev nD) (s : Fin 2) : semToks (F := F) c (ldq s) ⊢ ldToks c s := by
  unfold ldToks
  rw [semToks_eq]; iintro ⟨⟨H0, -⟩, ⟨H1, -⟩, ⟨H2, -⟩, ⟨H3, -⟩, -⟩
  isplitl [H0]; · iexact H0
  isplitl [H1]; · iexact H1
  isplitl [H2] <;> iassumption
theorem toks_sc (c : Dev nD) (s : Fin 2) : semToks (F := F) c (scq s) ⊢ scToks c s := by
  unfold scToks
  rw [semToks_eq]; iintro ⟨⟨H0, -⟩, ⟨H1, -⟩, ⟨H2, -⟩, ⟨H3, -⟩, ⟨H4, -⟩, ⟨H5, -⟩⟩
  isplitl [H0]; · iexact H0
  isplitl [H1]; · iexact H1
  isplitl [H2]; · iexact H2
  isplitl [H3]; · iexact H3
  isplitl [H4] <;> iassumption

/-- A device's duties by who pays them. -/
theorem toks_deal (c : Dev nD) : (bigSep Finset.univ fun sm : SemLoc sig => semToks (F := F) c sm)
    ⊢ iprop(ownToks c ∗ xToks c ∗ yToks c ∗ zToks c) := by
  unfold ownToks xToks yToks zToks
  rw [by_use]
  simp only [bigSep_sep']
  iintro ⟨⟨Hb, Hf⟩, ⟨Hl₀, Hl₁⟩, ⟨Hc₀, Hc₁⟩, H13, H14, H15, H16, H17, H18, H19, H20, H21, H22, H23⟩
  ihave Hb := (toks_bar c _) $$ Hb
  icases Hb with ⟨Hb₀, Hb₁, Hb₂⟩
  ihave Hf := (toks_bar c _) $$ Hf
  icases Hf with ⟨Hf₀, Hf₁, Hf₂⟩
  ihave H14 := (toks_firsts c fun t => .dma (dsem cc0_scratch14 t)) $$ H14
  ihave H16 := (toks_firsts c fun t => .dma (dsem cc0_scratch16 t)) $$ H16
  ihave H18 := (toks_firsts c fun t => .dma (dsem cc0_scratch18 t)) $$ H18
  ihave H20 := (toks_firsts c fun t => .dma (dsem cc0_scratch20 t)) $$ H20
  ihave H22 := (toks_firsts c fun t => .dma (dsem cc0_scratch22 t)) $$ H22
  isplitl [Hl₀ Hl₁ Hc₀ Hc₁ H13 H15 H17 H19 H21 H23]
  · isplitl [Hl₀ Hl₁]
    · isplitl [Hl₀]; · iapply (toks_ld c 0); iexact Hl₀
      iapply (toks_ld c 1); iexact Hl₁
    isplitl [Hc₀ Hc₁]
    · isplitl [Hc₀]; · iapply (toks_sc c 0); iexact Hc₀
      iapply (toks_sc c 1); iexact Hc₁
    unfold turnToks
    simp only [bigSep_sep']
    isplitl [H13]; · iapply (toks_firsts c fun t => .dma (dsem cc0_scratch13 t)); iexact H13
    isplitl [H15]; · iapply (toks_firsts c fun t => .dma (dsem cc0_scratch15 t)); iexact H15
    isplitl [H17]; · iapply (toks_firsts c fun t => .dma (dsem cc0_scratch17 t)); iexact H17
    isplitl [H19]; · iapply (toks_firsts c fun t => .dma (dsem cc0_scratch19 t)); iexact H19
    isplitl [H21]; · iapply (toks_firsts c fun t => .dma (dsem cc0_scratch21 t)); iexact H21
    iapply (toks_firsts c fun t => .dma (dsem cc0_scratch23 t)); iexact H23
  isplitl [Hb₀ Hf₀ H16 H20]
  · isplitl [Hb₀ Hf₀]; · isplitl [Hb₀] <;> iassumption
    isplitl [H16] <;> iassumption
  isplitl [Hb₁ Hf₁ H18 H22]
  · isplitl [Hb₁ Hf₁]; · isplitl [Hb₁] <;> iassumption
    isplitl [H18] <;> iassumption
  isplitl [Hb₂ Hf₂]; · isplitl [Hb₂] <;> iassumption
  iexact H14

/-- The duties device `c` pays. -/
def payToks (c : Dev nD) : sProp 𝕄 := iprop(ownToks (F := F) c ∗ xToks (F := F) (xp c) ∗ yToks (F := F) (yp c) ∗ zToks (F := F) (zp c))

def xEquiv : Dev nD ≃ Dev nD := ⟨xp, xp, xp_xp, xp_xp⟩
def yEquiv : Dev nD ≃ Dev nD := ⟨yp, yp, yp_yp, yp_yp⟩
def zEquiv : Dev nD ≃ Dev nD := ⟨zp, zp, zp_zp, zp_zp⟩

theorem toks_around : (bigSep Finset.univ fun c : Dev nD => bigSep Finset.univ fun sm : SemLoc sig => semToks (F := F) c sm)
    ⊢ bigSep Finset.univ fun c : Dev nD => payToks (F := F) c := by
  refine BIBase.Entails.trans (PROP := sProp 𝕄) (bigSep_mono fun c _ => toks_deal c) ?_
  unfold payToks
  rw [bigSep_sep', bigSep_sep', bigSep_sep', bigSep_sep', bigSep_sep', bigSep_sep',
    bigSep_univ_equiv xEquiv (fun d : Dev nD => xToks (F := F) d), bigSep_univ_equiv yEquiv (fun d : Dev nD => yToks (F := F) d),
    bigSep_univ_equiv zEquiv (fun d : Dev nD => zToks (F := F) d)]
  exact Entails.of_eq rfl

/-! ## The launch's global step -/

/-- What every device knows after it, -/
def known (Kn : Dev nD × SemLoc sig → ℕ) : sProp 𝕄 :=
  iprop((bigSep Finset.univ fun p : Dev nD × SemLoc sig => cellInv ER (Rd m) (Kn p) (cell p.1 p.2))
    ∗ bigSep Finset.univ fun p : Dev nD × SemLoc sig => reached ER (cell p.1 p.2) 0)
instance known_persistent (Kn : Dev nD × SemLoc sig → ℕ) : BI.Persistent (known m Kn) := by unfold known; infer_instance
/-- and what device `c` has. -/
def holds (c : Dev nD) : sProp 𝕄 := iprop((bigSep Finset.univ fun sm : SemLoc sig => pos (F := F) c sm 0) ∗ payToks (F := F) c)
def G' (c : Dev nD) : sProp 𝕄 := iprop(∃ Kn, known m Kn ∗ holds c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (cell c sm)))
          ∗ (bigSep Finset.univ fun sm : SemLoc sig => pos c sm 0) ∗ bigSep Finset.univ fun sm : SemLoc sig => semToks c sm) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun sm : SemLoc sig => semVal (cell c sm) 0) ∗ bigSep Finset.univ fun sm : SemLoc sig => roundState ER (Rd m) (cell c sm) 0)
      ⊢ (|={Set.univ}=> bigSep Finset.univ fun sm : SemLoc sig => iprop(∃ κ : ℕ, cellInv ER (Rd m) κ (cell c sm)) : sProp 𝕄) from by
        rw [← bigSep_sep']
        exact (bigSep_mono fun sm _ => (Rounds.body_intro ER (Rd m) (cell c sm)).trans inv_alloc).trans (bigSep_fupd _ _)) $$ [Hv Hst] with Hinv
  · isplitl [Hv] <;> iassumption
  imodintro
  isplitl [Hinv]; · iexact Hinv
  isplitl [Hat]; · iexact Hat
  iexact Htok

theorem pos_reached (c : Dev nD) (sm : SemLoc sig) : pos (F := F) c sm 0 ⊢ iprop(reached ER (cell c sm) 0 ∗ pos c sm 0) := by
  unfold pos
  iintro ⟨Ha, #Hr⟩
  isplitr; · iexact Hr
  isplitl [Ha]; · iexact Ha
  iexact Hr

theorem regroup :
    (bigSep Finset.univ fun c : Dev nD => iprop((bigSep Finset.univ fun sm : SemLoc sig => iprop(∃ κ : ℕ, cellInv ER (Rd m) κ (cell c sm)))
          ∗ (bigSep Finset.univ fun sm : SemLoc sig => pos c sm 0) ∗ bigSep Finset.univ fun sm : SemLoc sig => semToks c sm) : sProp 𝕄)
      ⊢ bigSep Finset.univ (G' m) := by
  have hp : (bigSep Finset.univ fun c : Dev nD => bigSep Finset.univ fun sm : SemLoc sig => pos (F := F) c sm 0)
      ⊢ iprop((bigSep Finset.univ fun p : Dev nD × SemLoc sig => reached ER (cell p.1 p.2) 0)
        ∗ bigSep Finset.univ fun c : Dev nD => bigSep Finset.univ fun sm : SemLoc sig => pos (F := F) c sm 0) := by
    rw [bigSep_univ_prod (fun p : Dev nD × SemLoc sig => (reached ER (cell p.1 p.2) 0 : sProp 𝕄)), ← bigSep_sep']
    refine bigSep_mono fun c _ => ?_
    rw [← bigSep_sep']
    exact bigSep_mono fun sm _ => pos_reached c sm
  rw [bigSep_sep', bigSep_sep', ← bigSep_univ_prod (fun p : Dev nD × SemLoc sig => iprop(∃ κ : ℕ, cellInv ER (Rd m) κ (cell p.1 p.2)))]
  iintro ⟨HI, Hat, Htok⟩
  ihave HK := (BI.bigSep_exists_pi Finset.univ (fun (p : Dev nD × SemLoc sig) (κ : ℕ) => (cellInv ER (Rd m) κ (cell p.1 p.2) : sProp 𝕄))) $$ HI
  icases HK with ⟨%Kn, #HI⟩
  ihave Hat := hp $$ Hat
  icases Hat with ⟨#HR, Hat⟩
  ihave Htk := (toks_around (F := F)) $$ Htok
  have hone : ∀ c : Dev nD, iprop(known m Kn ∗ holds c) ⊢ G' m c := fun c => by
    unfold G'; iintro H; iexists Kn; iexact H
  have hall : iprop(known m Kn ∗ bigSep Finset.univ fun c : Dev nD => holds (F := F) c) ⊢ bigSep Finset.univ (G' m) := by
    have h₁ : iprop((bigSep Finset.univ fun _ : Dev nD => known m Kn) ∗ bigSep Finset.univ fun c : Dev nD => holds (F := F) c) ⊢ bigSep Finset.univ (G' m) := by
      rw [← bigSep_sep']; exact bigSep_mono fun c _ => hone c
    refine BIBase.Entails.trans (PROP := sProp 𝕄) ?_ h₁
    iintro ⟨#HK, H⟩
    isplitr
    · iapply (BI.bigSep_of_persistent Finset.univ (known m Kn)); iexact HK
    iexact H
  iapply hall
  isplitr
  · unfold known
    isplitr; · iexact HI
    iexact HR
  unfold holds
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What may be waited for -/

def O₀ (c : Dev nD) : CellTallies nD τ sig Unit := owed (dues c)

theorem owed_apply (c : Dev nD) (sm : SemLoc sig) : (l : List (Dev nD × SemLoc sig)) → owed l (cell c sm) () = l.count (c, sm) * amt (kindOf sm)
  | [] => by rw [List.count_nil, Nat.zero_mul]; rfl
  | p :: l => by
    unfold owed
    rw [Pi.add_apply, Finsupp.add_apply, tallyAt_apply, owed_apply c sm l, List.count_cons, Nat.add_mul]
    congr 1
    by_cases h : p = (c, sm)
    · subst h; rw [if_pos ⟨rfl, rfl⟩, if_pos (beq_self_eq_true _), Nat.one_mul]
    · rw [if_neg (fun ⟨h1, _⟩ => h (cell_injective (a₁ := p) (a₂ := (c, sm)) h1.symm)), if_neg (by rw [beq_iff_eq]; exact h), Nat.zero_mul]

/-- How often the devices together owe semaphore `sm` of device `c`. -/
def times (c : Dev nD) (sm : SemLoc sig) : ℕ := ∑ d : Dev nD, (dues d).count (c, sm)

theorem launch_cred (c : Dev nD) (sm : SemLoc sig) :
    tallyOn (cell c sm) (launchCredit (Pipeline.owing O₀) 0 (cell c sm)) = (tallyAt (cell c sm) () (times c sm * amt (kindOf sm)) : CellTallies nD τ sig Unit) := by
  unfold tallyAt; refine congrArg _ (Finsupp.ext fun u => ?_); cases u
  rw [Pipeline.launchCredit_owing, Finsupp.single_eq_same]
  refine (Finset.sum_congr rfl fun d _ => owed_apply c sm (dues d)).trans ?_
  rw [← Finset.sum_mul]; rfl

theorem times_bar : ∀ c : Dev nD, times c (.reg barS) = 3 ∧ times c (.reg finS) = 3 := by decide
theorem times_slot : ∀ (c : Dev nD) (t : Fin 4), times c (.dma (dsem cc0_scratch14 t)) = 1 ∧ times c (.dma (dsem cc0_scratch16 t)) = 1
    ∧ times c (.dma (dsem cc0_scratch18 t)) = 1 ∧ times c (.dma (dsem cc0_scratch20 t)) = 1 ∧ times c (.dma (dsem cc0_scratch22 t)) = 1 := by decide

def slotCr (c : Dev nD) (t : Fin 4) : sProp 𝕄 :=
  iprop(cr c (.dma (dsem cc0_scratch14 t)) ∗ cr c (.dma (dsem cc0_scratch16 t)) ∗ cr c (.dma (dsem cc0_scratch18 t))
    ∗ cr c (.dma (dsem cc0_scratch20 t)) ∗ cr c (.dma (dsem cc0_scratch22 t)))

theorem cred_one (c : Dev nD) (sm : SemLoc sig) (h : times c sm = 1) :
    (cred (tallyOn (cell c sm) (launchCredit (Pipeline.owing O₀) 0 (cell c sm))) : sProp 𝕄) ⊢ cr c sm := by
  unfold cr; rw [launch_cred, h, Nat.one_mul]
theorem cred_three (c : Dev nD) (sm : SemLoc sig) (h : times c sm = 3) (ha : amt (kindOf sm) = 1) :
    (cred (tallyOn (cell c sm) (launchCredit (Pipeline.owing O₀) 0 (cell c sm))) : sProp 𝕄) ⊢ cred (tallyAt (cell c sm) () 3) := by
  rw [launch_cred, h, ha]

/-- What the launch lets device `c` wait for on semaphore `sm`. -/
abbrev lcr (c : Dev nD) (sm : SemLoc sig) : sProp 𝕄 := cred (tallyOn (cell c sm) (launchCredit (Pipeline.owing O₀) 0 (cell c sm)))
theorem slot_creds (c : Dev nD) (t : Fin 4) :
    iprop(lcr (F := F) c (.dma (dsem cc0_scratch13 t)) ∗ lcr (F := F) c (.dma (dsem cc0_scratch14 t)) ∗ lcr (F := F) c (.dma (dsem cc0_scratch15 t))
      ∗ lcr (F := F) c (.dma (dsem cc0_scratch16 t)) ∗ lcr (F := F) c (.dma (dsem cc0_scratch17 t)) ∗ lcr (F := F) c (.dma (dsem cc0_scratch18 t))
      ∗ lcr (F := F) c (.dma (dsem cc0_scratch19 t)) ∗ lcr (F := F) c (.dma (dsem cc0_scratch20 t)) ∗ lcr (F := F) c (.dma (dsem cc0_scratch21 t))
      ∗ lcr (F := F) c (.dma (dsem cc0_scratch22 t)) ∗ lcr (F := F) c (.dma (dsem cc0_scratch23 t))) ⊢ slotCr (F := F) c t := by
  unfold slotCr
  iintro ⟨-, H14, -, H16, -, H18, -, H20, -, H22, -⟩
  isplitl [H14]; · iapply (cred_one c _ (times_slot c t).1); iexact H14
  isplitl [H16]; · iapply (cred_one c _ (times_slot c t).2.1); iexact H16
  isplitl [H18]; · iapply (cred_one c _ (times_slot c t).2.2.1); iexact H18
  isplitl [H20]; · iapply (cred_one c _ (times_slot c t).2.2.2.1); iexact H20
  iapply (cred_one c _ (times_slot c t).2.2.2.2); iexact H22

theorem creds (c : Dev nD) : (Pipeline.launchCred O₀ c : sProp 𝕄)
    ⊢ iprop((cred (tallyAt (cell c (.reg barS)) () 3) ∗ cred (tallyAt (cell c (.reg finS)) () 3)) ∗ bigSep Finset.univ fun t : Fin 4 => slotCr (F := F) c t) := by
  unfold Pipeline.launchCred
  refine BIBase.Entails.trans (PROP := sProp 𝕄) (Entails.of_eq (by_use (fun sm => (cred (tallyOn (cell c sm) (launchCredit (Pipeline.owing O₀) 0 (cell c sm))) : sProp 𝕄)))) ?_
  iintro ⟨⟨Hb, Hf⟩, -, -, Ht⟩
  isplitl [Hb Hf]
  · isplitl [Hb]; · iapply (cred_three c _ (times_bar c).1 rfl); iexact Hb
    iapply (cred_three c _ (times_bar c).2 rfl); iexact Hf
  iapply (show _ ⊢ (bigSep Finset.univ fun t : Fin 4 => slotCr (F := F) c t) from bigSep_mono (s := Finset.univ) fun t _ => slot_creds c t); iexact Ht

end Cert.KernelIdeal.Stages
end
-- ==== Proof.KernelIdeal.Mem.lean ====
/-
  The memory a device starts with, cut into the pieces its body uses, and put together again.
-/
module

public import proofs.«01_k».proof.Proof.KernelIdeal.Parts
public import proofs.«01_k».proof.Proof.KernelIdeal.Ghost

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (Kn : Dev nD × SemLoc sig → ℕ)

/-! ## The scratch buffers, slot by slot -/

section Slots
variable (c : Dev nD) {sp : Space} {e : EltTy}

theorem four_split {a b : ℕ} (M : Memref sig .tc sp ⟨3, ![4, a, b]⟩ e) :
    any (F := F) c M ⊢ bigSep Finset.univ fun t : Fin 4 => any c (M.slice (rows 4 a b t.val 1 (lt1 t)) (fun _ => rfl)) :=
  any_slots c M (fun t : Fin 4 => rows 4 a b t.val 1 (lt1 t)) (fun _ _ => rfl) (rows_disjoint (fun t => t.val) (fun t => (Nat.one_mul _).symm) lt1)
    (rows_cover (fun t => t.val) (fun t => (Nat.one_mul _).symm) lt1 Nat.one_pos rfl)
theorem four_join {a b : ℕ} (M : Memref sig .tc sp ⟨3, ![4, a, b]⟩ e) :
    (bigSep Finset.univ fun t : Fin 4 => any (F := F) c (M.slice (rows 4 a b t.val 1 (lt1 t)) (fun _ => rfl))) ⊢ any c M :=
  any_of_slots c M (fun t : Fin 4 => rows 4 a b t.val 1 (lt1 t)) (fun _ _ => rfl) (rows_disjoint (fun t => t.val) (fun t => (Nat.one_mul _).symm) lt1)
    (rows_cover (fun t => t.val) (fun t => (Nat.one_mul _).symm) lt1 Nat.one_pos rfl)

theorem bigSep_fin2 (Φ : Fin 2 → sProp 𝕄) : bigSep Finset.univ Φ = iprop(Φ 0 ∗ Φ 1) :=
  bigSep_univ_eq_bigSepL [0, 1] (by decide) (by decide) Φ

theorem two_split {a b : ℕ} (M : Memref sig .tc sp ⟨3, ![2, a, b]⟩ e) :
    any (F := F) c M ⊢ iprop(any c (M.slice (rows 2 a b (0 : Fin 2).val 1 (lt1 0)) (fun _ => rfl)) ∗ any c (M.slice (rows 2 a b (1 : Fin 2).val 1 (lt1 1)) (fun _ => rfl))) :=
  (any_slots c M (fun t : Fin 2 => rows 2 a b t.val 1 (lt1 t)) (fun _ _ => rfl) (rows_disjoint (fun t => t.val) (fun t => (Nat.one_mul _).symm) lt1)
    (rows_cover (fun t => t.val) (fun t => (Nat.one_mul _).symm) lt1 Nat.one_pos rfl)).trans (Entails.of_eq (bigSep_fin2 _))
theorem two_join {a b : ℕ} (M : Memref sig .tc sp ⟨3, ![2, a, b]⟩ e) :
    iprop(any (F := F) c (M.slice (rows 2 a b (0 : Fin 2).val 1 (lt1 0)) (fun _ => rfl)) ∗ any c (M.slice (rows 2 a b (1 : Fin 2).val 1 (lt1 1)) (fun _ => rfl))) ⊢ any c M :=
  (Entails.of_eq (bigSep_fin2 fun t : Fin 2 => any (F := F) c (M.slice (rows 2 a b t.val 1 (lt1 t)) (fun _ => rfl))).symm).trans
    (any_of_slots c M (fun t : Fin 2 => rows 2 a b t.val 1 (lt1 t)) (fun _ _ => rfl) (rows_disjoint (fun t => t.val) (fun t => (Nat.one_mul _).symm) lt1)
      (rows_cover (fun t => t.val) (fun t => (Nat.one_mul _).symm) lt1 Nat.one_pos rfl))

theorem eight_split (M : Memref sig .tc sp S8x1024x256 e) :
    any (F := F) c M ⊢ bigSep Finset.univ fun t : Fin 4 => any c (M.slice (pR t) (fun _ => rfl)) :=
  any_slots c M pR (fun _ _ => rfl) (rows_disjoint (fun t => 2 * t.val) (fun t => rfl) pair8)
    (rows_cover (fun t => 2 * t.val) (fun t => rfl) pair8 Nat.two_pos rfl)
theorem eight_join (M : Memref sig .tc sp S8x1024x256 e) :
    (bigSep Finset.univ fun t : Fin 4 => any (F := F) c (M.slice (pR t) (fun _ => rfl))) ⊢ any c M :=
  any_of_slots c M pR (fun _ _ => rfl) (rows_disjoint (fun t => 2 * t.val) (fun t => rfl) pair8)
    (rows_cover (fun t => 2 * t.val) (fun t => rfl) pair8 Nat.two_pos rfl)
end Slots

theorem xb_unit (c : Dev nD) : ∀ t a, (xbRect c t).stride a = 1 := fun t a => match t with | 0 => rfl | 1 => rfl | 2 => rfl | 3 => rfl
theorem xh_unit (c : Dev nD) : ∀ t a, (xhRect c t).stride a = 1 := fun t a => match t with | 0 => rfl | 1 => rfl
theorem out_unit (c : Dev nD) : ∀ p a, (outRect c p).stride a = 1 := fun p a =>
  match p with | (0, _) => rfl | (1, _) => rfl | (2, _) => rfl | (3, _) => rfl

theorem sep_pairs (A B C D : sProp 𝕄) : iprop(A ∗ B ∗ C ∗ D) = iprop((A ∗ B) ∗ C ∗ D) := by ac_rfl

theorem xb_split (c : Dev nD) : any (F := F) c xbM ⊢ xbPlaces c :=
  (any_slots c xbM (xbRect c) (xb_unit c) (xb_disjoint c) (xb_cover c)).trans (Entails.of_eq ((bigSep_fin4 _).trans (sep_pairs _ _ _ _)))
theorem xb_join (c : Dev nD) : xhs m c ⊢ any c xbM := by
  have h := any_of_slots (F := F) c xbM (xhRect c) (xh_unit c) (xh_disjoint c) (xh_cover c)
  rw [bigSep_fin2] at h
  refine BIBase.Entails.trans (PROP := sProp 𝕄) ?_ h
  unfold xhs
  exact Idealize.SL.BI.sep_mono (own_any c _ _) (own_any c _ _)

/-- The twelve scratch buffers, whole, -/
def scratch (c : Dev nD) : sProp 𝕄 :=
  iprop(any c ldM ∗ any c xbM ∗ any c dybM ∗ any c pkM ∗ any c zsM ∗ any c zrM ∗ any c sbM ∗ any c gxM ∗ any c gyM ∗ any c hxM ∗ any c hyM ∗ any c cbM)
/-- and by slots, the narrow copy of x held as `X`. -/
def slots (c : Dev nD) (X : sProp 𝕄) : sProp 𝕄 :=
  iprop((any c (ldS 0) ∗ any c (ldS 1)) ∗ X ∗ (any c (dybS 0) ∗ any c (dybS 1))
    ∗ (bigSep Finset.univ fun t : Fin 4 => any c (pkS t)) ∗ (bigSep Finset.univ fun t : Fin 4 => any c (zsS t))
    ∗ (bigSep Finset.univ fun t : Fin 4 => any c (zrS t)) ∗ (bigSep Finset.univ fun t : Fin 4 => any c (sbP t))
    ∗ (bigSep Finset.univ fun t : Fin 4 => any c (gxP t)) ∗ (bigSep Finset.univ fun t : Fin 4 => any c (gyP t))
    ∗ (bigSep Finset.univ fun t : Fin 4 => any c (hxS t)) ∗ (bigSep Finset.univ fun t : Fin 4 => any c (hyS t))
    ∗ (any c (cbS 0) ∗ any c (cbS 1)))

theorem scratch_split (c : Dev nD) : scratch (F := F) c ⊢ slots c (xbPlaces c) := by
  unfold scratch slots
  exact Idealize.SL.BI.sep_mono (two_split c ldM) (Idealize.SL.BI.sep_mono (xb_split c) (Idealize.SL.BI.sep_mono (two_split c dybM)
    (Idealize.SL.BI.sep_mono (four_split c pkM) (Idealize.SL.BI.sep_mono (four_split c zsM) (Idealize.SL.BI.sep_mono (four_split c zrM)
    (Idealize.SL.BI.sep_mono (eight_split c sbM) (Idealize.SL.BI.sep_mono (eight_split c gxM) (Idealize.SL.BI.sep_mono (eight_split c gyM)
    (Idealize.SL.BI.sep_mono (four_split c hxM) (Idealize.SL.BI.sep_mono (four_split c hyM) (two_split c cbM)))))))))))
theorem scratch_join (c : Dev nD) : slots (F := F) c (any c xbM) ⊢ scratch c := by
  unfold scratch slots
  exact Idealize.SL.BI.sep_mono (two_join c ldM) (Idealize.SL.BI.sep_mono (BI.Entails.refl _) (Idealize.SL.BI.sep_mono (two_join c dybM)
    (Idealize.SL.BI.sep_mono (four_join c pkM) (Idealize.SL.BI.sep_mono (four_join c zsM) (Idealize.SL.BI.sep_mono (four_join c zrM)
    (Idealize.SL.BI.sep_mono (eight_join c sbM) (Idealize.SL.BI.sep_mono (eight_join c gxM) (Idealize.SL.BI.sep_mono (eight_join c gyM)
    (Idealize.SL.BI.sep_mono (four_join c hxM) (Idealize.SL.BI.sep_mono (four_join c hyM) (two_join c cbM)))))))))))

/-! ## The result, block by block -/

/-- The sixteen blocks of the result. -/
def outW (c : Dev nD) : (p : Fin 4 × Fin 4) → (outRect c p).shape.Idx → Elt F .f32
  | (0, t) => drop1 (sumW m c t)
  | (1, t) => drop1 (outXW m c t)
  | (2, t) => drop1 (outYW m c t)
  | (3, t) => drop1 (outDW m c t)
/-- The whole of it. -/
def outBuf (c : Dev nD) : S1024x8192.Idx → Elt F .f32 := Rect.glue (outRect c) (out_cover c) (outW m c)
theorem outBuf_emb (c : Dev nD) (p : Fin 4 × Fin 4) (y : (outRect c p).shape.Idx) : outBuf m c ((outRect c p).emb y) = outW m c p y :=
  Rect.glue_emb (outRect c) (out_cover c) (out_disjoint c) (outW m c) p y

def outAny (c : Dev nD) : sProp 𝕄 :=
  iprop((bigSep Finset.univ (anO c)) ∗ (bigSep Finset.univ (anX c))
    ∗ (bigSep Finset.univ (anY c)) ∗ bigSep Finset.univ (anD c))
def inO (c : Dev nD) (t : Fin 4) : sProp 𝕄 := own c (outS (k0_off12 c (w512 t)) (k0_off12_inb c t)) fullShare (drop1 (sumW m c t))
def outIn (c : Dev nD) : sProp 𝕄 :=
  iprop((bigSep Finset.univ (inO m c)) ∗ (bigSep Finset.univ (inX m c))
    ∗ (bigSep Finset.univ (inY m c)) ∗ bigSep Finset.univ (inD m c))

theorem out_split (c : Dev nD) : any (F := F) c outM ⊢ outAny c :=
  (any_slots c outM (outRect c) (out_unit c) (out_disjoint c) (out_cover c)).trans
    (Entails.of_eq ((bigSep_univ_prod _).trans (bigSep_fin4 _)))
theorem out_join (c : Dev nD) : outIn m c ⊢ own c outM fullShare (outBuf m c) := by
  have h := owns_of_rects (Ix := Unit) (Name := ℕ) (U := UU) (Lvl := ℕ) (Val := Elt F) (c : Thread nD τ) outM fullShare (outRect c) (out_unit c) (out_disjoint c) (out_cover c) (outBuf m c)
  have e : ∀ p, (fun j => outBuf m c ((outRect c p).emb j)) = outW m c p := fun p => funext (outBuf_emb m c p)
  have h' : (bigSep Finset.univ fun p : Fin 4 × Fin 4 => own c (outM.slice (outRect c p) (out_unit c p)) fullShare (outW m c p)) ⊢ own c outM fullShare (outBuf m c) :=
    (Entails.of_eq (congrArg (bigSep Finset.univ) (funext fun p => congrArg (own c (outM.slice (outRect c p) (out_unit c p)) fullShare) (e p).symm))).trans h
  exact (Entails.of_eq ((bigSep_univ_prod fun p : Fin 4 × Fin 4 => own c (outM.slice (outRect c p) (out_unit c p)) fullShare (outW m c p)).trans (bigSep_fin4 _)).symm).trans h'

/-! ## What a device starts with -/

theorem emp_left (P : sProp 𝕄) : iprop(emp ∗ P) = P := equiv_iff.mp BI.emp_sep

theorem bar_gives (c : Dev nD) : preBar m c barS .bar
    = iprop((tok (xp c) (.reg barS) 0 0 ∗ tok (yp c) (.reg barS) 0 1 ∗ tok (zp c) (.reg barS) 0 2)
      ∗ (((bigSep Finset.univ fun t : Fin 4 => any c (gxP t)) ∗ bigSep Finset.univ fun t : Fin 4 => any c (hxS t))
        ∗ ((bigSep Finset.univ fun t : Fin 4 => any c (gyP t)) ∗ bigSep Finset.univ fun t : Fin 4 => any c (hyS t))
        ∗ bigSep Finset.univ fun t : Fin 4 => any c (zrS t))
      ∗ cred (tallyAt (cell c (.reg barS)) () 3) ∗ pos c (.reg barS) 0) := by
  have e₀ : pay m (xp c) .bar 0 0 = iprop((bigSep Finset.univ fun t : Fin 4 => any (F := F) c (gxP t)) ∗ bigSep Finset.univ fun t : Fin 4 => any (F := F) c (hxS t)) :=
    (if_pos rfl : barPay (F := F) (xp c) 0 = _).trans (by rw [xp_xp, bigSep_sep'])
  have e₁ : pay m (yp c) .bar 0 1 = iprop((bigSep Finset.univ fun t : Fin 4 => any (F := F) c (gyP t)) ∗ bigSep Finset.univ fun t : Fin 4 => any (F := F) c (hyS t)) :=
    ((if_neg (by decide) : barPay (F := F) (yp c) 1 = _).trans (if_pos rfl)).trans (by rw [yp_yp, bigSep_sep'])
  have e₂ : pay m (zp c) .bar 0 2 = bigSep Finset.univ fun t : Fin 4 => any (F := F) c (zrS t) :=
    ((if_neg (by decide) : barPay (F := F) (zp c) 2 = _).trans (if_neg (by decide))).trans (by rw [zp_zp])
  unfold preBar
  rw [e₀, e₁, e₂]
theorem fin_gives (c : Dev nD) : preBar m c finS .fin
    = iprop((tok (xp c) (.reg finS) 0 0 ∗ tok (yp c) (.reg finS) 0 1 ∗ tok (zp c) (.reg finS) 0 2)
      ∗ cred (tallyAt (cell c (.reg finS)) () 3) ∗ pos c (.reg finS) 0) := by
  have e : iprop(pay m (xp c) .fin 0 0 ∗ pay m (yp c) .fin 0 1 ∗ pay m (zp c) .fin 0 2) = iprop(emp) :=
    ((emp_left (F := F) _).trans (emp_left _) : iprop(emp ∗ emp ∗ emp) = _)
  unfold preBar
  rw [e, emp_left]

theorem copies_x (c : Dev nD) : (bigSep Finset.univ fun t : Fin 4 => tok (F := F) c (scq 0) t.val 0)
    = iprop(tok c (scq 0) 0 0 ∗ tok c (scq 0) 1 0 ∗ tok c (scq 0) 2 0 ∗ tok c (scq 0) 3 0) := bigSep_fin4 _
theorem copies_y (c : Dev nD) : (bigSep Finset.univ fun t : Fin 4 => tok (F := F) c (scq 1) t.val 0)
    = iprop(tok c (scq 1) 0 0 ∗ tok c (scq 1) 1 0 ∗ tok c (scq 1) 2 0 ∗ tok c (scq 1) 3 0) := bigSep_fin4 _
theorem copies_d (c : Dev nD) : (bigSep Finset.univ fun t : Fin 4 => tok (F := F) c (scq (slotD t)) (roundD t) 0)
    = iprop(tok c (scq 0) 4 0 ∗ tok c (scq 1) 4 0 ∗ tok c (scq 0) 5 0 ∗ tok c (scq 1) 5 0) := bigSep_fin4 _

def args (c : Dev nD) : sProp 𝕄 := iprop((xArg m c 0 ∗ xArg m c 1) ∗ (dyArg m c 0 ∗ dyArg m c 1))
def credits (c : Dev nD) : sProp 𝕄 :=
  iprop((cred (tallyAt (cell c (.reg barS)) () 3) ∗ cred (tallyAt (cell c (.reg finS)) () 3)) ∗ bigSep Finset.univ fun t : Fin 4 => slotCr (F := F) c t)

theorem begins_made (c : Dev nD) : iprop(holds c ∗ credits c ∗ args m c ∗ outAny c ∗ slots c (xbPlaces c)) ⊢ begins m c := by
  refine Entails.of_eq ?_
  unfold begins holds credits args outAny slots turn ldStart payToks ownToks xToks yToks zToks ldToks scToks turnToks slotCr preZ preS preR preW
  rw [by_use, bar_gives, fin_gives]
  simp only [bigSep_sep']
  rw [copies_x, copies_y, copies_d]
  ac_rfl

/-! ## What it ends with -/

def spent (c : Dev nD) (t : Fin 4) : sProp 𝕄 :=
  iprop(pos c (.dma (dsem cc0_scratch13 t)) 1 ∗ pos c (.dma (dsem cc0_scratch14 t)) 1 ∗ pos c (.dma (dsem cc0_scratch15 t)) 1
    ∗ pos c (.dma (dsem cc0_scratch16 t)) 1 ∗ pos c (.dma (dsem cc0_scratch17 t)) 1 ∗ pos c (.dma (dsem cc0_scratch18 t)) 1 ∗ pos c (.dma (dsem cc0_scratch19 t)) 1
    ∗ pos c (.dma (dsem cc0_scratch20 t)) 1 ∗ pos c (.dma (dsem cc0_scratch21 t)) 1 ∗ pos c (.dma (dsem cc0_scratch22 t)) 1 ∗ pos c (.dma (dsem cc0_scratch23 t)) 1)

theorem pair_back (c : Dev nD) (M : Memref sig .tc .vmem S8x1024x256 .bf16) (t : Fin 4) (a b : S1x1024x256.Idx → Elt F .bf16) :
    iprop(own c (M.slice (fR t) (fun _ => rfl)) fullShare a ∗ own c (M.slice (sR t) (fun _ => rfl)) fullShare b)
      ⊢ any c (M.slice (pR t) (fun _ => rfl)) := (pair_join c M t fullShare a b).trans (own_any c _ _)

theorem turned_parts (c : Dev nD) (t : Fin 4) : turned m c t
    ⊢ iprop(spent c t ∗ (any c (pkS t) ∗ any c (zsS t) ∗ any c (zrS t) ∗ any c (sbP t) ∗ any c (gxP t) ∗ any c (gyP t) ∗ any c (hxS t) ∗ any c (hyS t))
      ∗ inO m c t ∗ inX m c t ∗ inY m c t ∗ inD m c t) := by
  unfold turned spent doneZ gX gY doneR hXY doneW doneSt inO
  iintro ⟨⟨Hzs, Hzr, P13, P14⟩, ⟨⟨HxF, HxGr⟩, ⟨HyFr, HyG⟩, ⟨Hsb, P15, P16, P17, P18⟩⟩, ⟨⟨Hhx, Hhy⟩, ⟨⟨HyFl, HxGl⟩, P19, P20, P21, P22⟩⟩, ⟨HO, Hpk, P23⟩, HX, HY, HD⟩
  ihave HyF := (whole_of_halves c (gyF t) _) $$ [HyFl HyFr]
  · isplitl [HyFl] <;> iassumption
  ihave HxG := (whole_of_halves c (gxG t) _) $$ [HxGl HxGr]
  · isplitl [HxGl] <;> iassumption
  ihave Hgx := (pair_back c gxM t _ _) $$ [HxF HxG]
  · isplitl [HxF] <;> iassumption
  ihave Hgy := (pair_back c gyM t _ _) $$ [HyF HyG]
  · isplitl [HyF] <;> iassumption
  isplitl [P13 P14 P15 P16 P17 P18 P19 P20 P21 P22 P23]
  · isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [P21]; · iexact P21
    isplitl [P22] <;> iassumption
  isplitl [Hpk Hzs Hzr Hsb Hgx Hgy Hhx Hhy]
  · isplitl [Hpk]; · iapply (own_any c (pkS t) _); iexact Hpk
    isplitl [Hzs]; · iapply (own_any c (zsS t) _); iexact Hzs
    isplitl [Hzr]; · iapply (own_any c (zrS t) _); iexact Hzr
    isplitl [Hsb]; · iapply (own_any c (sbP t) _); iexact Hsb
    isplitl [Hgx]; · iexact Hgx
    isplitl [Hgy]; · iexact Hgy
    isplitl [Hhx]; · iapply (own_any c (hxS t) _); iexact Hhx
    iapply (own_any c (hyS t) _); iexact Hhy
  isplitl [HO]; · iexact HO
  isplitl [HX]; · iexact HX
  isplitl [HY] <;> iassumption

/-- Every semaphore past its last round. -/
def passed (c : Dev nD) : sProp 𝕄 := bigSep Finset.univ fun sm : SemLoc sig => pos c sm (rnds (kindOf sm))
theorem passed_eq (c : Dev nD) : passed (F := F) c
    = iprop((pos c (.reg barS) 1 ∗ pos c (.reg finS) 1) ∗ (pos c (ldq 0) 4 ∗ pos c (ldq 1) 4) ∗ (pos c (scq 0) 6 ∗ pos c (scq 1) 6)
      ∗ bigSep Finset.univ (spent c)) := by
  unfold passed spent
  rw [by_use]
  simp only [kind_bar, kind_fin, kind_ld, kind_sc, kind_zs, kind_zr, kind_axs, kind_axr, kind_ays, kind_ayr, kind_bxs, kind_bxr, kind_bys, kind_byr, kind_st, rnds]

theorem ends_parts (c : Dev nD) : ends m c ⊢ iprop(passed c ∗ args m c ∗ outIn m c ∗ slots c (any c xbM)) := by
  have ht : (bigSep Finset.univ fun t : Fin 4 => turned m c t) ⊢ bigSep Finset.univ fun t : Fin 4 =>
      iprop(spent c t ∗ (any c (pkS t) ∗ any c (zsS t) ∗ any c (zrS t) ∗ any c (sbP t) ∗ any c (gxP t) ∗ any c (gyP t) ∗ any c (hxS t) ∗ any c (hyS t))
        ∗ inO m c t ∗ inX m c t ∗ inY m c t ∗ inD m c t) := bigSep_mono (s := Finset.univ) fun t _ => turned_parts m c t
  have hAC : ∀ X, iprop((pos c (.reg barS) 1 ∗ pos c (.reg finS) 1) ∗ (xArg m c 0 ∗ xArg m c 1) ∗ (dyArg m c 0 ∗ dyArg m c 1) ∗ (ldEnd c 0 ∗ ldEnd c 1)
      ∗ X ∗ (any c (dybS 0) ∗ any c (dybS 1)) ∗ ((any c (cbS 0) ∗ any c (cbS 1)) ∗ pos c (scq 0) 6 ∗ pos c (scq 1) 6)
      ∗ bigSep Finset.univ fun t : Fin 4 =>
        iprop(spent c t ∗ (any c (pkS t) ∗ any c (zsS t) ∗ any c (zrS t) ∗ any c (sbP t) ∗ any c (gxP t) ∗ any c (gyP t) ∗ any c (hxS t) ∗ any c (hyS t))
          ∗ inO m c t ∗ inX m c t ∗ inY m c t ∗ inD m c t)) = iprop(passed c ∗ args m c ∗ outIn m c ∗ slots c X) := fun X => by
    rw [passed_eq]
    unfold args outIn slots ldEnd
    simp only [bigSep_sep']
    ac_rfl
  refine BIBase.Entails.trans (PROP := sProp 𝕄) ?_ (Entails.of_eq (hAC (any c xbM)))
  unfold ends
  iintro ⟨Hp, Hx, Hd, Hl, Hxh, Hdb, Hcb, Ht⟩
  isplitl [Hp]; · iexact Hp
  isplitl [Hx]; · iexact Hx
  isplitl [Hd]; · iexact Hd
  isplitl [Hl]; · iexact Hl
  isplitl [Hxh]; · iapply (xb_join m c); iexact Hxh
  isplitl [Hdb]; · iexact Hdb
  isplitl [Hcb]; · iexact Hcb
  iapply ht; iexact Ht

/-- Every counter taken out, at zero. -/
theorem closes (c : Dev nD) : iprop(recs m Kn ∗ passed c) ⊢ |={Set.univ}=> bigSep Finset.univ fun sm : SemLoc sig => (semVal (cell c sm) 0 : sProp 𝕄) := by
  have h : iprop(recs m Kn ∗ passed c) ⊢ bigSep Finset.univ fun sm : SemLoc sig => iprop(|={Set.univ}=> (semVal (cell c sm) 0 : sProp 𝕄)) := by
    unfold passed
    refine bigSep_with_persistent fun sm _ => ?_
    unfold recs pos
    iintro ⟨⟨HI, -⟩, ⟨Hat, -⟩⟩
    ihave HI := (invs_at m Kn (c, sm)) $$ HI
    imod (Rounds.cell_close ER (Rd m) (Set.mem_univ (Kn (c, sm))) (fun h => h) (R := rnds (kindOf sm)) (duties_none m c sm)) $$ [HI Hat] with Hz
    · isplitl [HI] <;> iassumption
    imodintro
    iexact Hz
  exact h.trans (bigSep_fupd _ _)

end Cert.KernelIdeal.Stages
end
-- ==== Proof.KernelIdeal.Launch.lean ====
/-
  The launch: from any memory, the eight devices' run ends with each result in place.
-/
module

public import Idealize.ShloMosaic.Lib.Pipeline.Launch
public import Idealize.ShloMosaic.Lib.Pipeline.Kit
public import Idealize.ShloMosaic.Lib.Pipeline.CollectiveSegs
public import proofs.«01_k».proof.Proof.KernelIdeal.Body
public import proofs.«01_k».proof.Proof.KernelIdeal.BodyEq
public import proofs.«01_k».proof.Proof.KernelIdeal.Mem

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The launch's memory: the contents, every counter at zero, the generators. -/
def s₀ : MemSt nD τ sig (Elt F) := ⟨m, fun _ => 0, ρ⟩

theorem any_buf (c : Dev nD) (b : Ref sig .tc) :
    iprop(∃ f : Buf (Elt F) ((c : Thread nD τ).loc b), ((c : Thread nD τ).loc b) ↦{fullShare} f) = any (F := F) c (Memref.whole b) := by
  unfold any; simp only [owns_whole]
theorem scratch_eq (c : Dev nD) : (Pipeline.scopedRest cfg0.spec c : sProp 𝕄) = scratch c := by
  rw [scopedRest0_eq]; unfold scratch
  simp only [any_buf]

/-- The device's two arguments and its result as it finds them, -/
def found (c : Dev nD) : sProp 𝕄 := iprop(args m c ∗ any c outM)
/-- and as it leaves them. -/
def left (c : Dev nD) : sProp 𝕄 := iprop(args m c ∗ own c outM fullShare (outBuf m c))

theorem arg_halves (c : Dev nD) {sp : Space} {s : Shape} {e : EltTy} (M : Memref sig .tc sp s e) (X : s.Idx → Elt F e) :
    own c M fullShare X ⊢ iprop(own c M (half 0) X ∗ own c M (half 1) X) := halves c M X
theorem arg_whole (c : Dev nD) {sp : Space} {s : Shape} {e : EltTy} (M : Memref sig .tc sp s e) (X : s.Idx → Elt F e) :
    iprop(own c M (half 0) X ∗ own c M (half 1) X) ⊢ own c M fullShare X := whole_of_halves c M X

theorem found_intro (c : Dev nD) :
    (Pipeline.unscopedRest cfg0.spec c (fun b => m ((c : Thread nD τ).loc b)) : sProp 𝕄) ⊢ found m c := by
  have h : (Pipeline.unscopedRest cfg0.spec c (fun b => m ((c : Thread nD τ).loc b)) : sProp 𝕄)
      = iprop(own c xM fullShare (xin m c) ∗ own c dyM fullShare (dyin m c) ∗ own c outM fullShare (m ((c : Thread nD τ).loc main_v1))) := by
    rw [unscopedRest0_eq]
    unfold own
    rw [owns_whole, owns_whole, owns_whole]
    rfl
  rw [h]
  unfold found args xArg dyArg
  iintro ⟨Hx, Hd, Ho⟩
  ihave Hx := (arg_halves c xM (xin m c)) $$ Hx
  ihave Hd := (arg_halves c dyM (dyin m c)) $$ Hd
  isplitr [Ho]
  · isplitl [Hx] <;> iassumption
  iapply (own_any c outM _); iexact Ho

/-! ## The data of the launch -/

def start (c : Dev nD) : sProp 𝕄 := iprop(G' m c ∗ credits c ∗ levAts L lv ∗ found m c)
def Φ₀ (c : Dev nD) : sProp 𝕄 := iprop(start m c ∗ scratch c)
def Φ₁ (c : Dev nD) : sProp 𝕄 := iprop(left m c ∗ (bigSep Finset.univ fun sm : SemLoc sig => (semVal (cell c sm) 0 : sProp 𝕄)) ∗ scratch c)

def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

theorem starts (c : Dev nD) (Kn : Dev nD × SemLoc sig → ℕ) :
    iprop(known m Kn ∗ levAts L lv ∗ holds c ∗ credits c ∗ found m c ∗ scratch c) ⊢ iprop(recs m Kn ∗ begins m c) := by
  unfold found known
  iintro ⟨⟨HI, Hr⟩, Hlev, Hh, Hc, ⟨Ha, Ho⟩, Hs⟩
  ihave Ho := (out_split c) $$ Ho
  ihave Hs := (scratch_split c) $$ Hs
  isplitl [HI Hr Hlev]
  · unfold recs
    isplitl [HI]; · iexact HI
    isplitl [Hr] <;> iassumption
  iapply (begins_made m c)
  isplitl [Hh]; · iexact Hh
  isplitl [Hc]; · iexact Hc
  isplitl [Ha]; · iexact Ha
  isplitl [Ho] <;> iassumption

theorem finishes (c : Dev nD) (Kn : Dev nD × SemLoc sig → ℕ) : iprop(recs m Kn ∗ ends m c) ⊢ |={Set.univ}=> Φ₁ m c := by
  iintro ⟨#HR, He⟩
  ihave He := (ends_parts m c) $$ He
  icases He with ⟨Hp, Ha, Ho, Hs⟩
  imod (closes m Kn c) $$ [Hp] with Hz
  · isplitr; · iexact HR
    iexact Hp
  imodintro
  unfold Φ₁ left
  isplitl [Ha Ho]
  · isplitl [Ha]; · iexact Ha
    iapply (out_join m c); iexact Ho
  isplitl [Hz]; · iexact Hz
  iapply (scratch_join c); iexact Hs

theorem body_run (c : Dev nD) : iprop(Φ₀ m c ∗ ∃ W, owes (c : Thread nD τ) (O₀ c) W)
    ⊢ Wp c (body (F := F)) fun _ => iprop(Φ₁ m c ∗ ∃ W, owes (c : Thread nD τ) 0 W) := by
  unfold Φ₀ start G'
  iintro ⟨⟨⟨⟨%Kn, #HK, Hh⟩, Hc, #Hlev, Hf⟩, Hs⟩, Ho⟩
  ihave H := (starts m c Kn) $$ [Hh Hc Hf Hs]
  · isplitr; · iexact HK
    isplitr; · iexact Hlev
    isplitl [Hh]; · iexact Hh
    isplitl [Hc]; · iexact Hc
    isplitl [Hf] <;> iassumption
  icases H with ⟨#HR, Hb⟩
  iapply (wp_fupd frame (wpE (defs₀ (F := F)) 𝒱₀ (c : Thread nD τ) none) Set.univ (body (F := F)) (fun _ => iprop(Φ₁ m c ∗ ∃ W, owes (c : Thread nD τ) 0 W)))
  iapply (body_spec m Kn c fun _ => iprop(|={Set.univ}=> (Φ₁ m c ∗ ∃ W, owes (c : Thread nD τ) 0 W))) $$ [Ho Hb]
  · isplitr; · iexact HR
    isplitl [Ho]; · unfold due ow; iexact Ho
    iexact Hb
  iintro ⟨Ho, He⟩
  imod (finishes m c Kn) $$ [He] with H
  · isplitr; · iexact HR
    iexact He
  imodintro
  isplitl [H]; · iexact H
  unfold due ow; iexact Ho

theorem no_windows (Φ : Fin cfg0.W → sProp 𝕄) : bigSep Finset.univ Φ = iprop(emp) := bigSep_empty

/-- What the launch hands the body, and what it takes back. -/
def Pre (c : Dev nD) : sProp 𝕄 := iprop(Φ₀ m c ∗ (dats m 0 c).owesAt () t0_0.castSucc ∗ emp)
def Post (c : Dev nD) : sProp 𝕄 := iprop(Φ₁ m c ∗ (dats m 0 c).owesAt () t0_0.succ ∗ emp)

theorem pre_open (c : Dev nD) : Pre m c ⊢ iprop(Φ₀ m c ∗ ∃ W, owes (c : Thread nD τ) (O₀ c) W) := by
  unfold Pre Dat.owesAt Pipeline.owesWithin
  iintro ⟨HΦ, ⟨%W, -, Ho⟩, -⟩
  isplitl [HΦ]; · iexact HΦ
  iexists W; iexact Ho

theorem post_close (c : Dev nD) : iprop(Φ₁ m c ∗ ∃ W, owes (c : Thread nD τ) 0 W) ⊢ Post m c := by
  unfold Post Dat.owesAt Pipeline.owesWithin
  iintro ⟨H, %W, Ho⟩
  isplitl [H]; · iexact H
  isplitl
  · iexists W
    isplitr; · (ipureintro; exact fun _ _ => Or.inl trivial)
    iexact Ho
  · iempintro

attribute [local irreducible] cc0_body body

theorem body_wp (c : Dev nD) : Pre m c ⊢ Wp c (body (F := F)) fun _ => Post m c :=
  ((pre_open m c).trans (body_run m c)).trans
    (wp_mono frame (wpE (defs₀ (F := F)) 𝒱₀ (c : Thread nD τ) none) Set.univ (p := body (F := F)) fun _ => post_close m c)

theorem body_call : defs₀ (F := F) .tc cfg0.body (cfg0.bodyArgs t0_0 (cfg0.slots t0_0)) = bodyAt0 (F := F) t0_0 := rfl

set_option maxRecDepth 8000 in
theorem body_obligation (c : Dev nD) : BodyObligation (dats (F := F) m 0 c) (defs₀ (F := F)) 𝒱₀ () Set.univ := fun t => by
  rw [fin_N0 t, no_windows, no_windows]
  rw [body_call, body_eq]
  exact body_wp m c

theorem ownSemFacts : Pipeline.OwnSemFacts cfg0.spec osem := by decide
theorem share_eq (c : Dev nD) (w : Fin cfg0.W) : (dats m 0 c).share w = fullShare := Fin.elim0 w
theorem waits (c : Dev nD) : (levAts L lv : sProp 𝕄) ⊢ Pipeline.cellsWaits cfgs (dats m) () 0 c :=
  Pipeline.cellsWaits_intro cfgs (dats m) () 0 c fun w _ _ => Fin.elim0 w

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hm, Hlev, Hcr, -, HG⟩
  ihave Hc := (creds (F := F) c) $$ Hcr
  ihave Hm := (found_intro m c) $$ Hm
  imodintro
  unfold start credits
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- What a device brings out of the kernel. -/
def brings (c : Dev nD) : sProp 𝕄 := iprop(left m c ∗ unscopedSems0 c)

theorem phi1_exit (c : Dev nD) :
    (dats m 0 c).Φ (Fin.last cfg0.N) ⊢ iprop(brings m c ∗ Pipeline.ownSems0 osem c ∗ Pipeline.scopedRest cfg0.spec c) := by
  rw [show (dats m 0 c).Φ (Fin.last cfg0.N) = Φ₁ m c from rfl, scratch_eq]
  unfold Φ₁ brings
  iintro ⟨Hl, Hz, Hs⟩
  ihave Hz := (Entails.of_eq (sems0_eq (F := F) c).symm) $$ Hz
  icases Hz with ⟨Hos, Hus⟩
  isplitl [Hl Hus]; · isplitl [Hl] <;> iassumption
  isplitl [Hos] <;> iassumption

/-- What the final memory of device `c` is. -/
def Ends (c : Dev nD) (s : MemSt nD τ sig (Elt F)) : Prop :=
  (s.mem ((c : Thread nD τ).loc main_v1) = outBuf m c ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem brings_read (c : Dev nD) (s' : Phys nD τ sig (Elt F)) :
    iprop(brings m c ∗ emp ∗ SI s') ⊢ |={Set.univ}=> iprop(⌜Ends m c s'.mem⌝ ∗ (SI s' : sProp 𝕄)) := by
  unfold brings left args xArg dyArg
  iintro ⟨⟨⟨⟨Hx, Hd⟩, Ho⟩, Hu⟩, -, HSI⟩
  ihave Hx := (arg_whole c xM (xin m c)) $$ Hx
  ihave Hd := (arg_whole c dyM (dyin m c)) $$ Hd
  ihave Hx := (Entails.of_eq (owns_whole (c : Thread nD τ) main_arg0 fullShare (xin m c))) $$ Hx
  ihave Hd := (Entails.of_eq (owns_whole (c : Thread nD τ) main_arg1 fullShare (dyin m c))) $$ Hd
  ihave Ho := (Entails.of_eq (owns_whole (c : Thread nD τ) main_v1 fullShare (outBuf m c))) $$ Ho
  icombine HSI Hx gives %hx
  icombine HSI Hd gives %hd
  icombine HSI Ho gives %ho
  imod (Pipeline.unscopedSems0_read (X := unscopedSems0 c) (c := c) fupd_intro s') $$ [Hu HSI] with ⟨%hz, HSI⟩
  · isplitl [Hu] <;> iassumption
  imodintro
  isplitr; · ipureintro; exact ⟨⟨Buf.eq_of_forall_mem_univ ho, Buf.eq_of_forall_mem_univ hx, Buf.eq_of_forall_mem_univ hd⟩, hz⟩
  iexact HSI

set_option maxRecDepth 8000 in
/-- From any memory with every counter at zero, for any float values, the eight devices' run ends, each device's result at `outBuf`,
    its arguments unchanged, every counter at zero. -/
theorem run : θ_run defs (onTc (τ := τ) (main (F := F))) (s₀ m ρ) (fun r => (∀ c : Dev nD,
    r.2.mem ((c : Thread nD τ).loc main_v1) = outBuf m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := brings m) (Z := fun _ => iprop(emp))
    (hX := start_intro m ρ) (hin := phi0_intro m) (hout := phi1_exit m)
    (QY := Ends m) (hY := brings_read m)
    (hQ := fun s h hs => ⟨fun c => (h c).2.2.1, sem_eq_zero hs fun c => (h c).2.2.2⟩)

end Cert.KernelIdeal.Stages
end
-- ==== Proof.KernelIdeal.Pays.lean ====
/-
  What the kernel computes at an index, over the reals.
-/
module

public import Idealize.ShloMosaic.Lib.Pointwise
public import proofs.«01_k».proof.Proof.KernelIdeal.Proto

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt Ideal) ℓ)

/-! ## The payloads at an index, over the reals -/

theorem payX_apply (v : Vec Ideal S1x2048x512 .f32) (k : Fin 2048) (j : Fin 512) : payX v (ix2 k j) = v (ix3 0 k j) := by
  pointwise [k0_pay1]
theorem payDy_apply (v : Vec Ideal S1x2048x512 .f32) (k : Fin 2048) (j : Fin 512) : payDy v (ix3 0 k j) = v (ix3 0 k j) := by
  pointwise [k0_pay6]
theorem payZs_apply (x : Vec Ideal S2048x1024 .bf16) (d : Vec Ideal S1x2048x512 .bf16) (r : Fin 1024) (j : Fin 512) :
    payZs x d (ix3 0 r j) = (∑ k : Fin 2048, x (ix2 k r) * d (ix3 0 k j) : EReal) := by
  pointwise [k0_pay11]
theorem payPk_apply (x : Vec Ideal S2048x1024 .bf16) (d : Vec Ideal S1x2048x512 .bf16) (r : Fin 1024) (j : Fin 512) :
    payPk x d (ix3 0 r j) = (∑ k : Fin 2048, x (ix2 k r) * d (ix3 0 k j) : EReal) := by
  pointwise [k0_pay9]
theorem paySum_apply (p : Vec Ideal S1x1024x512 .f32) (z : Vec Ideal S1x1024x512 .bf16) (r : Fin 1024) (j : Fin 512) :
    paySum p z (ix3 0 r j) = (p (ix3 0 r j) + z (ix3 0 r j) : EReal) := by
  pointwise [k0_pay22, k0_pay21]
theorem payCb_apply (p : Vec Ideal S1x1024x512 .f32) (z : Vec Ideal S1x1024x512 .bf16) (r : Fin 1024) (j : Fin 512) :
    payCb (payFst p z) (paySnd p z) (ix3 0 r j) = paySum p z (ix3 0 r j) := by
  pointwise [k0_pay38, k0_pay23, k0_pay24, k0_pay22, k0_pay21]
  split
  · rfl
  · rename_i h
    have e : 256 + (j.val - 256) = j.val := by omega
    simp only [e]
theorem drop1_apply (v : S1x1024x512.Idx → Elt Ideal .f32) (r : Fin 1024) (j : Fin 512) : drop1 v (ix2 r j) = v (ix3 0 r j) := by
  pointwise [drop1]
theorem lift1_apply (v : S2048x512.Idx → Elt Ideal .f32) (k : Fin 2048) (j : Fin 512) : lift1 v (ix3 0 k j) = v (ix2 k j) := by
  pointwise [lift1]

end Cert.KernelIdeal.Stages
end
-- ==== Proof.KernelIdeal.Values.lean ====
/-
  What each device's result is, over the reals: its rows of the product of the whole arguments.
-/
module

public import Idealize.ShloMosaic.Lib.Pointwise
public import proofs.«01_k».proof.Proof.KernelIdeal.Pays
public import proofs.«01_k».proof.Proof.KernelIdeal.Mem

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt Ideal) ℓ)

/-! ## Where a block's elements are in the arguments and in the result -/

theorem xblk_apply (c : Dev nD) (off : Fin 2 → ℕ) (h) (o : ℕ) (ho : off = ![0, o]) (k : Fin 2048) (j : Fin 512) (i : Fin 2048) (hi : i.val = o + j.val) :
    xblk m c off h (ix2 k j) = xin m c (ix2 k i) := by
  subst ho
  unfold xblk
  refine congrArg (xin m c) (funext fun x => Fin.ext ?_)
  rw [ValueKit.rect_emb_unit_val]
  match x with
  | ⟨0, _⟩ => exact Nat.zero_add _
  | ⟨1, _⟩ => exact hi.symm
theorem dyblk_apply (c : Dev nD) (t : Fin 4) (k : Fin 2048) (j : Fin 512) (i : Fin 8192) (hi : i.val = 2048 * (c.val / 2) + 512 * t.val + j.val) :
    dyblk m c t (ix2 k j) = dyin m c (ix2 k i) := by
  have ho : ∀ d : Dev nD, 4096 * (d.val / 4) + 2048 * ((d.val / 2) % 2) = 2048 * (d.val / 2) := by decide
  unfold dyblk
  refine congrArg (dyin m c) (funext fun x => Fin.ext ?_)
  rw [ValueKit.rect_emb_unit_val]
  have e := congrFun (k0_off8_eq c t) x
  match x with
  | ⟨0, _⟩ => exact (congrArg (· + k.val) e).trans (Nat.zero_add _)
  | ⟨1, _⟩ =>
    refine (congrArg (· + j.val) e).trans ?_
    show 4096 * (c.val / 4) + 2048 * ((c.val / 2) % 2) + 512 * t.val + j.val = i.val
    rw [ho c, hi]
theorem xcast_apply (c : Dev nD) (off : Fin 2 → ℕ) (h) (o : ℕ) (ho : off = ![0, o]) (k : Fin 2048) (j : Fin 512) (i : Fin 2048) (hi : i.val = o + j.val) :
    xcast m c off h (ix2 k j) = xin m c (ix2 k i) := by
  unfold xcast
  rw [payX_apply, lift1_apply, xblk_apply m c off h o ho k j i hi]
theorem dyb_apply (c : Dev nD) (t : Fin 4) (k : Fin 2048) (j : Fin 512) (i : Fin 8192) (hi : i.val = 2048 * (c.val / 2) + 512 * t.val + j.val) :
    dyb m c t (ix3 0 k j) = dyin m c (ix2 k i) := by
  unfold dyb
  rw [payDy_apply, lift1_apply, dyblk_apply m c t k j i hi]

theorem beside_apply (a b : S2048x512.Idx → Elt Ideal .bf16) (v : S2048x2048.Idx → EReal) (o : ℕ) (k : Fin 2048)
    (ha : ∀ (j : Fin 512) (i : Fin 2048), i.val = o + j.val → a (ix2 k j) = v (ix2 k i))
    (hb : ∀ (j : Fin 512) (i : Fin 2048), i.val = o + 512 + j.val → b (ix2 k j) = v (ix2 k i))
    (r : Fin 1024) (i : Fin 2048) (hi : i.val = o + r.val) : beside a b (ix2 k r) = v (ix2 k i) := by
  unfold beside
  split
  · rename_i h
    have h' : r.val < 512 := h
    refine Eq.trans (congrArg a ?_) (ha ⟨r.val, h'⟩ i hi)
    funext x
    match x with
    | ⟨0, _⟩ => rfl
    | ⟨1, _⟩ => rfl
  · rename_i h
    have h' : ¬ r.val < 512 := h
    have h1 : r.val < 1024 := r.isLt
    refine Eq.trans (congrArg b ?_) (hb ⟨r.val - 512, by omega⟩ i (by show i.val = o + 512 + (r.val - 512); omega))
    funext x
    match x with
    | ⟨0, _⟩ => rfl
    | ⟨1, _⟩ => rfl

theorem xh0_apply (c : Dev nD) (k : Fin 2048) (r : Fin 1024) (i : Fin 2048) (hi : i.val = 1024 - 1024 * (c.val % 2) + r.val) :
    xh0 m c (ix2 k r) = xin m c (ix2 k i) := by
  unfold xh0
  have hc : c.val % 2 < 2 := Nat.mod_lt _ (by decide)
  exact beside_apply _ _ (xin m c) (1024 - 1024 * (c.val % 2)) k
    (fun j i h => xcast_apply m c _ _ _ (k0_off1_eq c) k j i h)
    (fun j i h => xcast_apply m c _ _ _ (k0_off2_eq c) k j i (by omega)) r i hi
theorem xh1_apply (c : Dev nD) (k : Fin 2048) (r : Fin 1024) (i : Fin 2048) (hi : i.val = 1024 * (c.val % 2) + r.val) :
    xh1 m c (ix2 k r) = xin m c (ix2 k i) := by
  unfold xh1
  exact beside_apply _ _ (xin m c) (1024 * (c.val % 2)) k
    (fun j i h => xcast_apply m c _ _ _ (k0_off4_eq c) k j i h)
    (fun j i h => xcast_apply m c _ _ _ (k0_off6_eq c) k j i h) r i hi

/-! ## The product, cut at the middle of the summed axis -/

section Whole
variable (X : (⟨2, ![4096, 2048]⟩ : Shape).Idx → EReal) (D : (⟨2, ![4096, 8192]⟩ : Shape).Idx → EReal)

def row (z : Fin 2) (k : Fin 2048) : Fin 4096 := ⟨2048 * z.val + k.val, by have := z.isLt; have := k.isLt; omega⟩
/-- The part of the product that half `z` of the rows gives. -/
def part (z : Fin 2) (a : Fin 2048) (b : Fin 8192) : EReal := ∑ k : Fin 2048, X (ix2 (row z k) a) * D (ix2 (row z k) b)

/-- The z coordinate of a device, and the row of the result that row `r` of its block is. -/
def mz (c : Dev nD) : Fin 2 := ⟨c.val % 2, Nat.mod_lt _ (by decide)⟩
def rowOf (c : Dev nD) (r : Fin 1024) : Fin 2048 := ⟨1024 * (c.val % 2) + r.val, by have := Nat.mod_lt c.val (show 0 < 2 by decide); have := r.isLt; omega⟩
def colOf (c : Dev nD) (t : Fin 4) (j : Fin 512) : Fin 8192 :=
  ⟨2048 * (c.val / 2) + 512 * t.val + j.val, by have : c.val < 8 := c.isLt; have := t.isLt; have := j.isLt; omega⟩

theorem parts_two (c : Dev nD) (a : Fin 2048) (b : Fin 8192) :
    part X D (mz c) a b + part X D (mz (zp c)) a b = part X D 0 a b + part X D 1 a b := by
  have h : ∀ d : Dev nD, (mz d = 0 ∧ mz (zp d) = 1) ∨ (mz d = 1 ∧ mz (zp d) = 0) := by decide
  rcases h c with ⟨h0, h1⟩ | ⟨h0, h1⟩
  · rw [h0, h1]
  · rw [h0, h1, add_comm]

variable (hx : ∀ (c : Dev nD) (k : Fin 2048) (i : Fin 2048), xin m c (ix2 k i) = X (ix2 (row (mz c) k) i))
  (hd : ∀ (c : Dev nD) (k : Fin 2048) (i : Fin 8192), dyin m c (ix2 k i) = D (ix2 (row (mz c) k) i))
include hx hd

theorem zsW_apply (c : Dev nD) (t : Fin 4) (r : Fin 1024) (j : Fin 512) (a : Fin 2048) (ha : a.val = 1024 - 1024 * (c.val % 2) + r.val)
    (b : Fin 8192) (hb : b.val = 2048 * (c.val / 2) + 512 * t.val + j.val) : zsW m c t (ix3 0 r j) = part X D (mz c) a b := by
  unfold zsW part
  rw [payZs_apply]
  refine Finset.sum_congr rfl fun k _ => ?_
  rw [xh0_apply m c k r a ha, dyb_apply m c t k j b hb, hx, hd]
theorem pkW_apply (c : Dev nD) (t : Fin 4) (r : Fin 1024) (j : Fin 512) (a : Fin 2048) (ha : a.val = 1024 * (c.val % 2) + r.val)
    (b : Fin 8192) (hb : b.val = 2048 * (c.val / 2) + 512 * t.val + j.val) : pkW m c t (ix3 0 r j) = part X D (mz c) a b := by
  unfold pkW part
  rw [payPk_apply]
  refine Finset.sum_congr rfl fun k _ => ?_
  rw [xh1_apply m c k r a ha, dyb_apply m c t k j b hb, hx, hd]

/-- A device's sum is its own group's columns of its half of the product's rows. -/
theorem sumW_apply (c : Dev nD) (t : Fin 4) (r : Fin 1024) (j : Fin 512) :
    sumW m c t (ix3 0 r j) = part X D 0 (rowOf c r) (colOf c t j) + part X D 1 (rowOf c r) (colOf c t j) := by
  have hz : ∀ d : Dev nD, 1024 * (d.val % 2) = 1024 - 1024 * ((zp d).val % 2) ∧ (zp d).val / 2 = d.val / 2 := by decide
  unfold sumW
  rw [paySum_apply, pkW_apply m X D hx hd c t r j (rowOf c r) rfl (colOf c t j) rfl,
    zsW_apply m X D hx hd (zp c) t r j (rowOf c r) (by rw [← (hz c).1]; rfl) (colOf c t j) (by rw [(hz c).2]; rfl)]
  exact parts_two X D c _ _
theorem outW_apply (e : Dev nD) (t : Fin 4) (r : Fin 1024) (j : Fin 512) :
    payCb (fstW m e t) (sndW m e t) (ix3 0 r j) = part X D 0 (rowOf e r) (colOf e t j) + part X D 1 (rowOf e r) (colOf e t j) :=
  (payCb_apply _ _ r j).trans (sumW_apply m X D hx hd e t r j)

omit hx hd in
theorem out_emb (off : Fin 2 → ℕ) (h) (o : ℕ) (ho : off = ![0, o]) (r : Fin 1024) (j : Fin 512) (b : Fin 8192) (hb : b.val = o + j.val) :
    (outR off h).emb (ix2 r j) = ix2 r b := by
  subst ho
  refine funext fun x => Fin.ext ?_
  rw [ValueKit.rect_emb_unit_val]
  match x with
  | ⟨0, _⟩ => exact Nat.zero_add _
  | ⟨1, _⟩ => exact hb.symm

omit hx hd in
theorem same_z : ∀ c : Dev nD, (xp c).val % 2 = c.val % 2 ∧ (yp c).val % 2 = c.val % 2 ∧ (xp (yp c)).val % 2 = c.val % 2 := by decide
omit hx hd in
theorem grp_diag : ∀ c : Dev nD, grp c 3 = (xp (yp c)).val / 2 := by decide

omit hx hd in
/-- Row `r`, column `b` of the result out of the device `e` whose sum it is. -/
theorem place (c e : Dev nD) (t : Fin 4) (r : Fin 1024) (j : Fin 512) (b : Fin 8192) (hz : e.val % 2 = c.val % 2)
    (hb : b.val = 2048 * (e.val / 2) + 512 * t.val + j.val) (v : EReal)
    (hv : v = part X D 0 (rowOf e r) (colOf e t j) + part X D 1 (rowOf e r) (colOf e t j)) :
    v = part X D 0 (rowOf c r) b + part X D 1 (rowOf c r) b := by
  have h1 : rowOf e r = rowOf c r := Fin.ext (by show 1024 * (e.val % 2) + r.val = 1024 * (c.val % 2) + r.val; rw [hz])
  have h2 : colOf e t j = b := Fin.ext hb.symm
  rw [hv, h1, h2]

theorem outBuf_at (c : Dev nD) (ρ t : Fin 4) (r : Fin 1024) (j : Fin 512) (b : Fin 8192) (hb : b.val = 2048 * grp c ρ + 512 * t.val + j.val) :
    outBuf m c (ix2 r b) = part X D 0 (rowOf c r) b + part X D 1 (rowOf c r) b := by
  match ρ with
  | 0 =>
    rw [← out_emb _ (k0_off12_inb c t) _ (off12_col c t) r j b hb]
    refine (outBuf_emb m c (0, t) (ix2 r j)).trans ?_
    exact place X D c c t r j b rfl hb _ ((drop1_apply _ r j).trans (sumW_apply m X D hx hd c t r j))
  | 1 =>
    rw [← out_emb _ (k0_off13_inb c t) _ (off13_col c t) r j b hb]
    refine (outBuf_emb m c (1, t) (ix2 r j)).trans ?_
    exact place X D c (xp c) t r j b (same_z c).1 hb _ ((drop1_apply _ r j).trans (outW_apply m X D hx hd (xp c) t r j))
  | 2 =>
    rw [← out_emb _ (k0_off14_inb c t) _ (off14_col c t) r j b hb]
    refine (outBuf_emb m c (2, t) (ix2 r j)).trans ?_
    exact place X D c (yp c) t r j b (same_z c).2.1 hb _ ((drop1_apply _ r j).trans (outW_apply m X D hx hd (yp c) t r j))
  | 3 =>
    rw [← out_emb _ (k0_off15_inb c t) _ (off15_col c t) r j b hb]
    refine (outBuf_emb m c (3, t) (ix2 r j)).trans ?_
    exact place X D c (xp (yp c)) t r j b (same_z c).2.2 ((grp_diag c) ▸ hb) _ ((drop1_apply _ r j).trans (outW_apply m X D hx hd (xp (yp c)) t r j))

/-- What a device ends with: its half of the product's rows, every column. -/
theorem outBuf_apply (c : Dev nD) (r : Fin 1024) (b : Fin 8192) :
    outBuf m c (ix2 r b) = part X D 0 (rowOf c r) b + part X D 1 (rowOf c r) b := by
  have hb : b.val < 8192 := b.isLt
  obtain ⟨ρ, hρ⟩ := grp_surj c ⟨b.val / 2048, by omega⟩
  exact outBuf_at m X D hx hd c ρ ⟨b.val % 2048 / 512, by omega⟩ r ⟨b.val % 512, by omega⟩ b (by rw [hρ]; dsimp only; omega)
end Whole

end Cert.KernelIdeal.Stages
end
-- ==== Proof.KernelIdeal.Whole.lean ====
/-
  Each device's result is its block of the reference's product.
-/
module

public import Idealize.ShloMosaic.Lib.Pointwise
public import Idealize.ShloMosaic.Lib.Layout
public import proofs.«01_k».proof.Proof.Gen.ReferenceIdeal.Run
public import proofs.«01_k».proof.Proof.KernelIdeal.Values

@[expose] public section

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt Ideal) ℓ)

/-- The mesh's block along z is the one `c % 2` names. -/
theorem lin_z : ∀ c : Dev nD, Layout.meshLin [2, 2, 2] c.val [2] = c.val % 2 := by decide

section Whole
variable (X : (⟨2, ![4096, 2048]⟩ : Shape).Idx → EReal) (D : (⟨2, ![4096, 8192]⟩ : Shape).Idx → EReal)

/-- The transposed product the reference computes. -/
def prod : (⟨2, ![2048, 8192]⟩ : Shape).Idx → EReal :=
  Host.dotGeneral (F := Ideal) (φ₁ := .f32) (φ₂ := .f32) Cert.ReferenceIdeal.dot_S2048x4096_S4096x8192_S2048x8192_1_0_0_1_n_n none
    (transpose Cert.ReferenceIdeal.S2048x4096 [1, 0] X Cert.ReferenceIdeal.Gen.transposes_S4096x2048_S2048x4096_1_0) D

theorem prod_apply (a : Fin 2048) (b : Fin 8192) : prod X D (ix2 a b) = (∑ k : Fin 4096, X (ix2 k a) * D (ix2 k b) : EReal) := by
  pointwise [prod]

theorem prod_parts (a : Fin 2048) (b : Fin 8192) : prod X D (ix2 a b) = part X D 0 a b + part X D 1 a b := by
  rw [prod_apply, Fin.sum_univ_two_halves 2048 2048 rfl]
  unfold part
  refine congrArg₂ (· + ·) (Finset.sum_congr rfl fun k _ => ?_) (Finset.sum_congr rfl fun k _ => ?_)
  · have e : row 0 k = ⟨k.val, by have := k.isLt; omega⟩ := Fin.ext (Nat.zero_add _)
    rw [e]
  · rfl

/-- A device's result is its block of the reference's. -/
theorem outBuf_block
    (hx : ∀ c : Dev nD, xin m c = Layout.blockN ⟨2, ![2048, 2048]⟩ ⟨2, ![4096, 2048]⟩ (Layout.meshBlock [2, 2, 2] ![[2], []] c) X)
    (hd : ∀ c : Dev nD, dyin m c = Layout.blockN ⟨2, ![2048, 8192]⟩ ⟨2, ![4096, 8192]⟩ (Layout.meshBlock [2, 2, 2] ![[2], []] c) D) (c : Dev nD) :
    outBuf m c = Layout.blockN ⟨2, ![1024, 8192]⟩ ⟨2, ![2048, 8192]⟩ (Layout.meshBlock [2, 2, 2] ![[2], []] c) (prod X D) := by
  have hx' : ∀ (c : Dev nD) (k : Fin 2048) (i : Fin 2048), xin m c (ix2 k i) = X (ix2 (row (mz c) k) i) := by
    intro c k i
    rw [hx c, Layout.blockN_apply]
    refine congrArg X (funext fun x => Fin.ext ?_)
    rw [Layout.TilesN.idx_val]
    match x with
    | ⟨0, _⟩ =>
      show Layout.meshLin [2, 2, 2] c.val [2] * 2048 + k.val = 2048 * (c.val % 2) + k.val
      rw [lin_z, Nat.mul_comm]
    | ⟨1, _⟩ => show 0 * 2048 + i.val = i.val; omega
  have hd' : ∀ (c : Dev nD) (k : Fin 2048) (i : Fin 8192), dyin m c (ix2 k i) = D (ix2 (row (mz c) k) i) := by
    intro c k i
    rw [hd c, Layout.blockN_apply]
    refine congrArg D (funext fun x => Fin.ext ?_)
    rw [Layout.TilesN.idx_val]
    match x with
    | ⟨0, _⟩ =>
      show Layout.meshLin [2, 2, 2] c.val [2] * 2048 + k.val = 2048 * (c.val % 2) + k.val
      rw [lin_z, Nat.mul_comm]
    | ⟨1, _⟩ => show 0 * 8192 + i.val = i.val; omega
  funext j
  obtain ⟨r, b, rfl⟩ : ∃ (r : Fin 1024) (b : Fin 8192), j = ix2 r b := ⟨j 0, j 1, eq_ix2 j⟩
  rw [outBuf_apply m X D hx' hd' c r b, ← prod_parts X D, Layout.blockN_apply]
  refine congrArg (prod X D) (funext fun x => Fin.ext ?_)
  rw [Layout.TilesN.idx_val]
  match x with
  | ⟨0, _⟩ =>
    show 1024 * (c.val % 2) + r.val = Layout.meshLin [2, 2, 2] c.val [2] * 1024 + r.val
    rw [lin_z, Nat.mul_comm]
  | ⟨1, _⟩ => show b.val = 0 * 8192 + b.val; omega
end Whole

end Cert.KernelIdeal.Stages
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Whole
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs on every device, leaves its arguments as they were and every counter at zero. -/
theorem frame_kernel : Cert.quiescent_Kernel :=
  fun m g _ => (θ_run Cert.Kernel.defs _ _).mono (fun _ h => ⟨fun c => (h.1 c).2, h.2⟩)
    (Cert.Kernel.Stages.run (F := Bits) m g)

/-- So it does over the reals. -/
theorem frame_kernelIdeal : Cert.quiescent_KernelIdeal :=
  fun m g _ => (θ_run Cert.KernelIdeal.defs _ _).mono (fun _ h => ⟨fun c => (h.1 c).2, h.2⟩)
    (Cert.KernelIdeal.Stages.run (F := Ideal) m g)

/-- And so does the reference, which has no semaphores. -/
theorem frame_reference : Cert.quiescent_ReferenceIdeal :=
  fun m g _ => (θ_run Cert.ReferenceIdeal.defs _ _).mono
    (fun r h => ⟨fun c => (h c).2, sem_eq_zero_of_no_sems (by decide) r.2⟩)
    (Cert.ReferenceIdeal.Value.run (F := Ideal) m g)

/-- Over the reals each device ends with its block of the rows of the reference's product. -/
theorem algebraic : Cert.algebraic_KernelIdeal_ReferenceIdeal := by
  intro m g m' g' _ hargs
  refine ⟨Cert.KernelIdeal.Stages.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.KernelIdeal.Stages.outBuf_block m _ _ (fun d => (hargs d).1) (fun d => (hargs d).2) c), (h.1 c).2⟩)
      (Cert.KernelIdeal.Stages.run (F := Ideal) m g)
  · exact (θ_run Cert.ReferenceIdeal.defs _ _).mono (fun _ h => h 0)
      (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
